-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjRefIdeal (m : (ℓ : Loc Cert.SProjRefIdeal.nD Cert.SProjRefIdeal.τ Cert.SProjRefIdeal.sig) → Buf (Elt Ideal) ℓ) : Prop :=
  True

def Pre_SRope (m : (ℓ : Loc Cert.SRope.nD Cert.SRope.τ Cert.SRope.sig) → Buf (Elt Bits) ℓ) : Prop :=
  True

def Pre_SRopeIdeal (m : (ℓ : Loc Cert.SRopeIdeal.nD Cert.SRopeIdeal.τ Cert.SRopeIdeal.sig) → Buf (Elt Ideal) ℓ) : Prop :=
  True

def Pre_SRopeRefIdeal (m : (ℓ : Loc Cert.SRopeRefIdeal.nD Cert.SRopeRefIdeal.τ Cert.SRopeRefIdeal.sig) → Buf (Elt Ideal) ℓ) : Prop :=
  True

def Pre_SMix (m : (ℓ : Loc Cert.SMix.nD Cert.SMix.τ Cert.SMix.sig) → Buf (Elt Bits) ℓ) : Prop :=
  True

def Pre_SMixIdeal (m : (ℓ : Loc Cert.SMixIdeal.nD Cert.SMixIdeal.τ Cert.SMixIdeal.sig) → Buf (Elt Ideal) ℓ) : Prop :=
  True

def Pre_SMixRefIdeal (m : (ℓ : Loc Cert.SMixRefIdeal.nD Cert.SMixRefIdeal.τ Cert.SMixRefIdeal.sig) → Buf (Elt Ideal) ℓ) : Prop :=
  True

def Pre_SUp (m : (ℓ : Loc Cert.SUp.nD Cert.SUp.τ Cert.SUp.sig) → Buf (Elt Bits) ℓ) : Prop :=
  True

def Pre_SUpIdeal (m : (ℓ : Loc Cert.SUpIdeal.nD Cert.SUpIdeal.τ Cert.SUpIdeal.sig) → Buf (Elt Ideal) ℓ) : Prop :=
  True

def Pre_SUpRefIdeal (m : (ℓ : Loc Cert.SUpRefIdeal.nD Cert.SUpRefIdeal.τ Cert.SUpRefIdeal.sig) → Buf (Elt Ideal) ℓ) : Prop :=
  True

def Pre_SDown (m : (ℓ : Loc Cert.SDown.nD Cert.SDown.τ Cert.SDown.sig) → Buf (Elt Bits) ℓ) : Prop :=
  True

def Pre_SDownIdeal (m : (ℓ : Loc Cert.SDownIdeal.nD Cert.SDownIdeal.τ Cert.SDownIdeal.sig) → Buf (Elt Ideal) ℓ) : Prop :=
  True

def Pre_SDownRefIdeal (m : (ℓ : Loc Cert.SDownRefIdeal.nD Cert.SDownRefIdeal.τ Cert.SDownRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_PMix (m : (ℓ : Loc Cert.PMix.nD Cert.PMix.τ Cert.PMix.sig) → Buf (Elt Bits) ℓ) : Prop :=
  True

def Pre_PMixIdeal (m : (ℓ : Loc Cert.PMixIdeal.nD Cert.PMixIdeal.τ Cert.PMixIdeal.sig) → Buf (Elt Ideal) ℓ) : Prop :=
  True

def Pre_PMixRefIdeal (m : (ℓ : Loc Cert.PMixRefIdeal.nD Cert.PMixRefIdeal.τ Cert.PMixRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_lb_range [hPre_lb_range : Cert.Pre_lb_range.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_lb_range.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg6)) (m ((c.tc : Thread Cert.HgrnIdeal.nD Cert.HgrnIdeal.τ).loc Cert.HgrnIdeal.main_arg7))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_lb_range [hPre_lb_range : Cert.Pre_lb_range.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_lb_range.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3)) (m ((c.tc : Thread Cert.HgrnRefIdeal.nD Cert.HgrnRefIdeal.τ).loc Cert.HgrnRefIdeal.main_arg4)) (m ((c.tc : Thread Cert.HgrnRefIdeal.nD Cert.HgrnRefIdeal.τ).loc Cert.HgrnRefIdeal.main_arg5)) (m ((c.tc : Thread Cert.HgrnRefIdeal.nD Cert.HgrnRefIdeal.τ).loc Cert.HgrnRefIdeal.main_arg6)) (m ((c.tc : Thread Cert.HgrnRefIdeal.nD Cert.HgrnRefIdeal.τ).loc Cert.HgrnRefIdeal.main_arg7))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3)
      ∧ r.2.mem ((c.tc : Thread Cert.FfnDownRefIdeal.nD Cert.FfnDownRefIdeal.τ).loc Cert.FfnDownRefIdeal.main_arg4) = m ((c.tc : Thread Cert.FfnDownRefIdeal.nD Cert.FfnDownRefIdeal.τ).loc Cert.FfnDownRefIdeal.main_arg4))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2))
      ∧ r.2.sem = fun _ => 0)

def quiescent_SRope [hSRope : Cert.SRope.Facts] : Prop :=
  ∀ (m : (ℓ : Loc Cert.SRope.nD Cert.SRope.τ Cert.SRope.sig) → Buf (Elt Bits) ℓ) (g : Dev Cert.SRope.nD → PrngReg), Pre_SRope m →
    θ_run (Cert.SRope.defs (F := Bits)) (onTc (τ := Cert.SRope.τ) (Cert.SRope.main (F := Bits))) ⟨m, fun _ => 0, g⟩ (fun r => (∀ c : Dev Cert.SRope.nD,
      r.2.mem ((c.tc : Thread Cert.SRope.nD Cert.SRope.τ).loc Cert.SRope.main_arg0) = m ((c.tc : Thread Cert.SRope.nD Cert.SRope.τ).loc Cert.SRope.main_arg0))
      ∧ r.2.sem = fun _ => 0)

def quiescent_SRopeIdeal [hSRopeIdeal : Cert.SRopeIdeal.Facts] : Prop :=
  ∀ (m : (ℓ : Loc Cert.SRopeIdeal.nD Cert.SRopeIdeal.τ Cert.SRopeIdeal.sig) → Buf (Elt Ideal) ℓ) (g : Dev Cert.SRopeIdeal.nD → PrngReg), Pre_SRopeIdeal m →
    θ_run (Cert.SRopeIdeal.defs (F := Ideal)) (onTc (τ := Cert.SRopeIdeal.τ) (Cert.SRopeIdeal.main (F := Ideal))) ⟨m, fun _ => 0, g⟩ (fun r => (∀ c : Dev Cert.SRopeIdeal.nD,
      r.2.mem ((c.tc : Thread Cert.SRopeIdeal.nD Cert.SRopeIdeal.τ).loc Cert.SRopeIdeal.main_arg0) = m ((c.tc : Thread Cert.SRopeIdeal.nD Cert.SRopeIdeal.τ).loc Cert.SRopeIdeal.main_arg0))
      ∧ r.2.sem = fun _ => 0)

def quiescent_SRopeRefIdeal [hSRopeRefIdeal : Cert.SRopeRefIdeal.Facts] : Prop :=
  ∀ (m : (ℓ : Loc Cert.SRopeRefIdeal.nD Cert.SRopeRefIdeal.τ Cert.SRopeRefIdeal.sig) → Buf (Elt Ideal) ℓ) (g : Dev Cert.SRopeRefIdeal.nD → PrngReg), Pre_SRopeRefIdeal m →
    θ_run (Cert.SRopeRefIdeal.defs (F := Ideal)) (onTc (τ := Cert.SRopeRefIdeal.τ) (Cert.SRopeRefIdeal.main (F := Ideal))) ⟨m, fun _ => 0, g⟩ (fun r => (∀ c : Dev Cert.SRopeRefIdeal.nD,
      r.2.mem ((c.tc : Thread Cert.SRopeRefIdeal.nD Cert.SRopeRefIdeal.τ).loc Cert.SRopeRefIdeal.main_arg0) = m ((c.tc : Thread Cert.SRopeRefIdeal.nD Cert.SRopeRefIdeal.τ).loc Cert.SRopeRefIdeal.main_arg0))
      ∧ r.2.sem = fun _ => 0)

def quiescent_SMix [hSMix : Cert.SMix.Facts] : Prop :=
  ∀ (m : (ℓ : Loc Cert.SMix.nD Cert.SMix.τ Cert.SMix.sig) → Buf (Elt Bits) ℓ) (g : Dev Cert.SMix.nD → PrngReg), Pre_SMix m →
    θ_run (Cert.SMix.defs (F := Bits)) (onTc (τ := Cert.SMix.τ) (Cert.SMix.main (F := Bits))) ⟨m, fun _ => 0, g⟩ (fun r => (∀ c : Dev Cert.SMix.nD,
      r.2.mem ((c.tc : Thread Cert.SMix.nD Cert.SMix.τ).loc Cert.SMix.main_arg0) = m ((c.tc : Thread Cert.SMix.nD Cert.SMix.τ).loc Cert.SMix.main_arg0)
      ∧ r.2.mem ((c.tc : Thread Cert.SMix.nD Cert.SMix.τ).loc Cert.SMix.main_arg1) = m ((c.tc : Thread Cert.SMix.nD Cert.SMix.τ).loc Cert.SMix.main_arg1)
      ∧ r.2.mem ((c.tc : Thread Cert.SMix.nD Cert.SMix.τ).loc Cert.SMix.main_arg2) = m ((c.tc : Thread Cert.SMix.nD Cert.SMix.τ).loc Cert.SMix.main_arg2)
      ∧ r.2.mem ((c.tc : Thread Cert.SMix.nD Cert.SMix.τ).loc Cert.SMix.main_arg3) = m ((c.tc : Thread Cert.SMix.nD Cert.SMix.τ).loc Cert.SMix.main_arg3)
      ∧ r.2.mem ((c.tc : Thread Cert.SMix.nD Cert.SMix.τ).loc Cert.SMix.main_arg4) = m ((c.tc : Thread Cert.SMix.nD Cert.SMix.τ).loc Cert.SMix.main_arg4)
      ∧ r.2.mem ((c.tc : Thread Cert.SMix.nD Cert.SMix.τ).loc Cert.SMix.main_arg5) = m ((c.tc : Thread Cert.SMix.nD Cert.SMix.τ).loc Cert.SMix.main_arg5))
      ∧ r.2.sem = fun _ => 0)

def quiescent_SMixIdeal [hSMixIdeal : Cert.SMixIdeal.Facts] : Prop :=
  ∀ (m : (ℓ : Loc Cert.SMixIdeal.nD Cert.SMixIdeal.τ Cert.SMixIdeal.sig) → Buf (Elt Ideal) ℓ) (g : Dev Cert.SMixIdeal.nD → PrngReg), Pre_SMixIdeal m →
    θ_run (Cert.SMixIdeal.defs (F := Ideal)) (onTc (τ := Cert.SMixIdeal.τ) (Cert.SMixIdeal.main (F := Ideal))) ⟨m, fun _ => 0, g⟩ (fun r => (∀ c : Dev Cert.SMixIdeal.nD,
      r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
      ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
      ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
      ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
      ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4)
      ∧ r.2.mem ((c.tc : Thread Cert.SMixIdeal.nD Cert.SMixIdeal.τ).loc Cert.SMixIdeal.main_arg5) = m ((c.tc : Thread Cert.SMixIdeal.nD Cert.SMixIdeal.τ).loc Cert.SMixIdeal.main_arg5))
      ∧ r.2.sem = fun _ => 0)

def quiescent_SMixRefIdeal [hSMixRefIdeal : Cert.SMixRefIdeal.Facts] : Prop :=
  ∀ (m : (ℓ : Loc Cert.SMixRefIdeal.nD Cert.SMixRefIdeal.τ Cert.SMixRefIdeal.sig) → Buf (Elt Ideal) ℓ) (g : Dev Cert.SMixRefIdeal.nD → PrngReg), Pre_SMixRefIdeal m →
    θ_run (Cert.SMixRefIdeal.defs (F := Ideal)) (onTc (τ := Cert.SMixRefIdeal.τ) (Cert.SMixRefIdeal.main (F := Ideal))) ⟨m, fun _ => 0, g⟩ (fun r => (∀ c : Dev Cert.SMixRefIdeal.nD,
      r.2.mem ((c.tc : Thread Cert.SMixRefIdeal.nD Cert.SMixRefIdeal.τ).loc Cert.SMixRefIdeal.main_arg0) = m ((c.tc : Thread Cert.SMixRefIdeal.nD Cert.SMixRefIdeal.τ).loc Cert.SMixRefIdeal.main_arg0)
      ∧ r.2.mem ((c.tc : Thread Cert.SMixRefIdeal.nD Cert.SMixRefIdeal.τ).loc Cert.SMixRefIdeal.main_arg1) = m ((c.tc : Thread Cert.SMixRefIdeal.nD Cert.SMixRefIdeal.τ).loc Cert.SMixRefIdeal.main_arg1)
      ∧ r.2.mem ((c.tc : Thread Cert.SMixRefIdeal.nD Cert.SMixRefIdeal.τ).loc Cert.SMixRefIdeal.main_arg2) = m ((c.tc : Thread Cert.SMixRefIdeal.nD Cert.SMixRefIdeal.τ).loc Cert.SMixRefIdeal.main_arg2)
      ∧ r.2.mem ((c.tc : Thread Cert.SMixRefIdeal.nD Cert.SMixRefIdeal.τ).loc Cert.SMixRefIdeal.main_arg3) = m ((c.tc : Thread Cert.SMixRefIdeal.nD Cert.SMixRefIdeal.τ).loc Cert.SMixRefIdeal.main_arg3)
      ∧ r.2.mem ((c.tc : Thread Cert.SMixRefIdeal.nD Cert.SMixRefIdeal.τ).loc Cert.SMixRefIdeal.main_arg4) = m ((c.tc : Thread Cert.SMixRefIdeal.nD Cert.SMixRefIdeal.τ).loc Cert.SMixRefIdeal.main_arg4)
      ∧ r.2.mem ((c.tc : Thread Cert.SMixRefIdeal.nD Cert.SMixRefIdeal.τ).loc Cert.SMixRefIdeal.main_arg5) = m ((c.tc : Thread Cert.SMixRefIdeal.nD Cert.SMixRefIdeal.τ).loc Cert.SMixRefIdeal.main_arg5))
      ∧ r.2.sem = fun _ => 0)

def quiescent_SUp [hSUp : Cert.SUp.Facts] : Prop :=
  ∀ (m : (ℓ : Loc Cert.SUp.nD Cert.SUp.τ Cert.SUp.sig) → Buf (Elt Bits) ℓ) (g : Dev Cert.SUp.nD → PrngReg), Pre_SUp m →
    θ_run (Cert.SUp.defs (F := Bits)) (onTc (τ := Cert.SUp.τ) (Cert.SUp.main (F := Bits))) ⟨m, fun _ => 0, g⟩ (fun r => (∀ c : Dev Cert.SUp.nD,
      r.2.mem ((c.tc : Thread Cert.SUp.nD Cert.SUp.τ).loc Cert.SUp.main_arg0) = m ((c.tc : Thread Cert.SUp.nD Cert.SUp.τ).loc Cert.SUp.main_arg0)
      ∧ r.2.mem ((c.tc : Thread Cert.SUp.nD Cert.SUp.τ).loc Cert.SUp.main_arg1) = m ((c.tc : Thread Cert.SUp.nD Cert.SUp.τ).loc Cert.SUp.main_arg1)
      ∧ r.2.mem ((c.tc : Thread Cert.SUp.nD Cert.SUp.τ).loc Cert.SUp.main_arg2) = m ((c.tc : Thread Cert.SUp.nD Cert.SUp.τ).loc Cert.SUp.main_arg2))
      ∧ r.2.sem = fun _ => 0)

def quiescent_SUpIdeal [hSUpIdeal : Cert.SUpIdeal.Facts] : Prop :=
  ∀ (m : (ℓ : Loc Cert.SUpIdeal.nD Cert.SUpIdeal.τ Cert.SUpIdeal.sig) → Buf (Elt Ideal) ℓ) (g : Dev Cert.SUpIdeal.nD → PrngReg), Pre_SUpIdeal m →
    θ_run (Cert.SUpIdeal.defs (F := Ideal)) (onTc (τ := Cert.SUpIdeal.τ) (Cert.SUpIdeal.main (F := Ideal))) ⟨m, fun _ => 0, g⟩ (fun r => (∀ c : Dev Cert.SUpIdeal.nD,
      r.2.mem ((c.tc : Thread Cert.SUpIdeal.nD Cert.SUpIdeal.τ).loc Cert.SUpIdeal.main_arg0) = m ((c.tc : Thread Cert.SUpIdeal.nD Cert.SUpIdeal.τ).loc Cert.SUpIdeal.main_arg0)
      ∧ r.2.mem ((c.tc : Thread Cert.SUpIdeal.nD Cert.SUpIdeal.τ).loc Cert.SUpIdeal.main_arg1) = m ((c.tc : Thread Cert.SUpIdeal.nD Cert.SUpIdeal.τ).loc Cert.SUpIdeal.main_arg1)
      ∧ r.2.mem ((c.tc : Thread Cert.SUpIdeal.nD Cert.SUpIdeal.τ).loc Cert.SUpIdeal.main_arg2) = m ((c.tc : Thread Cert.SUpIdeal.nD Cert.SUpIdeal.τ).loc Cert.SUpIdeal.main_arg2))
      ∧ r.2.sem = fun _ => 0)

def quiescent_SUpRefIdeal [hSUpRefIdeal : Cert.SUpRefIdeal.Facts] : Prop :=
  ∀ (m : (ℓ : Loc Cert.SUpRefIdeal.nD Cert.SUpRefIdeal.τ Cert.SUpRefIdeal.sig) → Buf (Elt Ideal) ℓ) (g : Dev Cert.SUpRefIdeal.nD → PrngReg), Pre_SUpRefIdeal m →
    θ_run (Cert.SUpRefIdeal.defs (F := Ideal)) (onTc (τ := Cert.SUpRefIdeal.τ) (Cert.SUpRefIdeal.main (F := Ideal))) ⟨m, fun _ => 0, g⟩ (fun r => (∀ c : Dev Cert.SUpRefIdeal.nD,
      r.2.mem ((c.tc : Thread Cert.SUpRefIdeal.nD Cert.SUpRefIdeal.τ).loc Cert.SUpRefIdeal.main_arg0) = m ((c.tc : Thread Cert.SUpRefIdeal.nD Cert.SUpRefIdeal.τ).loc Cert.SUpRefIdeal.main_arg0)
      ∧ r.2.mem ((c.tc : Thread Cert.SUpRefIdeal.nD Cert.SUpRefIdeal.τ).loc Cert.SUpRefIdeal.main_arg1) = m ((c.tc : Thread Cert.SUpRefIdeal.nD Cert.SUpRefIdeal.τ).loc Cert.SUpRefIdeal.main_arg1)
      ∧ r.2.mem ((c.tc : Thread Cert.SUpRefIdeal.nD Cert.SUpRefIdeal.τ).loc Cert.SUpRefIdeal.main_arg2) = m ((c.tc : Thread Cert.SUpRefIdeal.nD Cert.SUpRefIdeal.τ).loc Cert.SUpRefIdeal.main_arg2))
      ∧ r.2.sem = fun _ => 0)

def quiescent_SDown [hSDown : Cert.SDown.Facts] : Prop :=
  ∀ (m : (ℓ : Loc Cert.SDown.nD Cert.SDown.τ Cert.SDown.sig) → Buf (Elt Bits) ℓ) (g : Dev Cert.SDown.nD → PrngReg), Pre_SDown m →
    θ_run (Cert.SDown.defs (F := Bits)) (onTc (τ := Cert.SDown.τ) (Cert.SDown.main (F := Bits))) ⟨m, fun _ => 0, g⟩ (fun r => (∀ c : Dev Cert.SDown.nD,
      r.2.mem ((c.tc : Thread Cert.SDown.nD Cert.SDown.τ).loc Cert.SDown.main_arg0) = m ((c.tc : Thread Cert.SDown.nD Cert.SDown.τ).loc Cert.SDown.main_arg0)
      ∧ r.2.mem ((c.tc : Thread Cert.SDown.nD Cert.SDown.τ).loc Cert.SDown.main_arg1) = m ((c.tc : Thread Cert.SDown.nD Cert.SDown.τ).loc Cert.SDown.main_arg1)
      ∧ r.2.mem ((c.tc : Thread Cert.SDown.nD Cert.SDown.τ).loc Cert.SDown.main_arg2) = m ((c.tc : Thread Cert.SDown.nD Cert.SDown.τ).loc Cert.SDown.main_arg2)
      ∧ r.2.mem ((c.tc : Thread Cert.SDown.nD Cert.SDown.τ).loc Cert.SDown.main_arg3) = m ((c.tc : Thread Cert.SDown.nD Cert.SDown.τ).loc Cert.SDown.main_arg3)
      ∧ r.2.mem ((c.tc : Thread Cert.SDown.nD Cert.SDown.τ).loc Cert.SDown.main_arg4) = m ((c.tc : Thread Cert.SDown.nD Cert.SDown.τ).loc Cert.SDown.main_arg4)
      ∧ r.2.mem ((c.tc : Thread Cert.SDown.nD Cert.SDown.τ).loc Cert.SDown.main_arg5) = m ((c.tc : Thread Cert.SDown.nD Cert.SDown.τ).loc Cert.SDown.main_arg5))
      ∧ r.2.sem = fun _ => 0)

def quiescent_SDownIdeal [hSDownIdeal : Cert.SDownIdeal.Facts] : Prop :=
  ∀ (m : (ℓ : Loc Cert.SDownIdeal.nD Cert.SDownIdeal.τ Cert.SDownIdeal.sig) → Buf (Elt Ideal) ℓ) (g : Dev Cert.SDownIdeal.nD → PrngReg), Pre_SDownIdeal m →
    θ_run (Cert.SDownIdeal.defs (F := Ideal)) (onTc (τ := Cert.SDownIdeal.τ) (Cert.SDownIdeal.main (F := Ideal))) ⟨m, fun _ => 0, g⟩ (fun r => (∀ c : Dev Cert.SDownIdeal.nD,
      r.2.mem ((c.tc : Thread Cert.SDownIdeal.nD Cert.SDownIdeal.τ).loc Cert.SDownIdeal.main_arg0) = m ((c.tc : Thread Cert.SDownIdeal.nD Cert.SDownIdeal.τ).loc Cert.SDownIdeal.main_arg0)
      ∧ r.2.mem ((c.tc : Thread Cert.SDownIdeal.nD Cert.SDownIdeal.τ).loc Cert.SDownIdeal.main_arg1) = m ((c.tc : Thread Cert.SDownIdeal.nD Cert.SDownIdeal.τ).loc Cert.SDownIdeal.main_arg1)
      ∧ r.2.mem ((c.tc : Thread Cert.SDownIdeal.nD Cert.SDownIdeal.τ).loc Cert.SDownIdeal.main_arg2) = m ((c.tc : Thread Cert.SDownIdeal.nD Cert.SDownIdeal.τ).loc Cert.SDownIdeal.main_arg2)
      ∧ r.2.mem ((c.tc : Thread Cert.SDownIdeal.nD Cert.SDownIdeal.τ).loc Cert.SDownIdeal.main_arg3) = m ((c.tc : Thread Cert.SDownIdeal.nD Cert.SDownIdeal.τ).loc Cert.SDownIdeal.main_arg3)
      ∧ r.2.mem ((c.tc : Thread Cert.SDownIdeal.nD Cert.SDownIdeal.τ).loc Cert.SDownIdeal.main_arg4) = m ((c.tc : Thread Cert.SDownIdeal.nD Cert.SDownIdeal.τ).loc Cert.SDownIdeal.main_arg4)
      ∧ r.2.mem ((c.tc : Thread Cert.SDownIdeal.nD Cert.SDownIdeal.τ).loc Cert.SDownIdeal.main_arg5) = m ((c.tc : Thread Cert.SDownIdeal.nD Cert.SDownIdeal.τ).loc Cert.SDownIdeal.main_arg5))
      ∧ r.2.sem = fun _ => 0)

def quiescent_SDownRefIdeal [hSDownRefIdeal : Cert.SDownRefIdeal.Facts] : Prop :=
  ∀ (m : (ℓ : Loc Cert.SDownRefIdeal.nD Cert.SDownRefIdeal.τ Cert.SDownRefIdeal.sig) → Buf (Elt Ideal) ℓ) (g : Dev Cert.SDownRefIdeal.nD → PrngReg), Pre_SDownRefIdeal m →
    θ_run (Cert.SDownRefIdeal.defs (F := Ideal)) (onTc (τ := Cert.SDownRefIdeal.τ) (Cert.SDownRefIdeal.main (F := Ideal))) ⟨m, fun _ => 0, g⟩ (fun r => (∀ c : Dev Cert.SDownRefIdeal.nD,
      r.2.mem ((c.tc : Thread Cert.SDownRefIdeal.nD Cert.SDownRefIdeal.τ).loc Cert.SDownRefIdeal.main_arg0) = m ((c.tc : Thread Cert.SDownRefIdeal.nD Cert.SDownRefIdeal.τ).loc Cert.SDownRefIdeal.main_arg0)
      ∧ r.2.mem ((c.tc : Thread Cert.SDownRefIdeal.nD Cert.SDownRefIdeal.τ).loc Cert.SDownRefIdeal.main_arg1) = m ((c.tc : Thread Cert.SDownRefIdeal.nD Cert.SDownRefIdeal.τ).loc Cert.SDownRefIdeal.main_arg1)
      ∧ r.2.mem ((c.tc : Thread Cert.SDownRefIdeal.nD Cert.SDownRefIdeal.τ).loc Cert.SDownRefIdeal.main_arg2) = m ((c.tc : Thread Cert.SDownRefIdeal.nD Cert.SDownRefIdeal.τ).loc Cert.SDownRefIdeal.main_arg2)
      ∧ r.2.mem ((c.tc : Thread Cert.SDownRefIdeal.nD Cert.SDownRefIdeal.τ).loc Cert.SDownRefIdeal.main_arg3) = m ((c.tc : Thread Cert.SDownRefIdeal.nD Cert.SDownRefIdeal.τ).loc Cert.SDownRefIdeal.main_arg3)
      ∧ r.2.mem ((c.tc : Thread Cert.SDownRefIdeal.nD Cert.SDownRefIdeal.τ).loc Cert.SDownRefIdeal.main_arg4) = m ((c.tc : Thread Cert.SDownRefIdeal.nD Cert.SDownRefIdeal.τ).loc Cert.SDownRefIdeal.main_arg4)
      ∧ r.2.mem ((c.tc : Thread Cert.SDownRefIdeal.nD Cert.SDownRefIdeal.τ).loc Cert.SDownRefIdeal.main_arg5) = m ((c.tc : Thread Cert.SDownRefIdeal.nD Cert.SDownRefIdeal.τ).loc Cert.SDownRefIdeal.main_arg5))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def quiescent_PMix [hPMix : Cert.PMix.Facts] : Prop :=
  ∀ (m : (ℓ : Loc Cert.PMix.nD Cert.PMix.τ Cert.PMix.sig) → Buf (Elt Bits) ℓ) (g : Dev Cert.PMix.nD → PrngReg), Pre_PMix m →
    θ_run (Cert.PMix.defs (F := Bits)) (onTc (τ := Cert.PMix.τ) (Cert.PMix.main (F := Bits))) ⟨m, fun _ => 0, g⟩ (fun r => (∀ c : Dev Cert.PMix.nD,
      r.2.mem ((c.tc : Thread Cert.PMix.nD Cert.PMix.τ).loc Cert.PMix.main_arg0) = m ((c.tc : Thread Cert.PMix.nD Cert.PMix.τ).loc Cert.PMix.main_arg0)
      ∧ r.2.mem ((c.tc : Thread Cert.PMix.nD Cert.PMix.τ).loc Cert.PMix.main_arg1) = m ((c.tc : Thread Cert.PMix.nD Cert.PMix.τ).loc Cert.PMix.main_arg1)
      ∧ r.2.mem ((c.tc : Thread Cert.PMix.nD Cert.PMix.τ).loc Cert.PMix.main_arg2) = m ((c.tc : Thread Cert.PMix.nD Cert.PMix.τ).loc Cert.PMix.main_arg2)
      ∧ r.2.mem ((c.tc : Thread Cert.PMix.nD Cert.PMix.τ).loc Cert.PMix.main_arg3) = m ((c.tc : Thread Cert.PMix.nD Cert.PMix.τ).loc Cert.PMix.main_arg3))
      ∧ r.2.sem = fun _ => 0)

def quiescent_PMixIdeal [hPMixIdeal : Cert.PMixIdeal.Facts] : Prop :=
  ∀ (m : (ℓ : Loc Cert.PMixIdeal.nD Cert.PMixIdeal.τ Cert.PMixIdeal.sig) → Buf (Elt Ideal) ℓ) (g : Dev Cert.PMixIdeal.nD → PrngReg), Pre_PMixIdeal m →
    θ_run (Cert.PMixIdeal.defs (F := Ideal)) (onTc (τ := Cert.PMixIdeal.τ) (Cert.PMixIdeal.main (F := Ideal))) ⟨m, fun _ => 0, g⟩ (fun r => (∀ c : Dev Cert.PMixIdeal.nD,
      r.2.mem ((c.tc : Thread Cert.PMixIdeal.nD Cert.PMixIdeal.τ).loc Cert.PMixIdeal.main_arg0) = m ((c.tc : Thread Cert.PMixIdeal.nD Cert.PMixIdeal.τ).loc Cert.PMixIdeal.main_arg0)
      ∧ r.2.mem ((c.tc : Thread Cert.PMixIdeal.nD Cert.PMixIdeal.τ).loc Cert.PMixIdeal.main_arg1) = m ((c.tc : Thread Cert.PMixIdeal.nD Cert.PMixIdeal.τ).loc Cert.PMixIdeal.main_arg1)
      ∧ r.2.mem ((c.tc : Thread Cert.PMixIdeal.nD Cert.PMixIdeal.τ).loc Cert.PMixIdeal.main_arg2) = m ((c.tc : Thread Cert.PMixIdeal.nD Cert.PMixIdeal.τ).loc Cert.PMixIdeal.main_arg2)
      ∧ r.2.mem ((c.tc : Thread Cert.PMixIdeal.nD Cert.PMixIdeal.τ).loc Cert.PMixIdeal.main_arg3) = m ((c.tc : Thread Cert.PMixIdeal.nD Cert.PMixIdeal.τ).loc Cert.PMixIdeal.main_arg3))
      ∧ r.2.sem = fun _ => 0)

def quiescent_PMixRefIdeal [hPMixRefIdeal : Cert.PMixRefIdeal.Facts] : Prop :=
  ∀ (m : (ℓ : Loc Cert.PMixRefIdeal.nD Cert.PMixRefIdeal.τ Cert.PMixRefIdeal.sig) → Buf (Elt Ideal) ℓ) (g : Dev Cert.PMixRefIdeal.nD → PrngReg), Pre_PMixRefIdeal m →
    θ_run (Cert.PMixRefIdeal.defs (F := Ideal)) (onTc (τ := Cert.PMixRefIdeal.τ) (Cert.PMixRefIdeal.main (F := Ideal))) ⟨m, fun _ => 0, g⟩ (fun r => (∀ c : Dev Cert.PMixRefIdeal.nD,
      r.2.mem ((c.tc : Thread Cert.PMixRefIdeal.nD Cert.PMixRefIdeal.τ).loc Cert.PMixRefIdeal.main_arg0) = m ((c.tc : Thread Cert.PMixRefIdeal.nD Cert.PMixRefIdeal.τ).loc Cert.PMixRefIdeal.main_arg0)
      ∧ r.2.mem ((c.tc : Thread Cert.PMixRefIdeal.nD Cert.PMixRefIdeal.τ).loc Cert.PMixRefIdeal.main_arg1) = m ((c.tc : Thread Cert.PMixRefIdeal.nD Cert.PMixRefIdeal.τ).loc Cert.PMixRefIdeal.main_arg1)
      ∧ r.2.mem ((c.tc : Thread Cert.PMixRefIdeal.nD Cert.PMixRefIdeal.τ).loc Cert.PMixRefIdeal.main_arg2) = m ((c.tc : Thread Cert.PMixRefIdeal.nD Cert.PMixRefIdeal.τ).loc Cert.PMixRefIdeal.main_arg2)
      ∧ r.2.mem ((c.tc : Thread Cert.PMixRefIdeal.nD Cert.PMixRefIdeal.τ).loc Cert.PMixRefIdeal.main_arg3) = m ((c.tc : Thread Cert.PMixRefIdeal.nD Cert.PMixRefIdeal.τ).loc Cert.PMixRefIdeal.main_arg3))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6)
      ∧ r.2.mem ((c.tc : Thread Cert.Hgrn.nD Cert.Hgrn.τ).loc Cert.Hgrn.main_arg7) = m ((c.tc : Thread Cert.Hgrn.nD Cert.Hgrn.τ).loc Cert.Hgrn.main_arg7))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
      ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ r.2.sem = fun _ => 0)

def quiescent_HgrnIdeal_pre_lb_range [hHgrnIdeal : Cert.HgrnIdeal.Facts] [hPre_lb_range : Cert.Pre_lb_range.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_lb_range m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
      ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5)
      ∧ r.2.mem ((c.tc : Thread Cert.HgrnRefIdeal.nD Cert.HgrnRefIdeal.τ).loc Cert.HgrnRefIdeal.main_arg6) = m ((c.tc : Thread Cert.HgrnRefIdeal.nD Cert.HgrnRefIdeal.τ).loc Cert.HgrnRefIdeal.main_arg6)
      ∧ r.2.mem ((c.tc : Thread Cert.HgrnRefIdeal.nD Cert.HgrnRefIdeal.τ).loc Cert.HgrnRefIdeal.main_arg7) = m ((c.tc : Thread Cert.HgrnRefIdeal.nD Cert.HgrnRefIdeal.τ).loc Cert.HgrnRefIdeal.main_arg7))
      ∧ r.2.sem = fun _ => 0)

def quiescent_HgrnRefIdeal_pre_lb_range [hHgrnRefIdeal : Cert.HgrnRefIdeal.Facts] [hPre_lb_range : Cert.Pre_lb_range.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_lb_range m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5)
      ∧ r.2.mem ((c.tc : Thread Cert.HgrnRefIdeal.nD Cert.HgrnRefIdeal.τ).loc Cert.HgrnRefIdeal.main_arg6) = m ((c.tc : Thread Cert.HgrnRefIdeal.nD Cert.HgrnRefIdeal.τ).loc Cert.HgrnRefIdeal.main_arg6)
      ∧ r.2.mem ((c.tc : Thread Cert.HgrnRefIdeal.nD Cert.HgrnRefIdeal.τ).loc Cert.HgrnRefIdeal.main_arg7) = m ((c.tc : Thread Cert.HgrnRefIdeal.nD Cert.HgrnRefIdeal.τ).loc Cert.HgrnRefIdeal.main_arg7))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)) (v1 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_v4) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v5) = v0 c
          ∧ r.2.mem ((c.tc : Thread Cert.ProjRefIdeal.nD Cert.ProjRefIdeal.τ).loc Cert.ProjRefIdeal.main_v6) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v42) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v1_0)) (v1 : (c : Dev Cert.FfnUpIdeal.nD) → Buf (Elt Ideal) ((c.tc : Thread Cert.FfnUpIdeal.nD Cert.FfnUpIdeal.τ).loc Cert.FfnUpIdeal.main_v1_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1_0) = v0 c
          ∧ r.2.mem ((c.tc : Thread Cert.FfnUpIdeal.nD Cert.FfnUpIdeal.τ).loc Cert.FfnUpIdeal.main_v1_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v31) = v0 c
          ∧ r.2.mem ((c.tc : Thread Cert.FfnUpRefIdeal.nD Cert.FfnUpRefIdeal.τ).loc Cert.FfnUpRefIdeal.main_v32) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)
      ∧ m' ((c.tc : Thread Cert.FfnDownRefIdeal.nD Cert.FfnDownRefIdeal.τ).loc Cert.FfnDownRefIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v3)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v3) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v28) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3)
          ∧ r.2.mem ((c.tc : Thread Cert.FfnDownRefIdeal.nD Cert.FfnDownRefIdeal.τ).loc Cert.FfnDownRefIdeal.main_arg4) = m' ((c.tc : Thread Cert.FfnDownRefIdeal.nD Cert.FfnDownRefIdeal.τ).loc Cert.FfnDownRefIdeal.main_arg4))

def preserves_SProj_SProjIdeal : Prop :=
  True

def algebraic_SProjIdeal_SProjRefIdeal [hSProjIdeal : Cert.SProjIdeal.Facts] [hSProjRefIdeal : Cert.SProjRefIdeal.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)) →
    ∃ (v0 : (c : Dev Cert.SProjIdeal.nD) → Buf (Elt Ideal) ((c.tc : Thread Cert.SProjIdeal.nD Cert.SProjIdeal.τ).loc Cert.SProjIdeal.main_v12)) (v1 : (c : Dev Cert.SProjIdeal.nD) → Buf (Elt Ideal) ((c.tc : Thread Cert.SProjIdeal.nD Cert.SProjIdeal.τ).loc Cert.SProjIdeal.main_v15)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v12) = v0 c
          ∧ r.2.mem ((c.tc : Thread Cert.SProjIdeal.nD Cert.SProjIdeal.τ).loc Cert.SProjIdeal.main_v15) = v1 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v2) = v0 c
          ∧ r.2.mem ((c.tc : Thread Cert.SProjRefIdeal.nD Cert.SProjRefIdeal.τ).loc Cert.SProjRefIdeal.main_v5) = v1 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2))

def preserves_SRope_SRopeIdeal : Prop :=
  True

def algebraic_SRopeIdeal_SRopeRefIdeal [hSRopeIdeal : Cert.SRopeIdeal.Facts] [hSRopeRefIdeal : Cert.SRopeRefIdeal.Facts] : Prop :=
  ∀ (m : (ℓ : Loc Cert.SRopeIdeal.nD Cert.SRopeIdeal.τ Cert.SRopeIdeal.sig) → Buf (Elt Ideal) ℓ) (g : Dev Cert.SRopeIdeal.nD → PrngReg)
    (m' : (ℓ : Loc Cert.SRopeRefIdeal.nD Cert.SRopeRefIdeal.τ Cert.SRopeRefIdeal.sig) → Buf (Elt Ideal) ℓ) (g' : Dev Cert.SRopeRefIdeal.nD → PrngReg), Pre_SRopeIdeal m →
    (∀ c : Dev Cert.SRopeIdeal.nD,
      m' ((c.tc : Thread Cert.SRopeRefIdeal.nD Cert.SRopeRefIdeal.τ).loc Cert.SRopeRefIdeal.main_arg0) = m ((c.tc : Thread Cert.SRopeIdeal.nD Cert.SRopeIdeal.τ).loc Cert.SRopeIdeal.main_arg0)) →
    ∃ (v0 : (c : Dev Cert.SRopeIdeal.nD) → Buf (Elt Ideal) ((c.tc : Thread Cert.SRopeIdeal.nD Cert.SRopeIdeal.τ).loc Cert.SRopeIdeal.main_v39_0)) (v1 : (c : Dev Cert.SRopeIdeal.nD) → Buf (Elt Ideal) ((c.tc : Thread Cert.SRopeIdeal.nD Cert.SRopeIdeal.τ).loc Cert.SRopeIdeal.main_v39_2)),
      θ_run (Cert.SRopeIdeal.defs (F := Ideal)) (onTc (τ := Cert.SRopeIdeal.τ) (Cert.SRopeIdeal.main (F := Ideal))) ⟨m, fun _ => 0, g⟩ (fun r => ∀ c : Dev Cert.SRopeIdeal.nD,
          r.2.mem ((c.tc : Thread Cert.SRopeIdeal.nD Cert.SRopeIdeal.τ).loc Cert.SRopeIdeal.main_v39_0) = v0 c
          ∧ r.2.mem ((c.tc : Thread Cert.SRopeIdeal.nD Cert.SRopeIdeal.τ).loc Cert.SRopeIdeal.main_v39_2) = v1 c
          ∧ r.2.mem ((c.tc : Thread Cert.SRopeIdeal.nD Cert.SRopeIdeal.τ).loc Cert.SRopeIdeal.main_arg0) = m ((c.tc : Thread Cert.SRopeIdeal.nD Cert.SRopeIdeal.τ).loc Cert.SRopeIdeal.main_arg0))
      ∧ θ_run (Cert.SRopeRefIdeal.defs (F := Ideal)) (onTc (τ := Cert.SRopeRefIdeal.τ) (Cert.SRopeRefIdeal.main (F := Ideal))) ⟨m', fun _ => 0, g'⟩ (fun r => ∀ c : Dev Cert.SRopeRefIdeal.nD,
          r.2.mem ((c.tc : Thread Cert.SRopeRefIdeal.nD Cert.SRopeRefIdeal.τ).loc Cert.SRopeRefIdeal.main_v42) = v0 c
          ∧ r.2.mem ((c.tc : Thread Cert.SRopeRefIdeal.nD Cert.SRopeRefIdeal.τ).loc Cert.SRopeRefIdeal.main_v80) = v1 c
          ∧ r.2.mem ((c.tc : Thread Cert.SRopeRefIdeal.nD Cert.SRopeRefIdeal.τ).loc Cert.SRopeRefIdeal.main_arg0) = m' ((c.tc : Thread Cert.SRopeRefIdeal.nD Cert.SRopeRefIdeal.τ).loc Cert.SRopeRefIdeal.main_arg0))

def preserves_SMix_SMixIdeal : Prop :=
  True

def algebraic_SMixIdeal_SMixRefIdeal [hSMixIdeal : Cert.SMixIdeal.Facts] [hSMixRefIdeal : Cert.SMixRefIdeal.Facts] : Prop :=
  ∀ (m : (ℓ : Loc Cert.SMixIdeal.nD Cert.SMixIdeal.τ Cert.SMixIdeal.sig) → Buf (Elt Ideal) ℓ) (g : Dev Cert.SMixIdeal.nD → PrngReg)
    (m' : (ℓ : Loc Cert.SMixRefIdeal.nD Cert.SMixRefIdeal.τ Cert.SMixRefIdeal.sig) → Buf (Elt Ideal) ℓ) (g' : Dev Cert.SMixRefIdeal.nD → PrngReg), Pre_SMixIdeal m →
    (∀ c : Dev Cert.SMixIdeal.nD,
      m' ((c.tc : Thread Cert.SMixRefIdeal.nD Cert.SMixRefIdeal.τ).loc Cert.SMixRefIdeal.main_arg0) = m ((c.tc : Thread Cert.SMixIdeal.nD Cert.SMixIdeal.τ).loc Cert.SMixIdeal.main_arg0)
      ∧ m' ((c.tc : Thread Cert.SMixRefIdeal.nD Cert.SMixRefIdeal.τ).loc Cert.SMixRefIdeal.main_arg1) = m ((c.tc : Thread Cert.SMixIdeal.nD Cert.SMixIdeal.τ).loc Cert.SMixIdeal.main_arg1)
      ∧ m' ((c.tc : Thread Cert.SMixRefIdeal.nD Cert.SMixRefIdeal.τ).loc Cert.SMixRefIdeal.main_arg2) = m ((c.tc : Thread Cert.SMixIdeal.nD Cert.SMixIdeal.τ).loc Cert.SMixIdeal.main_arg2)
      ∧ m' ((c.tc : Thread Cert.SMixRefIdeal.nD Cert.SMixRefIdeal.τ).loc Cert.SMixRefIdeal.main_arg3) = m ((c.tc : Thread Cert.SMixIdeal.nD Cert.SMixIdeal.τ).loc Cert.SMixIdeal.main_arg3)
      ∧ m' ((c.tc : Thread Cert.SMixRefIdeal.nD Cert.SMixRefIdeal.τ).loc Cert.SMixRefIdeal.main_arg4) = m ((c.tc : Thread Cert.SMixIdeal.nD Cert.SMixIdeal.τ).loc Cert.SMixIdeal.main_arg4)
      ∧ m' ((c.tc : Thread Cert.SMixRefIdeal.nD Cert.SMixRefIdeal.τ).loc Cert.SMixRefIdeal.main_arg5) = m ((c.tc : Thread Cert.SMixIdeal.nD Cert.SMixIdeal.τ).loc Cert.SMixIdeal.main_arg5)) →
    ∃ (v0 : (c : Dev Cert.SMixIdeal.nD) → Buf (Elt Ideal) ((c.tc : Thread Cert.SMixIdeal.nD Cert.SMixIdeal.τ).loc Cert.SMixIdeal.main_v4_1)) (v1 : (c : Dev Cert.SMixIdeal.nD) → Buf (Elt Ideal) ((c.tc : Thread Cert.SMixIdeal.nD Cert.SMixIdeal.τ).loc Cert.SMixIdeal.main_v4_2)),
      θ_run (Cert.SMixIdeal.defs (F := Ideal)) (onTc (τ := Cert.SMixIdeal.τ) (Cert.SMixIdeal.main (F := Ideal))) ⟨m, fun _ => 0, g⟩ (fun r => ∀ c : Dev Cert.SMixIdeal.nD,
          r.2.mem ((c.tc : Thread Cert.SMixIdeal.nD Cert.SMixIdeal.τ).loc Cert.SMixIdeal.main_v4_1) = v0 c
          ∧ r.2.mem ((c.tc : Thread Cert.SMixIdeal.nD Cert.SMixIdeal.τ).loc Cert.SMixIdeal.main_v4_2) = v1 c
          ∧ r.2.mem ((c.tc : Thread Cert.SMixIdeal.nD Cert.SMixIdeal.τ).loc Cert.SMixIdeal.main_arg0) = m ((c.tc : Thread Cert.SMixIdeal.nD Cert.SMixIdeal.τ).loc Cert.SMixIdeal.main_arg0)
          ∧ r.2.mem ((c.tc : Thread Cert.SMixIdeal.nD Cert.SMixIdeal.τ).loc Cert.SMixIdeal.main_arg1) = m ((c.tc : Thread Cert.SMixIdeal.nD Cert.SMixIdeal.τ).loc Cert.SMixIdeal.main_arg1)
          ∧ r.2.mem ((c.tc : Thread Cert.SMixIdeal.nD Cert.SMixIdeal.τ).loc Cert.SMixIdeal.main_arg2) = m ((c.tc : Thread Cert.SMixIdeal.nD Cert.SMixIdeal.τ).loc Cert.SMixIdeal.main_arg2)
          ∧ r.2.mem ((c.tc : Thread Cert.SMixIdeal.nD Cert.SMixIdeal.τ).loc Cert.SMixIdeal.main_arg3) = m ((c.tc : Thread Cert.SMixIdeal.nD Cert.SMixIdeal.τ).loc Cert.SMixIdeal.main_arg3)
          ∧ r.2.mem ((c.tc : Thread Cert.SMixIdeal.nD Cert.SMixIdeal.τ).loc Cert.SMixIdeal.main_arg4) = m ((c.tc : Thread Cert.SMixIdeal.nD Cert.SMixIdeal.τ).loc Cert.SMixIdeal.main_arg4)
          ∧ r.2.mem ((c.tc : Thread Cert.SMixIdeal.nD Cert.SMixIdeal.τ).loc Cert.SMixIdeal.main_arg5) = m ((c.tc : Thread Cert.SMixIdeal.nD Cert.SMixIdeal.τ).loc Cert.SMixIdeal.main_arg5))
      ∧ θ_run (Cert.SMixRefIdeal.defs (F := Ideal)) (onTc (τ := Cert.SMixRefIdeal.τ) (Cert.SMixRefIdeal.main (F := Ideal))) ⟨m', fun _ => 0, g'⟩ (fun r => ∀ c : Dev Cert.SMixRefIdeal.nD,
          r.2.mem ((c.tc : Thread Cert.SMixRefIdeal.nD Cert.SMixRefIdeal.τ).loc Cert.SMixRefIdeal.main_v31) = v0 c
          ∧ r.2.mem ((c.tc : Thread Cert.SMixRefIdeal.nD Cert.SMixRefIdeal.τ).loc Cert.SMixRefIdeal.main_v33) = v1 c
          ∧ r.2.mem ((c.tc : Thread Cert.SMixRefIdeal.nD Cert.SMixRefIdeal.τ).loc Cert.SMixRefIdeal.main_arg0) = m' ((c.tc : Thread Cert.SMixRefIdeal.nD Cert.SMixRefIdeal.τ).loc Cert.SMixRefIdeal.main_arg0)
          ∧ r.2.mem ((c.tc : Thread Cert.SMixRefIdeal.nD Cert.SMixRefIdeal.τ).loc Cert.SMixRefIdeal.main_arg1) = m' ((c.tc : Thread Cert.SMixRefIdeal.nD Cert.SMixRefIdeal.τ).loc Cert.SMixRefIdeal.main_arg1)
          ∧ r.2.mem ((c.tc : Thread Cert.SMixRefIdeal.nD Cert.SMixRefIdeal.τ).loc Cert.SMixRefIdeal.main_arg2) = m' ((c.tc : Thread Cert.SMixRefIdeal.nD Cert.SMixRefIdeal.τ).loc Cert.SMixRefIdeal.main_arg2)
          ∧ r.2.mem ((c.tc : Thread Cert.SMixRefIdeal.nD Cert.SMixRefIdeal.τ).loc Cert.SMixRefIdeal.main_arg3) = m' ((c.tc : Thread Cert.SMixRefIdeal.nD Cert.SMixRefIdeal.τ).loc Cert.SMixRefIdeal.main_arg3)
          ∧ r.2.mem ((c.tc : Thread Cert.SMixRefIdeal.nD Cert.SMixRefIdeal.τ).loc Cert.SMixRefIdeal.main_arg4) = m' ((c.tc : Thread Cert.SMixRefIdeal.nD Cert.SMixRefIdeal.τ).loc Cert.SMixRefIdeal.main_arg4)
          ∧ r.2.mem ((c.tc : Thread Cert.SMixRefIdeal.nD Cert.SMixRefIdeal.τ).loc Cert.SMixRefIdeal.main_arg5) = m' ((c.tc : Thread Cert.SMixRefIdeal.nD Cert.SMixRefIdeal.τ).loc Cert.SMixRefIdeal.main_arg5))

def preserves_SUp_SUpIdeal : Prop :=
  True

def algebraic_SUpIdeal_SUpRefIdeal [hSUpIdeal : Cert.SUpIdeal.Facts] [hSUpRefIdeal : Cert.SUpRefIdeal.Facts] : Prop :=
  ∀ (m : (ℓ : Loc Cert.SUpIdeal.nD Cert.SUpIdeal.τ Cert.SUpIdeal.sig) → Buf (Elt Ideal) ℓ) (g : Dev Cert.SUpIdeal.nD → PrngReg)
    (m' : (ℓ : Loc Cert.SUpRefIdeal.nD Cert.SUpRefIdeal.τ Cert.SUpRefIdeal.sig) → Buf (Elt Ideal) ℓ) (g' : Dev Cert.SUpRefIdeal.nD → PrngReg), Pre_SUpIdeal m →
    (∀ c : Dev Cert.SUpIdeal.nD,
      m' ((c.tc : Thread Cert.SUpRefIdeal.nD Cert.SUpRefIdeal.τ).loc Cert.SUpRefIdeal.main_arg0) = m ((c.tc : Thread Cert.SUpIdeal.nD Cert.SUpIdeal.τ).loc Cert.SUpIdeal.main_arg0)
      ∧ m' ((c.tc : Thread Cert.SUpRefIdeal.nD Cert.SUpRefIdeal.τ).loc Cert.SUpRefIdeal.main_arg1) = m ((c.tc : Thread Cert.SUpIdeal.nD Cert.SUpIdeal.τ).loc Cert.SUpIdeal.main_arg1)
      ∧ m' ((c.tc : Thread Cert.SUpRefIdeal.nD Cert.SUpRefIdeal.τ).loc Cert.SUpRefIdeal.main_arg2) = m ((c.tc : Thread Cert.SUpIdeal.nD Cert.SUpIdeal.τ).loc Cert.SUpIdeal.main_arg2)) →
    ∃ (v0 : (c : Dev Cert.SUpIdeal.nD) → Buf (Elt Ideal) ((c.tc : Thread Cert.SUpIdeal.nD Cert.SUpIdeal.τ).loc Cert.SUpIdeal.main_v4)) (v1 : (c : Dev Cert.SUpIdeal.nD) → Buf (Elt Ideal) ((c.tc : Thread Cert.SUpIdeal.nD Cert.SUpIdeal.τ).loc Cert.SUpIdeal.main_v7)),
      θ_run (Cert.SUpIdeal.defs (F := Ideal)) (onTc (τ := Cert.SUpIdeal.τ) (Cert.SUpIdeal.main (F := Ideal))) ⟨m, fun _ => 0, g⟩ (fun r => ∀ c : Dev Cert.SUpIdeal.nD,
          r.2.mem ((c.tc : Thread Cert.SUpIdeal.nD Cert.SUpIdeal.τ).loc Cert.SUpIdeal.main_v4) = v0 c
          ∧ r.2.mem ((c.tc : Thread Cert.SUpIdeal.nD Cert.SUpIdeal.τ).loc Cert.SUpIdeal.main_v7) = v1 c
          ∧ r.2.mem ((c.tc : Thread Cert.SUpIdeal.nD Cert.SUpIdeal.τ).loc Cert.SUpIdeal.main_arg0) = m ((c.tc : Thread Cert.SUpIdeal.nD Cert.SUpIdeal.τ).loc Cert.SUpIdeal.main_arg0)
          ∧ r.2.mem ((c.tc : Thread Cert.SUpIdeal.nD Cert.SUpIdeal.τ).loc Cert.SUpIdeal.main_arg1) = m ((c.tc : Thread Cert.SUpIdeal.nD Cert.SUpIdeal.τ).loc Cert.SUpIdeal.main_arg1)
          ∧ r.2.mem ((c.tc : Thread Cert.SUpIdeal.nD Cert.SUpIdeal.τ).loc Cert.SUpIdeal.main_arg2) = m ((c.tc : Thread Cert.SUpIdeal.nD Cert.SUpIdeal.τ).loc Cert.SUpIdeal.main_arg2))
      ∧ θ_run (Cert.SUpRefIdeal.defs (F := Ideal)) (onTc (τ := Cert.SUpRefIdeal.τ) (Cert.SUpRefIdeal.main (F := Ideal))) ⟨m', fun _ => 0, g'⟩ (fun r => ∀ c : Dev Cert.SUpRefIdeal.nD,
          r.2.mem ((c.tc : Thread Cert.SUpRefIdeal.nD Cert.SUpRefIdeal.τ).loc Cert.SUpRefIdeal.main_v4) = v0 c
          ∧ r.2.mem ((c.tc : Thread Cert.SUpRefIdeal.nD Cert.SUpRefIdeal.τ).loc Cert.SUpRefIdeal.main_v6) = v1 c
          ∧ r.2.mem ((c.tc : Thread Cert.SUpRefIdeal.nD Cert.SUpRefIdeal.τ).loc Cert.SUpRefIdeal.main_arg0) = m' ((c.tc : Thread Cert.SUpRefIdeal.nD Cert.SUpRefIdeal.τ).loc Cert.SUpRefIdeal.main_arg0)
          ∧ r.2.mem ((c.tc : Thread Cert.SUpRefIdeal.nD Cert.SUpRefIdeal.τ).loc Cert.SUpRefIdeal.main_arg1) = m' ((c.tc : Thread Cert.SUpRefIdeal.nD Cert.SUpRefIdeal.τ).loc Cert.SUpRefIdeal.main_arg1)
          ∧ r.2.mem ((c.tc : Thread Cert.SUpRefIdeal.nD Cert.SUpRefIdeal.τ).loc Cert.SUpRefIdeal.main_arg2) = m' ((c.tc : Thread Cert.SUpRefIdeal.nD Cert.SUpRefIdeal.τ).loc Cert.SUpRefIdeal.main_arg2))

def preserves_SDown_SDownIdeal : Prop :=
  True

def algebraic_SDownIdeal_SDownRefIdeal [hSDownIdeal : Cert.SDownIdeal.Facts] [hSDownRefIdeal : Cert.SDownRefIdeal.Facts] : Prop :=
  ∀ (m : (ℓ : Loc Cert.SDownIdeal.nD Cert.SDownIdeal.τ Cert.SDownIdeal.sig) → Buf (Elt Ideal) ℓ) (g : Dev Cert.SDownIdeal.nD → PrngReg)
    (m' : (ℓ : Loc Cert.SDownRefIdeal.nD Cert.SDownRefIdeal.τ Cert.SDownRefIdeal.sig) → Buf (Elt Ideal) ℓ) (g' : Dev Cert.SDownRefIdeal.nD → PrngReg), Pre_SDownIdeal m →
    (∀ c : Dev Cert.SDownIdeal.nD,
      m' ((c.tc : Thread Cert.SDownRefIdeal.nD Cert.SDownRefIdeal.τ).loc Cert.SDownRefIdeal.main_arg0) = m ((c.tc : Thread Cert.SDownIdeal.nD Cert.SDownIdeal.τ).loc Cert.SDownIdeal.main_arg0)
      ∧ m' ((c.tc : Thread Cert.SDownRefIdeal.nD Cert.SDownRefIdeal.τ).loc Cert.SDownRefIdeal.main_arg1) = m ((c.tc : Thread Cert.SDownIdeal.nD Cert.SDownIdeal.τ).loc Cert.SDownIdeal.main_arg1)
      ∧ m' ((c.tc : Thread Cert.SDownRefIdeal.nD Cert.SDownRefIdeal.τ).loc Cert.SDownRefIdeal.main_arg2) = m ((c.tc : Thread Cert.SDownIdeal.nD Cert.SDownIdeal.τ).loc Cert.SDownIdeal.main_arg2)
      ∧ m' ((c.tc : Thread Cert.SDownRefIdeal.nD Cert.SDownRefIdeal.τ).loc Cert.SDownRefIdeal.main_arg3) = m ((c.tc : Thread Cert.SDownIdeal.nD Cert.SDownIdeal.τ).loc Cert.SDownIdeal.main_arg3)
      ∧ m' ((c.tc : Thread Cert.SDownRefIdeal.nD Cert.SDownRefIdeal.τ).loc Cert.SDownRefIdeal.main_arg4) = m ((c.tc : Thread Cert.SDownIdeal.nD Cert.SDownIdeal.τ).loc Cert.SDownIdeal.main_arg4)
      ∧ m' ((c.tc : Thread Cert.SDownRefIdeal.nD Cert.SDownRefIdeal.τ).loc Cert.SDownRefIdeal.main_arg5) = m ((c.tc : Thread Cert.SDownIdeal.nD Cert.SDownIdeal.τ).loc Cert.SDownIdeal.main_arg5)) →
    ∃ (v0 : (c : Dev Cert.SDownIdeal.nD) → Buf (Elt Ideal) ((c.tc : Thread Cert.SDownIdeal.nD Cert.SDownIdeal.τ).loc Cert.SDownIdeal.main_v3)),
      θ_run (Cert.SDownIdeal.defs (F := Ideal)) (onTc (τ := Cert.SDownIdeal.τ) (Cert.SDownIdeal.main (F := Ideal))) ⟨m, fun _ => 0, g⟩ (fun r => ∀ c : Dev Cert.SDownIdeal.nD,
          r.2.mem ((c.tc : Thread Cert.SDownIdeal.nD Cert.SDownIdeal.τ).loc Cert.SDownIdeal.main_v3) = v0 c
          ∧ r.2.mem ((c.tc : Thread Cert.SDownIdeal.nD Cert.SDownIdeal.τ).loc Cert.SDownIdeal.main_arg0) = m ((c.tc : Thread Cert.SDownIdeal.nD Cert.SDownIdeal.τ).loc Cert.SDownIdeal.main_arg0)
          ∧ r.2.mem ((c.tc : Thread Cert.SDownIdeal.nD Cert.SDownIdeal.τ).loc Cert.SDownIdeal.main_arg1) = m ((c.tc : Thread Cert.SDownIdeal.nD Cert.SDownIdeal.τ).loc Cert.SDownIdeal.main_arg1)
          ∧ r.2.mem ((c.tc : Thread Cert.SDownIdeal.nD Cert.SDownIdeal.τ).loc Cert.SDownIdeal.main_arg2) = m ((c.tc : Thread Cert.SDownIdeal.nD Cert.SDownIdeal.τ).loc Cert.SDownIdeal.main_arg2)
          ∧ r.2.mem ((c.tc : Thread Cert.SDownIdeal.nD Cert.SDownIdeal.τ).loc Cert.SDownIdeal.main_arg3) = m ((c.tc : Thread Cert.SDownIdeal.nD Cert.SDownIdeal.τ).loc Cert.SDownIdeal.main_arg3)
          ∧ r.2.mem ((c.tc : Thread Cert.SDownIdeal.nD Cert.SDownIdeal.τ).loc Cert.SDownIdeal.main_arg4) = m ((c.tc : Thread Cert.SDownIdeal.nD Cert.SDownIdeal.τ).loc Cert.SDownIdeal.main_arg4)
          ∧ r.2.mem ((c.tc : Thread Cert.SDownIdeal.nD Cert.SDownIdeal.τ).loc Cert.SDownIdeal.main_arg5) = m ((c.tc : Thread Cert.SDownIdeal.nD Cert.SDownIdeal.τ).loc Cert.SDownIdeal.main_arg5))
      ∧ θ_run (Cert.SDownRefIdeal.defs (F := Ideal)) (onTc (τ := Cert.SDownRefIdeal.τ) (Cert.SDownRefIdeal.main (F := Ideal))) ⟨m', fun _ => 0, g'⟩ (fun r => ∀ c : Dev Cert.SDownRefIdeal.nD,
          r.2.mem ((c.tc : Thread Cert.SDownRefIdeal.nD Cert.SDownRefIdeal.τ).loc Cert.SDownRefIdeal.main_v55) = v0 c
          ∧ r.2.mem ((c.tc : Thread Cert.SDownRefIdeal.nD Cert.SDownRefIdeal.τ).loc Cert.SDownRefIdeal.main_arg0) = m' ((c.tc : Thread Cert.SDownRefIdeal.nD Cert.SDownRefIdeal.τ).loc Cert.SDownRefIdeal.main_arg0)
          ∧ r.2.mem ((c.tc : Thread Cert.SDownRefIdeal.nD Cert.SDownRefIdeal.τ).loc Cert.SDownRefIdeal.main_arg1) = m' ((c.tc : Thread Cert.SDownRefIdeal.nD Cert.SDownRefIdeal.τ).loc Cert.SDownRefIdeal.main_arg1)
          ∧ r.2.mem ((c.tc : Thread Cert.SDownRefIdeal.nD Cert.SDownRefIdeal.τ).loc Cert.SDownRefIdeal.main_arg2) = m' ((c.tc : Thread Cert.SDownRefIdeal.nD Cert.SDownRefIdeal.τ).loc Cert.SDownRefIdeal.main_arg2)
          ∧ r.2.mem ((c.tc : Thread Cert.SDownRefIdeal.nD Cert.SDownRefIdeal.τ).loc Cert.SDownRefIdeal.main_arg3) = m' ((c.tc : Thread Cert.SDownRefIdeal.nD Cert.SDownRefIdeal.τ).loc Cert.SDownRefIdeal.main_arg3)
          ∧ r.2.mem ((c.tc : Thread Cert.SDownRefIdeal.nD Cert.SDownRefIdeal.τ).loc Cert.SDownRefIdeal.main_arg4) = m' ((c.tc : Thread Cert.SDownRefIdeal.nD Cert.SDownRefIdeal.τ).loc Cert.SDownRefIdeal.main_arg4)
          ∧ r.2.mem ((c.tc : Thread Cert.SDownRefIdeal.nD Cert.SDownRefIdeal.τ).loc Cert.SDownRefIdeal.main_arg5) = m' ((c.tc : Thread Cert.SDownRefIdeal.nD Cert.SDownRefIdeal.τ).loc Cert.SDownRefIdeal.main_arg5))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v35_0)) (v1 : (c : Dev Cert.PrepIdeal.nD) → Buf (Elt Ideal) ((c.tc : Thread Cert.PrepIdeal.nD Cert.PrepIdeal.τ).loc Cert.PrepIdeal.main_v35_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v35_0) = v0 c
          ∧ r.2.mem ((c.tc : Thread Cert.PrepIdeal.nD Cert.PrepIdeal.τ).loc Cert.PrepIdeal.main_v35_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v44) = v0 c
          ∧ r.2.mem ((c.tc : Thread Cert.PrepRefIdeal.nD Cert.PrepRefIdeal.τ).loc Cert.PrepRefIdeal.main_v49) = v1 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def preserves_PMix_PMixIdeal : Prop :=
  True

def algebraic_PMixIdeal_PMixRefIdeal [hPMixIdeal : Cert.PMixIdeal.Facts] [hPMixRefIdeal : Cert.PMixRefIdeal.Facts] : Prop :=
  ∀ (m : (ℓ : Loc Cert.PMixIdeal.nD Cert.PMixIdeal.τ Cert.PMixIdeal.sig) → Buf (Elt Ideal) ℓ) (g : Dev Cert.PMixIdeal.nD → PrngReg)
    (m' : (ℓ : Loc Cert.PMixRefIdeal.nD Cert.PMixRefIdeal.τ Cert.PMixRefIdeal.sig) → Buf (Elt Ideal) ℓ) (g' : Dev Cert.PMixRefIdeal.nD → PrngReg), Pre_PMixIdeal m →
    (∀ c : Dev Cert.PMixIdeal.nD,
      m' ((c.tc : Thread Cert.PMixRefIdeal.nD Cert.PMixRefIdeal.τ).loc Cert.PMixRefIdeal.main_arg0) = m ((c.tc : Thread Cert.PMixIdeal.nD Cert.PMixIdeal.τ).loc Cert.PMixIdeal.main_arg0)
      ∧ m' ((c.tc : Thread Cert.PMixRefIdeal.nD Cert.PMixRefIdeal.τ).loc Cert.PMixRefIdeal.main_arg1) = m ((c.tc : Thread Cert.PMixIdeal.nD Cert.PMixIdeal.τ).loc Cert.PMixIdeal.main_arg1)
      ∧ m' ((c.tc : Thread Cert.PMixRefIdeal.nD Cert.PMixRefIdeal.τ).loc Cert.PMixRefIdeal.main_arg2) = m ((c.tc : Thread Cert.PMixIdeal.nD Cert.PMixIdeal.τ).loc Cert.PMixIdeal.main_arg2)
      ∧ m' ((c.tc : Thread Cert.PMixRefIdeal.nD Cert.PMixRefIdeal.τ).loc Cert.PMixRefIdeal.main_arg3) = m ((c.tc : Thread Cert.PMixIdeal.nD Cert.PMixIdeal.τ).loc Cert.PMixIdeal.main_arg3)) →
    ∃ (v0 : (c : Dev Cert.PMixIdeal.nD) → Buf (Elt Ideal) ((c.tc : Thread Cert.PMixIdeal.nD Cert.PMixIdeal.τ).loc Cert.PMixIdeal.main_v2_1)) (v1 : (c : Dev Cert.PMixIdeal.nD) → Buf (Elt Ideal) ((c.tc : Thread Cert.PMixIdeal.nD Cert.PMixIdeal.τ).loc Cert.PMixIdeal.main_v2_2)),
      θ_run (Cert.PMixIdeal.defs (F := Ideal)) (onTc (τ := Cert.PMixIdeal.τ) (Cert.PMixIdeal.main (F := Ideal))) ⟨m, fun _ => 0, g⟩ (fun r => ∀ c : Dev Cert.PMixIdeal.nD,
          r.2.mem ((c.tc : Thread Cert.PMixIdeal.nD Cert.PMixIdeal.τ).loc Cert.PMixIdeal.main_v2_1) = v0 c
          ∧ r.2.mem ((c.tc : Thread Cert.PMixIdeal.nD Cert.PMixIdeal.τ).loc Cert.PMixIdeal.main_v2_2) = v1 c
          ∧ r.2.mem ((c.tc : Thread Cert.PMixIdeal.nD Cert.PMixIdeal.τ).loc Cert.PMixIdeal.main_arg0) = m ((c.tc : Thread Cert.PMixIdeal.nD Cert.PMixIdeal.τ).loc Cert.PMixIdeal.main_arg0)
          ∧ r.2.mem ((c.tc : Thread Cert.PMixIdeal.nD Cert.PMixIdeal.τ).loc Cert.PMixIdeal.main_arg1) = m ((c.tc : Thread Cert.PMixIdeal.nD Cert.PMixIdeal.τ).loc Cert.PMixIdeal.main_arg1)
          ∧ r.2.mem ((c.tc : Thread Cert.PMixIdeal.nD Cert.PMixIdeal.τ).loc Cert.PMixIdeal.main_arg2) = m ((c.tc : Thread Cert.PMixIdeal.nD Cert.PMixIdeal.τ).loc Cert.PMixIdeal.main_arg2)
          ∧ r.2.mem ((c.tc : Thread Cert.PMixIdeal.nD Cert.PMixIdeal.τ).loc Cert.PMixIdeal.main_arg3) = m ((c.tc : Thread Cert.PMixIdeal.nD Cert.PMixIdeal.τ).loc Cert.PMixIdeal.main_arg3))
      ∧ θ_run (Cert.PMixRefIdeal.defs (F := Ideal)) (onTc (τ := Cert.PMixRefIdeal.τ) (Cert.PMixRefIdeal.main (F := Ideal))) ⟨m', fun _ => 0, g'⟩ (fun r => ∀ c : Dev Cert.PMixRefIdeal.nD,
          r.2.mem ((c.tc : Thread Cert.PMixRefIdeal.nD Cert.PMixRefIdeal.τ).loc Cert.PMixRefIdeal.main_v31) = v0 c
          ∧ r.2.mem ((c.tc : Thread Cert.PMixRefIdeal.nD Cert.PMixRefIdeal.τ).loc Cert.PMixRefIdeal.main_v32) = v1 c
          ∧ r.2.mem ((c.tc : Thread Cert.PMixRefIdeal.nD Cert.PMixRefIdeal.τ).loc Cert.PMixRefIdeal.main_arg0) = m' ((c.tc : Thread Cert.PMixRefIdeal.nD Cert.PMixRefIdeal.τ).loc Cert.PMixRefIdeal.main_arg0)
          ∧ r.2.mem ((c.tc : Thread Cert.PMixRefIdeal.nD Cert.PMixRefIdeal.τ).loc Cert.PMixRefIdeal.main_arg1) = m' ((c.tc : Thread Cert.PMixRefIdeal.nD Cert.PMixRefIdeal.τ).loc Cert.PMixRefIdeal.main_arg1)
          ∧ r.2.mem ((c.tc : Thread Cert.PMixRefIdeal.nD Cert.PMixRefIdeal.τ).loc Cert.PMixRefIdeal.main_arg2) = m' ((c.tc : Thread Cert.PMixRefIdeal.nD Cert.PMixRefIdeal.τ).loc Cert.PMixRefIdeal.main_arg2)
          ∧ r.2.mem ((c.tc : Thread Cert.PMixRefIdeal.nD Cert.PMixRefIdeal.τ).loc Cert.PMixRefIdeal.main_arg3) = m' ((c.tc : Thread Cert.PMixRefIdeal.nD Cert.PMixRefIdeal.τ).loc Cert.PMixRefIdeal.main_arg3))

def preserves_Hgrn_HgrnIdeal : Prop :=
  True

def algebraic_HgrnIdeal_HgrnRefIdeal_on_new_rows_pre_lb_range [hHgrnIdeal : Cert.HgrnIdeal.Facts] [hHgrnRefIdeal : Cert.HgrnRefIdeal.Facts] [hPre_lb_range : Cert.Pre_lb_range.Facts] [hOn_new_rows : Cert.On_new_rows.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_lb_range m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)
      ∧ m' ((c.tc : Thread Cert.HgrnRefIdeal.nD Cert.HgrnRefIdeal.τ).loc Cert.HgrnRefIdeal.main_arg4) = m ((c.tc : Thread Cert.HgrnIdeal.nD Cert.HgrnIdeal.τ).loc Cert.HgrnIdeal.main_arg4)
      ∧ m' ((c.tc : Thread Cert.HgrnRefIdeal.nD Cert.HgrnRefIdeal.τ).loc Cert.HgrnRefIdeal.main_arg5) = m ((c.tc : Thread Cert.HgrnIdeal.nD Cert.HgrnIdeal.τ).loc Cert.HgrnIdeal.main_arg5)
      ∧ m' ((c.tc : Thread Cert.HgrnRefIdeal.nD Cert.HgrnRefIdeal.τ).loc Cert.HgrnRefIdeal.main_arg6) = m ((c.tc : Thread Cert.HgrnIdeal.nD Cert.HgrnIdeal.τ).loc Cert.HgrnIdeal.main_arg6)
      ∧ m' ((c.tc : Thread Cert.HgrnRefIdeal.nD Cert.HgrnRefIdeal.τ).loc Cert.HgrnRefIdeal.main_arg7) = m ((c.tc : Thread Cert.HgrnIdeal.nD Cert.HgrnIdeal.τ).loc Cert.HgrnIdeal.main_arg7)) →
    ∃ (v0 : (c : Dev Cert.HgrnIdeal.nD) → Buf (Elt Ideal) ((c.tc : Thread Cert.HgrnIdeal.nD Cert.HgrnIdeal.τ).loc Cert.HgrnIdeal.main_v6_0)) (v1 : (c : Dev Cert.HgrnIdeal.nD) → Buf (Elt Ideal) ((c.tc : Thread Cert.HgrnIdeal.nD Cert.HgrnIdeal.τ).loc Cert.HgrnIdeal.main_v6_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          (∀ i : (⟨3, ![128, 8, 512]⟩ : Shape).Idx, (Cert.On_new_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg6)) (m ((c.tc : Thread Cert.HgrnIdeal.nD Cert.HgrnIdeal.τ).loc Cert.HgrnIdeal.main_arg7))).1 i = 1#1 → r.2.mem ((c.tc : Thread Cert.HgrnIdeal.nD Cert.HgrnIdeal.τ).loc Cert.HgrnIdeal.main_v6_0) i = v0 c i)
          ∧ (∀ i : (⟨5, ![4, 128, 4, 128, 128]⟩ : Shape).Idx, (Cert.On_new_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg6)) (m ((c.tc : Thread Cert.HgrnIdeal.nD Cert.HgrnIdeal.τ).loc Cert.HgrnIdeal.main_arg7))).2 i = 1#1 → r.2.mem ((c.tc : Thread Cert.HgrnIdeal.nD Cert.HgrnIdeal.τ).loc Cert.HgrnIdeal.main_v6_1) i = v1 c i)
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
          ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6)
          ∧ r.2.mem ((c.tc : Thread Cert.HgrnIdeal.nD Cert.HgrnIdeal.τ).loc Cert.HgrnIdeal.main_arg7) = m ((c.tc : Thread Cert.HgrnIdeal.nD Cert.HgrnIdeal.τ).loc Cert.HgrnIdeal.main_arg7))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          (∀ i : (⟨3, ![128, 8, 512]⟩ : Shape).Idx, (Cert.On_new_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg6)) (m ((c.tc : Thread Cert.HgrnIdeal.nD Cert.HgrnIdeal.τ).loc Cert.HgrnIdeal.main_arg7))).1 i = 1#1 → r.2.mem ((c.tc : Thread Cert.HgrnRefIdeal.nD Cert.HgrnRefIdeal.τ).loc Cert.HgrnRefIdeal.main_v84) i = v0 c i)
          ∧ (∀ i : (⟨5, ![4, 128, 4, 128, 128]⟩ : Shape).Idx, (Cert.On_new_rows.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5)) (m ((c.tc : Thread Cert.HgrnIdeal.nD Cert.HgrnIdeal.τ).loc Cert.HgrnIdeal.main_arg6)) (m ((c.tc : Thread Cert.HgrnIdeal.nD Cert.HgrnIdeal.τ).loc Cert.HgrnIdeal.main_arg7))).2 i = 1#1 → r.2.mem ((c.tc : Thread Cert.HgrnRefIdeal.nD Cert.HgrnRefIdeal.τ).loc Cert.HgrnRefIdeal.main_v83) i = v1 c i)
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3)
          ∧ r.2.mem ((c.tc : Thread Cert.HgrnRefIdeal.nD Cert.HgrnRefIdeal.τ).loc Cert.HgrnRefIdeal.main_arg4) = m' ((c.tc : Thread Cert.HgrnRefIdeal.nD Cert.HgrnRefIdeal.τ).loc Cert.HgrnRefIdeal.main_arg4)
          ∧ r.2.mem ((c.tc : Thread Cert.HgrnRefIdeal.nD Cert.HgrnRefIdeal.τ).loc Cert.HgrnRefIdeal.main_arg5) = m' ((c.tc : Thread Cert.HgrnRefIdeal.nD Cert.HgrnRefIdeal.τ).loc Cert.HgrnRefIdeal.main_arg5)
          ∧ r.2.mem ((c.tc : Thread Cert.HgrnRefIdeal.nD Cert.HgrnRefIdeal.τ).loc Cert.HgrnRefIdeal.main_arg6) = m' ((c.tc : Thread Cert.HgrnRefIdeal.nD Cert.HgrnRefIdeal.τ).loc Cert.HgrnRefIdeal.main_arg6)
          ∧ r.2.mem ((c.tc : Thread Cert.HgrnRefIdeal.nD Cert.HgrnRefIdeal.τ).loc Cert.HgrnRefIdeal.main_arg7) = m' ((c.tc : Thread Cert.HgrnRefIdeal.nD Cert.HgrnRefIdeal.τ).loc Cert.HgrnRefIdeal.main_arg7))

def Claim : Prop :=
  ∃ (hProj : Cert.Proj.Facts) (hProjIdeal : Cert.ProjIdeal.Facts) (hProjRefIdeal : Cert.ProjRefIdeal.Facts) (hGate : Cert.Gate.Facts) (hGateIdeal : Cert.GateIdeal.Facts) (hGateRefIdeal : Cert.GateRefIdeal.Facts) (hMerge : Cert.Merge.Facts) (hMergeIdeal : Cert.MergeIdeal.Facts) (hMergeRefIdeal : Cert.MergeRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hSProj : Cert.SProj.Facts) (hSProjIdeal : Cert.SProjIdeal.Facts) (hSProjRefIdeal : Cert.SProjRefIdeal.Facts) (hSRope : Cert.SRope.Facts) (hSRopeIdeal : Cert.SRopeIdeal.Facts) (hSRopeRefIdeal : Cert.SRopeRefIdeal.Facts) (hSMix : Cert.SMix.Facts) (hSMixIdeal : Cert.SMixIdeal.Facts) (hSMixRefIdeal : Cert.SMixRefIdeal.Facts) (hSUp : Cert.SUp.Facts) (hSUpIdeal : Cert.SUpIdeal.Facts) (hSUpRefIdeal : Cert.SUpRefIdeal.Facts) (hSDown : Cert.SDown.Facts) (hSDownIdeal : Cert.SDownIdeal.Facts) (hSDownRefIdeal : Cert.SDownRefIdeal.Facts) (hPrep : Cert.Prep.Facts) (hPrepIdeal : Cert.PrepIdeal.Facts) (hPrepRefIdeal : Cert.PrepRefIdeal.Facts) (hPMix : Cert.PMix.Facts) (hPMixIdeal : Cert.PMixIdeal.Facts) (hPMixRefIdeal : Cert.PMixRefIdeal.Facts) (hHgrn : Cert.Hgrn.Facts) (hHgrnIdeal : Cert.HgrnIdeal.Facts) (hHgrnRefIdeal : Cert.HgrnRefIdeal.Facts) (hPre_lb_range : Cert.Pre_lb_range.Facts) (hOn_new_rows : Cert.On_new_rows.Facts),
    quiescent_Proj (hProj := hProj)
    ∧ quiescent_ProjIdeal (hProjIdeal := hProjIdeal)
    ∧ quiescent_ProjRefIdeal (hProjRefIdeal := hProjRefIdeal)
    ∧ quiescent_Gate (hGate := hGate)
    ∧ quiescent_GateIdeal (hGateIdeal := hGateIdeal)
    ∧ quiescent_GateRefIdeal (hGateRefIdeal := hGateRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_SProj (hSProj := hSProj)
    ∧ quiescent_SProjIdeal (hSProjIdeal := hSProjIdeal)
    ∧ quiescent_SProjRefIdeal (hSProjRefIdeal := hSProjRefIdeal)
    ∧ quiescent_SRope (hSRope := hSRope)
    ∧ quiescent_SRopeIdeal (hSRopeIdeal := hSRopeIdeal)
    ∧ quiescent_SRopeRefIdeal (hSRopeRefIdeal := hSRopeRefIdeal)
    ∧ quiescent_SMix (hSMix := hSMix)
    ∧ quiescent_SMixIdeal (hSMixIdeal := hSMixIdeal)
    ∧ quiescent_SMixRefIdeal (hSMixRefIdeal := hSMixRefIdeal)
    ∧ quiescent_SUp (hSUp := hSUp)
    ∧ quiescent_SUpIdeal (hSUpIdeal := hSUpIdeal)
    ∧ quiescent_SUpRefIdeal (hSUpRefIdeal := hSUpRefIdeal)
    ∧ quiescent_SDown (hSDown := hSDown)
    ∧ quiescent_SDownIdeal (hSDownIdeal := hSDownIdeal)
    ∧ quiescent_SDownRefIdeal (hSDownRefIdeal := hSDownRefIdeal)
    ∧ quiescent_Prep (hPrep := hPrep)
    ∧ quiescent_PrepIdeal (hPrepIdeal := hPrepIdeal)
    ∧ quiescent_PrepRefIdeal (hPrepRefIdeal := hPrepRefIdeal)
    ∧ quiescent_PMix (hPMix := hPMix)
    ∧ quiescent_PMixIdeal (hPMixIdeal := hPMixIdeal)
    ∧ quiescent_PMixRefIdeal (hPMixRefIdeal := hPMixRefIdeal)
    ∧ quiescent_Hgrn (hHgrn := hHgrn)
    ∧ quiescent_HgrnIdeal (hHgrnIdeal := hHgrnIdeal)
    ∧ quiescent_HgrnIdeal_pre_lb_range (hHgrnIdeal := hHgrnIdeal) (hPre_lb_range := hPre_lb_range)
    ∧ quiescent_HgrnRefIdeal (hHgrnRefIdeal := hHgrnRefIdeal)
    ∧ quiescent_HgrnRefIdeal_pre_lb_range (hHgrnRefIdeal := hHgrnRefIdeal) (hPre_lb_range := hPre_lb_range)
    ∧ preserves_Proj_ProjIdeal
    ∧ algebraic_ProjIdeal_ProjRefIdeal (hProjIdeal := hProjIdeal) (hProjRefIdeal := hProjRefIdeal)
    ∧ preserves_Gate_GateIdeal
    ∧ algebraic_GateIdeal_GateRefIdeal (hGateIdeal := hGateIdeal) (hGateRefIdeal := hGateRefIdeal)
    ∧ preserves_Merge_MergeIdeal
    ∧ algebraic_MergeIdeal_MergeRefIdeal (hMergeIdeal := hMergeIdeal) (hMergeRefIdeal := hMergeRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_SProj_SProjIdeal
    ∧ algebraic_SProjIdeal_SProjRefIdeal (hSProjIdeal := hSProjIdeal) (hSProjRefIdeal := hSProjRefIdeal)
    ∧ preserves_SRope_SRopeIdeal
    ∧ algebraic_SRopeIdeal_SRopeRefIdeal (hSRopeIdeal := hSRopeIdeal) (hSRopeRefIdeal := hSRopeRefIdeal)
    ∧ preserves_SMix_SMixIdeal
    ∧ algebraic_SMixIdeal_SMixRefIdeal (hSMixIdeal := hSMixIdeal) (hSMixRefIdeal := hSMixRefIdeal)
    ∧ preserves_SUp_SUpIdeal
    ∧ algebraic_SUpIdeal_SUpRefIdeal (hSUpIdeal := hSUpIdeal) (hSUpRefIdeal := hSUpRefIdeal)
    ∧ preserves_SDown_SDownIdeal
    ∧ algebraic_SDownIdeal_SDownRefIdeal (hSDownIdeal := hSDownIdeal) (hSDownRefIdeal := hSDownRefIdeal)
    ∧ preserves_Prep_PrepIdeal
    ∧ algebraic_PrepIdeal_PrepRefIdeal (hPrepIdeal := hPrepIdeal) (hPrepRefIdeal := hPrepRefIdeal)
    ∧ preserves_PMix_PMixIdeal
    ∧ algebraic_PMixIdeal_PMixRefIdeal (hPMixIdeal := hPMixIdeal) (hPMixRefIdeal := hPMixRefIdeal)
    ∧ preserves_Hgrn_HgrnIdeal
    ∧ algebraic_HgrnIdeal_HgrnRefIdeal_on_new_rows_pre_lb_range (hHgrnIdeal := hHgrnIdeal) (hHgrnRefIdeal := hHgrnRefIdeal) (hPre_lb_range := hPre_lb_range) (hOn_new_rows := hOn_new_rows)
-- ==== On_new_rows.lean ====
abbrev S128x4x512 : Shape := ⟨3, ![128, 4, 512]⟩
abbrev S4x128x4x128x128 : Shape := ⟨5, ![4, 128, 4, 128, 128]⟩
abbrev S512 : Shape := ⟨1, ![512]⟩
abbrev S128x8x512 : Shape := ⟨3, ![128, 8, 512]⟩
abbrev S_ : Shape := ⟨0, ![]⟩

class Facts : Prop where
  bcast_S_S128x8x512 : S_.BroadcastsInDim S128x8x512 (![] : Fin 0 → Fin S128x8x512.rank)
  bcast_S_S4x128x4x128x128 : S_.BroadcastsInDim S4x128x4x128x128 (![] : Fin 0 → Fin S4x128x4x128x128.rank)

variable [Facts]

def fn {F : FTy → Type} [FloatOps F] (main_arg0 : FVec F S128x4x512 .f32) (main_arg1 : FVec F S128x4x512 .f32) (main_arg2 : FVec F S128x4x512 .f32) (main_arg3 : FVec F S128x4x512 .f32) (main_arg4 : FVec F S4x128x4x128x128 .f32) (main_arg5 : FVec F S4x128x4x128x128 .f32) (main_arg6 : FVec F S512 .f32) (main_arg7 : FVec F S512 .f32) : IVec S128x8x512 1 × IVec S4x128x4x128x128 1 :=
  let main_v0 : IVec S128x8x512 32 := iotaInDim S128x8x512 32 1
  let main_c : IVec S_ 32 := constantI S_ 32 4#32
  let main_v1 : IVec S128x8x512 32 := broadcastInDim S128x8x512 ![] bcast_S_S128x8x512 main_c
  let main_v2 : IVec S128x8x512 1 := cmpi .slt main_v0 main_v1
  let main_c_0 : IVec S_ 1 := constantI S_ 1 1#1
  let main_v3 : IVec S4x128x4x128x128 1 := broadcastInDim S4x128x4x128x128 ![] bcast_S_S4x128x4x128x128 main_c_0
  (main_v2, main_v3)
-- ==== Pre_lb_range.lean ====
abbrev S128x4x512 : Shape := ⟨3, ![128, 4, 512]⟩
abbrev S4x128x4x128x128 : Shape := ⟨5, ![4, 128, 4, 128, 128]⟩
abbrev S512 : Shape := ⟨1, ![512]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S128x4x512 .f32) (main_arg1 : FVec F S128x4x512 .f32) (main_arg2 : FVec F S128x4x512 .f32) (main_arg3 : FVec F S128x4x512 .f32) (main_arg4 : FVec F S4x128x4x128x128 .f32) (main_arg5 : FVec F S4x128x4x128x128 .f32) (main_arg6 : FVec F S512 .f32) (main_arg7 : FVec F S512 .f32) : IVec S_ 1 :=
  let main_cst : FVec F S_ .f32 := constant S_ .f32 0x00000000#32
  let main_v0 : FVec F S512 .f32 := broadcastInDim S512 ![] bcast_S_S512 main_cst
  let main_v1 : IVec S512 1 := cmpf .oge main_arg6 main_v0
  let main_cst_0 : FVec F S_ .f32 := constant S_ .f32 0x3F800000#32
  let main_v2 : FVec F S512 .f32 := broadcastInDim S512 ![] bcast_S_S512 main_cst_0
  let main_v3 : IVec S512 1 := cmpf .ole main_arg6 main_v2
  let main_v4 : IVec S512 1 := andi main_v1 main_v3
  let main_c : IVec S_ 1 := constantI S_ 1 1#1
  let main_v5 : IVec S_ 1 := (fun x v => Host.reduce IntOp.andi x v reducesTo_S512_S_d0 h_S_) main_v4 main_c
  main_v5
-- ==== Proj.lean ====
abbrev S16384x1024 : Shape := ⟨2, ![16384, 1024]⟩
abbrev S1024x9728 : Shape := ⟨2, ![1024, 9728]⟩
abbrev S1024x5632 : Shape := ⟨2, ![1024, 5632]⟩
abbrev S16384x5632 : Shape := ⟨2, ![16384, 5632]⟩
abbrev S1024x1024 : Shape := ⟨2, ![1024, 1024]⟩
abbrev S1024x2816 : Shape := ⟨2, ![1024, 2816]⟩
abbrev S4x4096x5632 : Shape := ⟨3, ![4, 4096, 5632]⟩
abbrev S4x15x512 : Shape := ⟨3, ![4, 15, 512]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x9728, .f32⟩
  | .hbm, ⟨2, _⟩ => ⟨S1024x5632, .f32⟩
  | .hbm, ⟨3, _⟩ => ⟨S1024x5632, .bf16⟩
  | .hbm, ⟨4, _⟩ => ⟨S16384x5632, .f32⟩
  | .hbm, ⟨5, _⟩ => ⟨S4x4096x5632, .f32⟩
  | .hbm, ⟨6, _⟩ => ⟨S4x15x512, .f32⟩
  | .local _ .vmem, ⟨0, _⟩ => ⟨S1024x1024, .f32⟩
  | .local _ .vmem, ⟨1, _⟩ => ⟨S1024x1024, .f32⟩
  | .local _ .vmem, ⟨2, _⟩ => ⟨S1024x2816, .bf16⟩
  | .local _ .vmem, ⟨3, _⟩ => ⟨S1024x2816, .bf16⟩
  | .local _ .vmem, ⟨4, _⟩ => ⟨S1024x2816, .f32⟩
  | .local _ .vmem, ⟨5, _⟩ => ⟨S1024x2816, .f32⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x1024 : Shape := ⟨2, ![16384, 1024]⟩
abbrev S1024x9728 : Shape := ⟨2, ![1024, 9728]⟩
abbrev S16384x9728 : Shape := ⟨2, ![16384, 9728]⟩
abbrev S4x4096x9728 : Shape := ⟨3, ![4, 4096, 9728]⟩
abbrev S4x4096x512 : Shape := ⟨3, ![4, 4096, 512]⟩
abbrev S_ : Shape := ⟨0, ![]⟩
abbrev S4x15x512 : Shape := ⟨3, ![4, 15, 512]⟩
abbrev S4x4111x512 : Shape := ⟨3, ![4, 4111, 512]⟩
abbrev S16384x5632 : Shape := ⟨2, ![16384, 5632]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x9728, .f32⟩
  | .hbm, ⟨2, _⟩ => ⟨S16384x9728, .f32⟩
  | .hbm, ⟨3, _⟩ => ⟨S4x4096x9728, .f32⟩
  | .hbm, ⟨4, _⟩ => ⟨S4x4096x512, .f32⟩
  | .hbm, ⟨5, _⟩ => ⟨S_, .f32⟩
  | .hbm, ⟨6, _⟩ => ⟨S4x15x512, .f32⟩
  | .hbm, ⟨7, _⟩ => ⟨S4x4111x512, .f32⟩
  | .hbm, ⟨8, _⟩ => ⟨S16384x5632, .f32⟩
  | .hbm, ⟨9, _⟩ => ⟨S4x15x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gate.lean ====
abbrev S16384x1024 : Shape := ⟨2, ![16384, 1024]⟩
abbrev S1024x9728 : Shape := ⟨2, ![1024, 9728]⟩
abbrev S1024x4096 : Shape := ⟨2, ![1024, 4096]⟩
abbrev S16384x4096 : Shape := ⟨2, ![16384, 4096]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024x9728, .f32⟩
  | .hbm, ⟨2, _⟩ => ⟨S1024x4096, .f32⟩
  | .hbm, ⟨3, _⟩ => ⟨S1024x4096, .bf16⟩
  | .hbm, ⟨4, _⟩ => ⟨S16384x4096, .bf16⟩
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S16384x1024 : Shape := ⟨2, ![16384, 1024]⟩
abbrev S1024x9728 : Shape := ⟨2, ![1024, 9728]⟩
abbrev S16384x9728 : Shape := ⟨2, ![16384, 9728]⟩
abbrev S16384x4096 : Shape := ⟨2, ![16384, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x9728, .f32⟩
  | .hbm, ⟨2, _⟩ => ⟨S16384x9728, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S16384x4096, .f32⟩
  | .hbm, ⟨11, _⟩ => ⟨S16384x4096, .f32⟩
  | .hbm, ⟨12, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Merge.lean ====
abbrev S16384x512 : Shape := ⟨2, ![16384, 512]⟩
abbrev S16384x4096 : Shape := ⟨2, ![16384, 4096]⟩
abbrev S16384x1024 : Shape := ⟨2, ![16384, 1024]⟩
abbrev S4x512x1024 : Shape := ⟨3, ![4, 512, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x4096 : Shape := ⟨2, ![512, 4096]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x4096, .bf16⟩
  | .hbm, ⟨5, _⟩ => ⟨S16384x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S4x512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S4x512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x512 : Shape := ⟨2, ![16384, 512]⟩
abbrev S16384x4096 : Shape := ⟨2, ![16384, 4096]⟩
abbrev S16384x1024 : Shape := ⟨2, ![16384, 1024]⟩
abbrev S4x512x1024 : Shape := ⟨3, ![4, 512, 1024]⟩
abbrev S1024x1024 : Shape := ⟨2, ![1024, 1024]⟩
abbrev S1024 : Shape := ⟨1, ![1024]⟩
abbrev S16384x1x512 : Shape := ⟨3, ![16384, 1, 512]⟩
abbrev S16384x4x512 : Shape := ⟨3, ![16384, 4, 512]⟩
abbrev S4x1024x16384 : Shape := ⟨3, ![4, 1024, 16384]⟩
abbrev S16384x4x1024 : Shape := ⟨3, ![16384, 4, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x4096, .bf16⟩
  | .hbm, ⟨5, _⟩ => ⟨S16384x1024, .f32⟩
  | .hbm, ⟨6, _⟩ => ⟨S4x512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x1x512, .f32⟩
  | .hbm, ⟨15, _⟩ => ⟨S16384x1x512, .f32⟩
  | .hbm, ⟨16, _⟩ => ⟨S16384x1x512, .f32⟩
  | .hbm, ⟨17, _⟩ => ⟨S16384x1x512, .f32⟩
  | .hbm, ⟨18, _⟩ => ⟨S16384x4x512, .f32⟩
  | .hbm, ⟨19, _⟩ => ⟨S4x1024x16384, .f32⟩
  | .hbm, ⟨20, _⟩ => ⟨S16384x4x1024, .f32⟩
  | .hbm, ⟨21, _⟩ => ⟨S16384x4096, .f32⟩
  | .hbm, ⟨22, _⟩ => ⟨S16384x4x1024, .f32⟩
  | .hbm, ⟨23, _⟩ => ⟨S16384x4x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== FfnUp.lean ====
abbrev S16384x1024 : Shape := ⟨2, ![16384, 1024]⟩
abbrev S1024x5632 : Shape := ⟨2, ![1024, 5632]⟩
abbrev S3x5632 : Shape := ⟨2, ![3, 5632]⟩
abbrev S16384x2816 : Shape := ⟨2, ![16384, 2816]⟩
abbrev S4x8x5632 : Shape := ⟨3, ![4, 8, 5632]⟩
abbrev S256x1024 : Shape := ⟨2, ![256, 1024]⟩
abbrev S256x2816 : Shape := ⟨2, ![256, 2816]⟩
abbrev S1x8x5632 : Shape := ⟨3, ![1, 8, 5632]⟩
abbrev S8x5632 : Shape := ⟨2, ![8, 5632]⟩
abbrev S1024x256 : Shape := ⟨2, ![1024, 256]⟩
abbrev S256x256 : Shape := ⟨2, ![256, 256]⟩
abbrev S8x256 : Shape := ⟨2, ![8, 256]⟩
abbrev S1x8x256 : Shape := ⟨3, ![1, 8, 256]⟩
abbrev S3x256 : Shape := ⟨2, ![3, 256]⟩
abbrev S1x256 : Shape := ⟨2, ![1, 256]⟩
abbrev S255x256 : Shape := ⟨2, ![255, 256]⟩
abbrev S2x256 : Shape := ⟨2, ![2, 256]⟩
abbrev S254x256 : Shape := ⟨2, ![254, 256]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S1024x5632, .bf16⟩
  | .hbm, ⟨4, _⟩ => ⟨S16384x2816, .bf16⟩
  | .hbm, ⟨5, _⟩ => ⟨S4x8x5632, .f32⟩
  | .local _ .vmem, ⟨0, _⟩ => ⟨S256x1024, .f32⟩
  | .local _ .vmem, ⟨1, _⟩ => ⟨S256x1024, .f32⟩
  | .local _ .vmem, ⟨2, _⟩ => ⟨S1024x5632, .bf16⟩
  | .local _ .vmem, ⟨3, _⟩ => ⟨S3x5632, .f32⟩
  | .local _ .vmem, ⟨4, _⟩ => ⟨S256x2816, .bf16⟩
  | .local _ .vmem, ⟨5, _⟩ => ⟨S256x2816, .bf16⟩
  | .local _ .vmem, ⟨6, _⟩ => ⟨S1x8x5632, .f32⟩
  | .local _ .vmem, ⟨7, _⟩ => ⟨S1x8x5632, .f32⟩
  | .local _ .vmem, ⟨8, _⟩ => ⟨S8x5632, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnUpRefIdeal.lean ====
abbrev S16384x1024 : Shape := ⟨2, ![16384, 1024]⟩
abbrev S1024x5632 : Shape := ⟨2, ![1024, 5632]⟩
abbrev S3x5632 : Shape := ⟨2, ![3, 5632]⟩
abbrev S16384x5632 : Shape := ⟨2, ![16384, 5632]⟩
abbrev S4x4096x5632 : Shape := ⟨3, ![4, 4096, 5632]⟩
abbrev S_ : Shape := ⟨0, ![]⟩
abbrev S4x2x5632 : Shape := ⟨3, ![4, 2, 5632]⟩
abbrev S4x4098x5632 : Shape := ⟨3, ![4, 4098, 5632]⟩
abbrev S1x5632 : Shape := ⟨2, ![1, 5632]⟩
abbrev S5632 : Shape := ⟨1, ![5632]⟩
abbrev S1x1x5632 : Shape := ⟨3, ![1, 1, 5632]⟩
abbrev S4x4096x2816 : Shape := ⟨3, ![4, 4096, 2816]⟩
abbrev S16384x2816 : Shape := ⟨2, ![16384, 2816]⟩
abbrev S4x8x5632 : Shape := ⟨3, ![4, 8, 5632]⟩

abbrev nBuf : Space → Nat
  | .hbm => 46
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S3x5632, .f32⟩
  | .hbm, ⟨3, _⟩ => ⟨S16384x5632, .f32⟩
  | .hbm, ⟨4, _⟩ => ⟨S4x4096x5632, .f32⟩
  | .hbm, ⟨5, _⟩ => ⟨S_, .f32⟩
  | .hbm, ⟨6, _⟩ => ⟨S4x2x5632, .f32⟩
  | .hbm, ⟨7, _⟩ => ⟨S4x4098x5632, .f32⟩
  | .hbm, ⟨8, _⟩ => ⟨S4x4096x5632, .f32⟩
  | .hbm, ⟨9, _⟩ => ⟨S1x5632, .f32⟩
  | .hbm, ⟨10, _⟩ => ⟨S5632, .f32⟩
  | .hbm, ⟨11, _⟩ => ⟨S1x1x5632, .f32⟩
  | .hbm, ⟨12, _⟩ => ⟨S4x4096x5632, .f32⟩
  | .hbm, ⟨13, _⟩ => ⟨S4x4096x5632, .f32⟩
  | .hbm, ⟨14, _⟩ => ⟨S_, .f32⟩
  | .hbm, ⟨15, _⟩ => ⟨S4x4096x5632, .f32⟩
  | .hbm, ⟨16, _⟩ => ⟨S4x4096x5632, .f32⟩
  | .hbm, ⟨17, _⟩ => ⟨S4x4096x5632, .f32⟩
  | .hbm, ⟨18, _⟩ => ⟨S1x5632, .f32⟩
  | .hbm, ⟨19, _⟩ => ⟨S5632, .f32⟩
  | .hbm, ⟨20, _⟩ => ⟨S1x1x5632, .f32⟩
  | .hbm, ⟨21, _⟩ => ⟨S4x4096x5632, .f32⟩
  | .hbm, ⟨22, _⟩ => ⟨S4x4096x5632, .f32⟩
  | .hbm, ⟨23, _⟩ => ⟨S4x4096x5632, .f32⟩
  | .hbm, ⟨24, _⟩ => ⟨S4x4096x5632, .f32⟩
  | .hbm, ⟨25, _⟩ => ⟨S1x5632, .f32⟩
  | .hbm, ⟨26, _⟩ => ⟨S5632, .f32⟩
  | .hbm, ⟨27, _⟩ => ⟨S1x1x5632, .f32⟩
  | .hbm, ⟨28, _⟩ => ⟨S4x4096x5632, .f32⟩
  | .hbm, ⟨29, _⟩ => ⟨S4x4096x5632, .f32⟩
  | .hbm, ⟨30, _⟩ => ⟨S4x4096x5632, .f32⟩
  | .hbm, ⟨31, _⟩ => ⟨S4x4096x2816, .f32⟩
  | .hbm, ⟨32, _⟩ => ⟨S4x4096x2816, .f32⟩
  | .hbm, ⟨33, _⟩ => ⟨S4x4096x2816, .f32⟩
  | .hbm, ⟨34, _⟩ => ⟨S_, .f32⟩
  | .hbm, ⟨35, _⟩ => ⟨S4x4096x2816, .f32⟩
  | .hbm, ⟨36, _⟩ => ⟨S4x4096x2816, .f32⟩
  | .hbm, ⟨37, _⟩ => ⟨S_, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S16384x2816, .f32⟩
  | .hbm, ⟨44, _⟩ => ⟨S16384x2816, .bf16⟩
  | .hbm, ⟨45, _⟩ => ⟨S4x8x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== FfnDown.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== SProj.lean ====
abbrev S128x4x1024 : Shape := ⟨3, ![128, 4, 1024]⟩
abbrev S1024x9728 : Shape := ⟨2, ![1024, 9728]⟩
abbrev S128x15x512 : Shape := ⟨3, ![128, 15, 512]⟩
abbrev S4x128x1024 : Shape := ⟨3, ![4, 128, 1024]⟩
abbrev S512x1024 : Shape := ⟨2, ![512, 1024]⟩
abbrev S1024x5632 : Shape := ⟨2, ![1024, 5632]⟩
abbrev S512x5632 : Shape := ⟨2, ![512, 5632]⟩
abbrev S1024x512 : Shape := ⟨2, ![1024, 512]⟩
abbrev S512x512 : Shape := ⟨2, ![512, 512]⟩
abbrev S15x128x512 : Shape := ⟨3, ![15, 128, 512]⟩
abbrev S1920x512 : Shape := ⟨2, ![1920, 512]⟩
abbrev S2432x512 : Shape := ⟨2, ![2432, 512]⟩
abbrev S4x128x512 : Shape := ⟨3, ![4, 128, 512]⟩
abbrev S128x4x512 : Shape := ⟨3, ![128, 4, 512]⟩
abbrev S128x4x8x64 : Shape := ⟨4, ![128, 4, 8, 64]⟩

abbrev nBuf : Space → Nat
  | .hbm => 19
  | .vmem => 6
  | .smem => 0
  | _ => 0

abbrev bufTy : (tb : Table) → Fin (tcTables nBuf tb) → BufTy
  | .hbm, ⟨0, _⟩ => ⟨S128x4x1024, .f32⟩
  | .hbm, ⟨1, _⟩ => ⟨S1024x9728, .f32⟩
  | .hbm, ⟨2, _⟩ => ⟨S128x15x512, .f32⟩
  | .hbm, ⟨3, _⟩ => ⟨S4x128x1024, .f32⟩
  | .hbm, ⟨4, _⟩ => ⟨S512x1024, .f32⟩
  | .hbm, ⟨5, _⟩ => ⟨S1024x5632, .f32⟩
  | .hbm, ⟨6, _⟩ => ⟨S1024x5632, .bf16⟩
  | .hbm, ⟨7, _⟩ => ⟨S512x5632, .f32⟩
  | .hbm, ⟨8, _⟩ => ⟨S15x128x512, .f32⟩
  | .hbm, ⟨9, _⟩ => ⟨S1920x512, .f32⟩
  | .hbm, ⟨10, _⟩ => ⟨S512x512, .f32⟩
  | .hbm, ⟨11, _⟩ => ⟨S2432x512, .f32⟩
  | .hbm, ⟨12, _⟩ => ⟨S512x512, .f32⟩
  | .hbm, ⟨13, _⟩ => ⟨S4x128x512, .f32⟩
  | .hbm, ⟨14, _⟩ => ⟨S128x4x512, .f32⟩
  | .hbm, ⟨15, _⟩ => ⟨S128x4x8x64, .f32⟩
  | .hbm, ⟨16, _⟩ => ⟨S1920x512, .f32⟩
  | .hbm, ⟨17, _⟩ => ⟨S15x128x512, .f32⟩
  | .hbm, ⟨18, _⟩ => ⟨S128x15x512, .f32⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SProjRefIdeal.lean ====
abbrev S128x4x1024 : Shape := ⟨3, ![128, 4, 1024]⟩
abbrev S1024x9728 : Shape := ⟨2, ![1024, 9728]⟩
abbrev S128x15x512 : Shape := ⟨3, ![128, 15, 512]⟩
abbrev S128x4x9728 : Shape := ⟨3, ![128, 4, 9728]⟩
abbrev S128x4x512 : Shape := ⟨3, ![128, 4, 512]⟩
abbrev S128x4x8x64 : Shape := ⟨4, ![128, 4, 8, 64]⟩
abbrev S128x19x512 : Shape := ⟨3, ![128, 19, 512]⟩

abbrev nBuf : Space → Nat
  | .hbm => 9
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024x9728, .f32⟩
  | .hbm, ⟨2, _⟩ => ⟨S128x15x512, .f32⟩
  | .hbm, ⟨3, _⟩ => ⟨S128x4x9728, .f32⟩
  | .hbm, ⟨4, _⟩ => ⟨S128x4x512, .f32⟩
  | .hbm, ⟨5, _⟩ => ⟨S128x4x8x64, .f32⟩
  | .hbm, ⟨6, _⟩ => ⟨S128x4x512, .f32⟩
  | .hbm, ⟨7, _⟩ => ⟨S128x19x512, .f32⟩
  | .hbm, ⟨8, _⟩ => ⟨S128x15x512, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SRope.lean ====
abbrev S512x5632 : Shape := ⟨2, ![512, 5632]⟩
abbrev S4 : Shape := ⟨1, ![4]⟩
abbrev S4x128 : Shape := ⟨2, ![4, 128]⟩
abbrev S512 : Shape := ⟨1, ![512]⟩
abbrev S_ : Shape := ⟨0, ![]⟩
abbrev S8 : Shape := ⟨1, ![8]⟩
abbrev S512x1 : Shape := ⟨2, ![512, 1]⟩
abbrev S1x8 : Shape := ⟨2, ![1, 8]⟩
abbrev S512x8 : Shape := ⟨2, ![512, 8]⟩
abbrev S512x48 : Shape := ⟨2, ![512, 48]⟩
abbrev S512x64 : Shape := ⟨2, ![512, 64]⟩
abbrev S1x512x1x64 : Shape := ⟨4, ![1, 512, 1, 64]⟩
abbrev S1x512x8x64 : Shape := ⟨4, ![1, 512, 8, 64]⟩
abbrev S512x512 : Shape := ⟨2, ![512, 512]⟩

abbrev nBuf : Space → Nat
  | .hbm => 53
  | .vmem => 11
  | .smem => 0
  | _ => 0

abbrev bufTy : (tb : Table) → Fin (tcTables nBuf tb) → BufTy
  | .hbm, ⟨0, _⟩ => ⟨S512x5632, .f32⟩
  | .hbm, ⟨1, _⟩ => ⟨S4, .i32⟩
  | .hbm, ⟨2, _⟩ => ⟨S4x128, .i32⟩
  | .hbm, ⟨3, _⟩ => ⟨S512, .i32⟩
  | .hbm, ⟨4, _⟩ => ⟨S_, .i32⟩
  | .hbm, ⟨5, _⟩ => ⟨S512, .i32⟩
  | .hbm, ⟨6, _⟩ => ⟨S512, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S512, .f32⟩
  | .hbm, ⟨22, _⟩ => ⟨S512x1, .f32⟩
  | .hbm, ⟨23, _⟩ => ⟨S1x8, .f32⟩
  | .hbm, ⟨24, _⟩ => ⟨S512x8, .f32⟩
  | .hbm, ⟨25, _⟩ => ⟨S512x8, .f32⟩
  | .hbm, ⟨26, _⟩ => ⟨S512x8, .f32⟩
  | .hbm, ⟨27, _⟩ => ⟨S512x8, .f32⟩
  | .hbm, ⟨28, _⟩ => ⟨S512x8, .f32⟩
  | .hbm, ⟨29, _⟩ => ⟨S_, .f32⟩
  | .hbm, ⟨30, _⟩ => ⟨S512x48, .f32⟩
  | .hbm, ⟨31, _⟩ => ⟨S_, .f32⟩
  | .hbm, ⟨32, _⟩ => ⟨S512x48, .f32⟩
  | .hbm, ⟨33, _⟩ => ⟨S_, .f32⟩
  | .hbm, ⟨34, _⟩ => ⟨S512x8, .f32⟩
  | .hbm, ⟨35, _⟩ => ⟨S512x64, .f32⟩
  | .hbm, ⟨36, _⟩ => ⟨S512x8, .f32⟩
  | .hbm, ⟨37, _⟩ => ⟨S512x64, .f32⟩
  | .hbm, ⟨38, _⟩ => ⟨S512x64, .f32⟩
  | .hbm, ⟨39, _⟩ => ⟨S1x512x1x64, .f32⟩
  | .hbm, ⟨40, _⟩ => ⟨S1x512x8x64, .f32⟩
  | .hbm, ⟨41, _⟩ => ⟨S512x512, .f32⟩
  | .hbm, ⟨42, _⟩ => ⟨S1x512x1x64, .f32⟩
  | .hbm, ⟨43, _⟩ => ⟨S1x512x8x64, .f32⟩
  | .hbm, ⟨44, _⟩ => ⟨S512x512, .f32⟩
  | .hbm, ⟨45, _⟩ => ⟨S1x512x1x64, .f32⟩
  | .hbm, ⟨46, _⟩ => ⟨S1x512x8x64, .f32⟩
  | .hbm, ⟨47, _⟩ => ⟨S512x512, .f32⟩
  | .hbm, ⟨48, _⟩ => ⟨S512x512, .f32⟩
  | .hbm, ⟨49, _⟩ => ⟨S512x512, .bf16⟩
  | .hbm, ⟨50, _⟩ => ⟨S512x512, .f32⟩
  | .hbm, ⟨51, _⟩ => ⟨S512x512, .bf16⟩
  | .hbm, ⟨52, _⟩ => ⟨S512x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .bf16⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | _, _ => ⟨S512x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39_0 : Ref sig .tc := ⟨.hbm, 48, rfl⟩
abbrev main_v39_1 : Ref sig .tc := ⟨.hbm, 49, rfl⟩
abbrev main_v39_2 : Ref sig .tc := ⟨.hbm, 50, rfl⟩
abbrev main_v39_3 : Ref sig .tc := ⟨.hbm, 51, rfl⟩
abbrev main_v39_4 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== SRopeRefIdeal.lean ====
abbrev S512x5632 : Shape := ⟨2, ![512, 5632]⟩
abbrev S4x128x5632 : Shape := ⟨3, ![4, 128, 5632]⟩
abbrev S128x4x5632 : Shape := ⟨3, ![128, 4, 5632]⟩
abbrev S4 : Shape := ⟨1, ![4]⟩
abbrev S_ : Shape := ⟨0, ![]⟩
abbrev S128x4x512 : Shape := ⟨3, ![128, 4, 512]⟩
abbrev S128x4x8x64 : Shape := ⟨4, ![128, 4, 8, 64]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S1x4x1x8 : Shape := ⟨4, ![1, 4, 1, 8]⟩
abbrev S128x4x8x8 : Shape := ⟨4, ![128, 4, 8, 8]⟩
abbrev S128x4x8x48 : Shape := ⟨4, ![128, 4, 8, 48]⟩
abbrev S4x128x8x64 : Shape := ⟨4, ![4, 128, 8, 64]⟩
abbrev S512x512 : Shape := ⟨2, ![512, 512]⟩

abbrev nBuf : Space → Nat
  | .hbm => 91
  | .vmem => 0
  | .smem => 0
  | _ => 0

abbrev bufTy : (tb : Table) → Fin (tcTables nBuf tb) → BufTy
  | .hbm, ⟨0, _⟩ => ⟨S512x5632, .f32⟩
  | .hbm, ⟨1, _⟩ => ⟨S4x128x5632, .f32⟩
  | .hbm, ⟨2, _⟩ => ⟨S128x4x5632, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S128x4x512, .f32⟩
  | .hbm, ⟨8, _⟩ => ⟨S128x4x8x64, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S4, .f32⟩
  | .hbm, ⟨24, _⟩ => ⟨S4x1, .f32⟩
  | .hbm, ⟨25, _⟩ => ⟨S1x8, .f32⟩
  | .hbm, ⟨26, _⟩ => ⟨S4x8, .f32⟩
  | .hbm, ⟨27, _⟩ => ⟨S4x8, .f32⟩
  | .hbm, ⟨28, _⟩ => ⟨S4x8, .f32⟩
  | .hbm, ⟨29, _⟩ => ⟨S4x8, .f32⟩
  | .hbm, ⟨30, _⟩ => ⟨S1x4x1x8, .f32⟩
  | .hbm, ⟨31, _⟩ => ⟨S4x8, .f32⟩
  | .hbm, ⟨32, _⟩ => ⟨S1x4x1x8, .f32⟩
  | .hbm, ⟨33, _⟩ => ⟨S128x4x8x8, .f32⟩
  | .hbm, ⟨34, _⟩ => ⟨S128x4x8x8, .f32⟩
  | .hbm, ⟨35, _⟩ => ⟨S128x4x8x8, .f32⟩
  | .hbm, ⟨36, _⟩ => ⟨S128x4x8x8, .f32⟩
  | .hbm, ⟨37, _⟩ => ⟨S128x4x8x8, .f32⟩
  | .hbm, ⟨38, _⟩ => ⟨S128x4x8x8, .f32⟩
  | .hbm, ⟨39, _⟩ => ⟨S128x4x8x8, .f32⟩
  | .hbm, ⟨40, _⟩ => ⟨S128x4x8x8, .f32⟩
  | .hbm, ⟨41, _⟩ => ⟨S128x4x8x8, .f32⟩
  | .hbm, ⟨42, _⟩ => ⟨S128x4x8x8, .f32⟩
  | .hbm, ⟨43, _⟩ => ⟨S128x4x8x8, .f32⟩
  | .hbm, ⟨44, _⟩ => ⟨S128x4x8x8, .f32⟩
  | .hbm, ⟨45, _⟩ => ⟨S128x4x8x48, .f32⟩
  | .hbm, ⟨46, _⟩ => ⟨S128x4x8x64, .f32⟩
  | .hbm, ⟨47, _⟩ => ⟨S4x128x8x64, .f32⟩
  | .hbm, ⟨48, _⟩ => ⟨S512x512, .f32⟩
  | .hbm, ⟨49, _⟩ => ⟨S128x4x512, .f32⟩
  | .hbm, ⟨50, _⟩ => ⟨S128x4x8x64, .f32⟩
  | .hbm, ⟨51, _⟩ => ⟨S8, .f32⟩
  | .hbm, ⟨52, _⟩ => ⟨S_, .f32⟩
  | .hbm, ⟨53, _⟩ => ⟨S8, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S4, .f32⟩
  | .hbm, ⟨66, _⟩ => ⟨S4x1, .f32⟩
  | .hbm, ⟨67, _⟩ => ⟨S1x8, .f32⟩
  | .hbm, ⟨68, _⟩ => ⟨S4x8, .f32⟩
  | .hbm, ⟨69, _⟩ => ⟨S4x8, .f32⟩
  | .hbm, ⟨70, _⟩ => ⟨S4x8, .f32⟩
  | .hbm, ⟨71, _⟩ => ⟨S4x8, .f32⟩
  | .hbm, ⟨72, _⟩ => ⟨S1x4x1x8, .f32⟩
  | .hbm, ⟨73, _⟩ => ⟨S4x8, .f32⟩
  | .hbm, ⟨74, _⟩ => ⟨S1x4x1x8, .f32⟩
  | .hbm, ⟨75, _⟩ => ⟨S128x4x8x8, .f32⟩
  | .hbm, ⟨76, _⟩ => ⟨S128x4x8x8, .f32⟩
  | .hbm, ⟨77, _⟩ => ⟨S128x4x8x8, .f32⟩
  | .hbm, ⟨78, _⟩ => ⟨S128x4x8x8, .f32⟩
  | .hbm, ⟨79, _⟩ => ⟨S128x4x8x8, .f32⟩
  | .hbm, ⟨80, _⟩ => ⟨S128x4x8x8, .f32⟩
  | .hbm, ⟨81, _⟩ => ⟨S128x4x8x8, .f32⟩
  | .hbm, ⟨82, _⟩ => ⟨S128x4x8x8, .f32⟩
  | .hbm, ⟨83, _⟩ => ⟨S128x4x8x8, .f32⟩
  | .hbm, ⟨84, _⟩ => ⟨S128x4x8x8, .f32⟩
  | .hbm, ⟨85, _⟩ => ⟨S128x4x8x8, .f32⟩
  | .hbm, ⟨86, _⟩ => ⟨S128x4x8x8, .f32⟩
  | .hbm, ⟨87, _⟩ => ⟨S128x4x8x48, .f32⟩
  | .hbm, ⟨88, _⟩ => ⟨S128x4x8x64, .f32⟩
  | .hbm, ⟨89, _⟩ => ⟨S4x128x8x64, .f32⟩
  | .hbm, ⟨90, _⟩ => ⟨S512x512, .f32⟩
  | _, _ => ⟨S512x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_3 : Ref sig .tc := ⟨.hbm, 52, rfl⟩
abbrev main_v46 : Ref sig .tc := ⟨.hbm, 53, rfl⟩
abbrev main_v47 : Ref sig .tc := ⟨.hbm, 54, rfl⟩
abbrev main_cst_4 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_5 : Ref sig .tc := ⟨.hbm, 59, rfl⟩
abbrev main_v51 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩

abbrev nD : Nat := 1
abbrev τ : Topo := Topo.v7x

variable {F : FTy → Type} [FloatOps F]
-- ==== SMix.lean ====
abbrev S2432x512 : Shape := ⟨2, ![2432, 512]⟩
abbrev S512x5632 : Shape := ⟨2, ![512, 5632]⟩
abbrev S128x2x512 : Shape := ⟨3, ![128, 2, 512]⟩
abbrev S4x128x128 : Shape := ⟨3, ![4, 128, 128]⟩
abbrev S512 : Shape := ⟨1, ![512]⟩
abbrev S3x512 : Shape := ⟨2, ![3, 512]⟩
abbrev S2x128x512 : Shape := ⟨3, ![2, 128, 512]⟩
abbrev S256x512 : Shape := ⟨2, ![256, 512]⟩
abbrev S1x512 : Shape := ⟨2, ![1, 512]⟩
abbrev S512x512 : Shape := ⟨2, ![512, 512]⟩
abbrev S128x512 : Shape := ⟨2, ![128, 512]⟩
abbrev S128x128 : Shape := ⟨2, ![128, 128]⟩
abbrev S1x128x128 : Shape := ⟨3, ![1, 128, 128]⟩
abbrev S1x128 : Shape := ⟨2, ![1, 128]⟩

abbrev nBuf : Space → Nat
  | .hbm => 13
  | .vmem => 11
  | .smem => 0
  | _ => 0

abbrev bufTy : (tb : Table) → Fin (tcTables nBuf tb) → BufTy
  | .hbm, ⟨0, _⟩ => ⟨S2432x512, .f32⟩
  | .hbm, ⟨1, _⟩ => ⟨S512x5632, .f32⟩
  | .hbm, ⟨2, _⟩ => ⟨S128x2x512, .f32⟩
  | .hbm, ⟨3, _⟩ => ⟨S4x128x128, .f32⟩
  | .hbm, ⟨4, _⟩ => ⟨S512, .f32⟩
  | .hbm, ⟨5, _⟩ => ⟨S3x512, .f32⟩
  | .hbm, ⟨6, _⟩ => ⟨S2x128x512, .f32⟩
  | .hbm, ⟨7, _⟩ => ⟨S256x512, .f32⟩
  | .hbm, ⟨8, _⟩ => ⟨S4x128x128, .bf16⟩
  | .hbm, ⟨9, _⟩ => ⟨S1x512, .f32⟩
  | .hbm, ⟨10, _⟩ => ⟨S512x512, .bf16⟩
  | .hbm, ⟨11, _⟩ => ⟨S512x512, .bf16⟩
  | .hbm, ⟨12, _⟩ => ⟨S256x512, .f32⟩
  | .local _ .vmem, ⟨0, _⟩ => ⟨S2432x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S4x128x128, .bf16⟩
  | .local _ .vmem, ⟨6, _⟩ => ⟨S1x512, .f32⟩
  | .local _ .vmem, ⟨7, _⟩ => ⟨S3x512, .f32⟩
  | .local _ .vmem, ⟨8, _⟩ => ⟨S512x512, .bf16⟩
  | .local _ .vmem, ⟨9, _⟩ => ⟨S512x512, .bf16⟩
  | .local _ .vmem, ⟨10, _⟩ => ⟨S256x512, .f32⟩
  | _, _ => ⟨S2432x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_2 (i : grid0.Coords) : Fin 2 → Nat :=
  let arg0 : BitVec 32 := BitVec.ofNat 32 (i 0).val
  let c0_i32 : BitVec 32 := 0#32
  let c9_i32 : BitVec 32 := 9#32
  let c0_i32_0 : BitVec 32 := 0#32
  ![c0_i32.toNat, c9_i32.toNat]

def cc0_transform_3 (i : grid0.Coords) : Fin 2 → Nat :=
  let arg0 : BitVec 32 := BitVec.ofNat 32 (i 0).val
  let c0_i32 : BitVec 32 := 0#32
  let c10_i32 : BitVec 32 := 10#32
  let c0_i32_0 : BitVec 32 := 0#32
  ![c0_i32.toNat, c10_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2432x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SMixRefIdeal.lean ====
abbrev S2432x512 : Shape := ⟨2, ![2432, 512]⟩
abbrev S512x5632 : Shape := ⟨2, ![512, 5632]⟩
abbrev S128x2x512 : Shape := ⟨3, ![128, 2, 512]⟩
abbrev S4x128x128 : Shape := ⟨3, ![4, 128, 128]⟩
abbrev S512 : Shape := ⟨1, ![512]⟩
abbrev S3x512 : Shape := ⟨2, ![3, 512]⟩
abbrev S4x128x5632 : Shape := ⟨3, ![4, 128, 5632]⟩
abbrev S2x128x512 : Shape := ⟨3, ![2, 128, 512]⟩
abbrev S4x128x512 : Shape := ⟨3, ![4, 128, 512]⟩
abbrev S6x128x512 : Shape := ⟨3, ![6, 128, 512]⟩
abbrev S1x512 : Shape := ⟨2, ![1, 512]⟩
abbrev S1x1x512 : Shape := ⟨3, ![1, 1, 512]⟩
abbrev S_ : Shape := ⟨0, ![]⟩
abbrev S512x512 : Shape := ⟨2, ![512, 512]⟩
abbrev S256x512 : Shape := ⟨2, ![256, 512]⟩

abbrev nBuf : Space → Nat
  | .hbm => 41
  | .vmem => 0
  | .smem => 0
  | _ => 0

abbrev bufTy : (tb : Table) → Fin (tcTables nBuf tb) → BufTy
  | .hbm, ⟨0, _⟩ => ⟨S2432x512, .f32⟩
  | .hbm, ⟨1, _⟩ => ⟨S512x5632, .f32⟩
  | .hbm, ⟨2, _⟩ => ⟨S128x2x512, .f32⟩
  | .hbm, ⟨3, _⟩ => ⟨S4x128x128, .f32⟩
  | .hbm, ⟨4, _⟩ => ⟨S512, .f32⟩
  | .hbm, ⟨5, _⟩ => ⟨S3x512, .f32⟩
  | .hbm, ⟨6, _⟩ => ⟨S4x128x5632, .f32⟩
  | .hbm, ⟨7, _⟩ => ⟨S2x128x512, .f32⟩
  | .hbm, ⟨8, _⟩ => ⟨S4x128x512, .f32⟩
  | .hbm, ⟨9, _⟩ => ⟨S4x128x512, .f32⟩
  | .hbm, ⟨10, _⟩ => ⟨S4x128x512, .f32⟩
  | .hbm, ⟨11, _⟩ => ⟨S6x128x512, .f32⟩
  | .hbm, ⟨12, _⟩ => ⟨S4x128x512, .f32⟩
  | .hbm, ⟨13, _⟩ => ⟨S1x512, .f32⟩
  | .hbm, ⟨14, _⟩ => ⟨S512, .f32⟩
  | .hbm, ⟨15, _⟩ => ⟨S1x1x512, .f32⟩
  | .hbm, ⟨16, _⟩ => ⟨S4x128x512, .f32⟩
  | .hbm, ⟨17, _⟩ => ⟨S4x128x512, .f32⟩
  | .hbm, ⟨18, _⟩ => ⟨S_, .f32⟩
  | .hbm, ⟨19, _⟩ => ⟨S4x128x512, .f32⟩
  | .hbm, ⟨20, _⟩ => ⟨S4x128x512, .f32⟩
  | .hbm, ⟨21, _⟩ => ⟨S4x128x512, .f32⟩
  | .hbm, ⟨22, _⟩ => ⟨S1x512, .f32⟩
  | .hbm, ⟨23, _⟩ => ⟨S512, .f32⟩
  | .hbm, ⟨24, _⟩ => ⟨S1x1x512, .f32⟩
  | .hbm, ⟨25, _⟩ => ⟨S4x128x512, .f32⟩
  | .hbm, ⟨26, _⟩ => ⟨S4x128x512, .f32⟩
  | .hbm, ⟨27, _⟩ => ⟨S4x128x512, .f32⟩
  | .hbm, ⟨28, _⟩ => ⟨S4x128x512, .f32⟩
  | .hbm, ⟨29, _⟩ => ⟨S1x512, .f32⟩
  | .hbm, ⟨30, _⟩ => ⟨S512, .f32⟩
  | .hbm, ⟨31, _⟩ => ⟨S1x1x512, .f32⟩
  | .hbm, ⟨32, _⟩ => ⟨S4x128x512, .f32⟩
  | .hbm, ⟨33, _⟩ => ⟨S4x128x512, .f32⟩
  | .hbm, ⟨34, _⟩ => ⟨S4x128x512, .f32⟩
  | .hbm, ⟨35, _⟩ => ⟨S4x128x512, .f32⟩
  | .hbm, ⟨36, _⟩ => ⟨S4x128x512, .f32⟩
  | .hbm, ⟨37, _⟩ => ⟨S512x512, .f32⟩
  | .hbm, ⟨38, _⟩ => ⟨S512x512, .bf16⟩
  | .hbm, ⟨39, _⟩ => ⟨S2x128x512, .f32⟩
  | .hbm, ⟨40, _⟩ => ⟨S256x512, .f32⟩
  | _, _ => ⟨S2432x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== SUp.lean ====
abbrev S512x1024 : Shape := ⟨2, ![512, 1024]⟩
abbrev S1024x5632 : Shape := ⟨2, ![1024, 5632]⟩
abbrev S128x2x5632 : Shape := ⟨3, ![128, 2, 5632]⟩
abbrev S512x5632 : Shape := ⟨2, ![512, 5632]⟩
abbrev S1024x512 : Shape := ⟨2, ![1024, 512]⟩
abbrev S512x512 : Shape := ⟨2, ![512, 512]⟩
abbrev S2x128x5632 : Shape := ⟨3, ![2, 128, 5632]⟩
abbrev S256x5632 : Shape := ⟨2, ![256, 5632]⟩
abbrev S768x5632 : Shape := ⟨2, ![768, 5632]⟩

abbrev nBuf : Space → Nat
  | .hbm => 11
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x5632, .f32⟩
  | .hbm, ⟨2, _⟩ => ⟨S128x2x5632, .f32⟩
  | .hbm, ⟨3, _⟩ => ⟨S1024x5632, .bf16⟩
  | .hbm, ⟨4, _⟩ => ⟨S512x5632, .f32⟩
  | .hbm, ⟨5, _⟩ => ⟨S2x128x5632, .f32⟩
  | .hbm, ⟨6, _⟩ => ⟨S256x5632, .f32⟩
  | .hbm, ⟨7, _⟩ => ⟨S768x5632, .f32⟩
  | .hbm, ⟨8, _⟩ => ⟨S256x5632, .f32⟩
  | .hbm, ⟨9, _⟩ => ⟨S2x128x5632, .f32⟩
  | .hbm, ⟨10, _⟩ => ⟨S128x2x5632, .f32⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SUpRefIdeal.lean ====
abbrev S512x1024 : Shape := ⟨2, ![512, 1024]⟩
abbrev S1024x5632 : Shape := ⟨2, ![1024, 5632]⟩
abbrev S128x2x5632 : Shape := ⟨3, ![128, 2, 5632]⟩
abbrev S512x5632 : Shape := ⟨2, ![512, 5632]⟩
abbrev S2x128x5632 : Shape := ⟨3, ![2, 128, 5632]⟩
abbrev S4x128x5632 : Shape := ⟨3, ![4, 128, 5632]⟩
abbrev S6x128x5632 : Shape := ⟨3, ![6, 128, 5632]⟩
abbrev S768x5632 : Shape := ⟨2, ![768, 5632]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x5632, .f32⟩
  | .hbm, ⟨2, _⟩ => ⟨S128x2x5632, .f32⟩
  | .hbm, ⟨3, _⟩ => ⟨S512x5632, .f32⟩
  | .hbm, ⟨4, _⟩ => ⟨S2x128x5632, .f32⟩
  | .hbm, ⟨5, _⟩ => ⟨S4x128x5632, .f32⟩
  | .hbm, ⟨6, _⟩ => ⟨S6x128x5632, .f32⟩
  | .hbm, ⟨7, _⟩ => ⟨S768x5632, .f32⟩
  | .hbm, ⟨8, _⟩ => ⟨S2x128x5632, .f32⟩
  | .hbm, ⟨9, _⟩ => ⟨S128x2x5632, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SDown.lean ====
abbrev S768x5632 : Shape := ⟨2, ![768, 5632]⟩
abbrev S3x5632 : Shape := ⟨2, ![3, 5632]⟩
abbrev S2816x1024 : Shape := ⟨2, ![2816, 1024]⟩
abbrev S512x1024 : Shape := ⟨2, ![512, 1024]⟩
abbrev S1024 : Shape := ⟨1, ![1024]⟩
abbrev S1x1024 : Shape := ⟨2, ![1, 1024]⟩
abbrev S128x2816 : Shape := ⟨2, ![128, 2816]⟩
abbrev S3x2816 : Shape := ⟨2, ![3, 2816]⟩
abbrev S128x1024 : Shape := ⟨2, ![128, 1024]⟩
abbrev S1x2816 : Shape := ⟨2, ![1, 2816]⟩
abbrev S128 : Shape := ⟨1, ![128]⟩
abbrev S128x1 : Shape := ⟨2, ![128, 1]⟩

abbrev nBuf : Space → Nat
  | .hbm => 10
  | .vmem => 21
  | .smem => 0
  | _ => 0

abbrev bufTy : (tb : Table) → Fin (tcTables nBuf tb) → BufTy
  | .hbm, ⟨0, _⟩ => ⟨S768x5632, .f32⟩
  | .hbm, ⟨1, _⟩ => ⟨S3x5632, .f32⟩
  | .hbm, ⟨2, _⟩ => ⟨S2816x1024, .f32⟩
  | .hbm, ⟨3, _⟩ => ⟨S512x1024, .f32⟩
  | .hbm, ⟨4, _⟩ => ⟨S1024, .f32⟩
  | .hbm, ⟨5, _⟩ => ⟨S1024, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S512x1024, .f32⟩
  | .local _ .vmem, ⟨0, _⟩ => ⟨S128x2816, .f32⟩
  | .local _ .vmem, ⟨1, _⟩ => ⟨S128x2816, .f32⟩
  | .local _ .vmem, ⟨2, _⟩ => ⟨S128x2816, .f32⟩
  | .local _ .vmem, ⟨3, _⟩ => ⟨S128x2816, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S128x2816, .f32⟩
  | .local _ .vmem, ⟨9, _⟩ => ⟨S128x2816, .f32⟩
  | .local _ .vmem, ⟨10, _⟩ => ⟨S128x2816, .f32⟩
  | .local _ .vmem, ⟨11, _⟩ => ⟨S128x2816, .f32⟩
  | .local _ .vmem, ⟨12, _⟩ => ⟨S3x2816, .f32⟩
  | .local _ .vmem, ⟨13, _⟩ => ⟨S3x2816, .f32⟩
  | .local _ .vmem, ⟨14, _⟩ => ⟨S2816x1024, .bf16⟩
  | .local _ .vmem, ⟨15, _⟩ => ⟨S128x1024, .f32⟩
  | .local _ .vmem, ⟨16, _⟩ => ⟨S128x1024, .f32⟩
  | .local _ .vmem, ⟨17, _⟩ => ⟨S1x1024, .f32⟩
  | .local _ .vmem, ⟨18, _⟩ => ⟨S1x1024, .f32⟩
  | .local _ .vmem, ⟨19, _⟩ => ⟨S128x1024, .f32⟩
  | .local _ .vmem, ⟨20, _⟩ => ⟨S128x1024, .f32⟩
  | _, _ => ⟨S768x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c1_i32_0 : BitVec 32 := 1#32
  let c0_i32 : BitVec 32 := 0#32
  ![v0.toNat, c1_i32_0.toNat]

def cc0_transform_5 (i : grid0.Coords) : Fin 2 → Nat :=
  let arg0 : BitVec 32 := BitVec.ofNat 32 (i 0).val
  let c2_i32 : BitVec 32 := 2#32
  let v0 : BitVec 32 := Scalar.addi arg0 c2_i32
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== SDownRefIdeal.lean ====
abbrev S768x5632 : Shape := ⟨2, ![768, 5632]⟩
abbrev S3x5632 : Shape := ⟨2, ![3, 5632]⟩
abbrev S2816x1024 : Shape := ⟨2, ![2816, 1024]⟩
abbrev S512x1024 : Shape := ⟨2, ![512, 1024]⟩
abbrev S1024 : Shape := ⟨1, ![1024]⟩
abbrev S6x128x5632 : Shape := ⟨3, ![6, 128, 5632]⟩
abbrev S4x128x5632 : Shape := ⟨3, ![4, 128, 5632]⟩
abbrev S1x5632 : Shape := ⟨2, ![1, 5632]⟩
abbrev S5632 : Shape := ⟨1, ![5632]⟩
abbrev S1x1x5632 : Shape := ⟨3, ![1, 1, 5632]⟩
abbrev S_ : Shape := ⟨0, ![]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S1x1024 : Shape := ⟨2, ![1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S768x5632, .f32⟩
  | .hbm, ⟨1, _⟩ => ⟨S3x5632, .f32⟩
  | .hbm, ⟨2, _⟩ => ⟨S2816x1024, .f32⟩
  | .hbm, ⟨3, _⟩ => ⟨S512x1024, .f32⟩
  | .hbm, ⟨4, _⟩ => ⟨S1024, .f32⟩
  | .hbm, ⟨5, _⟩ => ⟨S1024, .f32⟩
  | .hbm, ⟨6, _⟩ => ⟨S6x128x5632, .f32⟩
  | .hbm, ⟨7, _⟩ => ⟨S4x128x5632, .f32⟩
  | .hbm, ⟨8, _⟩ => ⟨S1x5632, .f32⟩
  | .hbm, ⟨9, _⟩ => ⟨S5632, .f32⟩
  | .hbm, ⟨10, _⟩ => ⟨S1x1x5632, .f32⟩
  | .hbm, ⟨11, _⟩ => ⟨S4x128x5632, .f32⟩
  | .hbm, ⟨12, _⟩ => ⟨S4x128x5632, .f32⟩
  | .hbm, ⟨13, _⟩ => ⟨S_, .f32⟩
  | .hbm, ⟨14, _⟩ => ⟨S4x128x5632, .f32⟩
  | .hbm, ⟨15, _⟩ => ⟨S4x128x5632, .f32⟩
  | .hbm, ⟨16, _⟩ => ⟨S4x128x5632, .f32⟩
  | .hbm, ⟨17, _⟩ => ⟨S1x5632, .f32⟩
  | .hbm, ⟨18, _⟩ => ⟨S5632, .f32⟩
  | .hbm, ⟨19, _⟩ => ⟨S1x1x5632, .f32⟩
  | .hbm, ⟨20, _⟩ => ⟨S4x128x5632, .f32⟩
  | .hbm, ⟨21, _⟩ => ⟨S4x128x5632, .f32⟩
  | .hbm, ⟨22, _⟩ => ⟨S4x128x5632, .f32⟩
  | .hbm, ⟨23, _⟩ => ⟨S4x128x5632, .f32⟩
  | .hbm, ⟨24, _⟩ => ⟨S1x5632, .f32⟩
  | .hbm, ⟨25, _⟩ => ⟨S5632, .f32⟩
  | .hbm, ⟨26, _⟩ => ⟨S1x1x5632, .f32⟩
  | .hbm, ⟨27, _⟩ => ⟨S4x128x5632, .f32⟩
  | .hbm, ⟨28, _⟩ => ⟨S4x128x5632, .f32⟩
  | .hbm, ⟨29, _⟩ => ⟨S4x128x5632, .f32⟩
  | .hbm, ⟨30, _⟩ => ⟨S512x5632, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S_, .f32⟩
  | .hbm, ⟨35, _⟩ => ⟨S512x2816, .f32⟩
  | .hbm, ⟨36, _⟩ => ⟨S512x2816, .f32⟩
  | .hbm, ⟨37, _⟩ => ⟨S_, .f32⟩
  | .hbm, ⟨38, _⟩ => ⟨S512x2816, .f32⟩
  | .hbm, ⟨39, _⟩ => ⟨S512x2816, .f32⟩
  | .hbm, ⟨40, _⟩ => ⟨S512x2816, .f32⟩
  | .hbm, ⟨41, _⟩ => ⟨S512x2816, .f32⟩
  | .hbm, ⟨42, _⟩ => ⟨S512x2816, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S512x1024, .f32⟩
  | .hbm, ⟨55, _⟩ => ⟨S512x1024, .f32⟩
  | .hbm, ⟨56, _⟩ => ⟨S512x1024, .f32⟩
  | .hbm, ⟨57, _⟩ => ⟨S_, .f32⟩
  | .hbm, ⟨58, _⟩ => ⟨S512, .f32⟩
  | .hbm, ⟨59, _⟩ => ⟨S512x1, .f32⟩
  | .hbm, ⟨60, _⟩ => ⟨S_, .f32⟩
  | .hbm, ⟨61, _⟩ => ⟨S512x1, .f32⟩
  | .hbm, ⟨62, _⟩ => ⟨S512x1, .f32⟩
  | .hbm, ⟨63, _⟩ => ⟨S512x1024, .f32⟩
  | .hbm, ⟨64, _⟩ => ⟨S512x1024, .f32⟩
  | .hbm, ⟨65, _⟩ => ⟨S_, .f32⟩
  | .hbm, ⟨66, _⟩ => ⟨S512x1, .f32⟩
  | .hbm, ⟨67, _⟩ => ⟨S512x1, .f32⟩
  | .hbm, ⟨68, _⟩ => ⟨S512x1, .f32⟩
  | .hbm, ⟨69, _⟩ => ⟨S512x1024, .f32⟩
  | .hbm, ⟨70, _⟩ => ⟨S512x1024, .f32⟩
  | .hbm, ⟨71, _⟩ => ⟨S1x1024, .f32⟩
  | .hbm, ⟨72, _⟩ => ⟨S512x1024, .f32⟩
  | .hbm, ⟨73, _⟩ => ⟨S512x1024, .f32⟩
  | .hbm, ⟨74, _⟩ => ⟨S1x1024, .f32⟩
  | .hbm, ⟨75, _⟩ => ⟨S512x1024, .f32⟩
  | .hbm, ⟨76, _⟩ => ⟨S512x1024, .f32⟩
  | _, _ => ⟨S768x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_1 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩

abbrev nD : Nat := 1
abbrev τ : Topo := Topo.v7x

variable {F : FTy → Type} [FloatOps F]
-- ==== Prep.lean ====
abbrev S16384x5632 : Shape := ⟨2, ![16384, 5632]⟩
abbrev S4x2048x4096 : Shape := ⟨3, ![4, 2048, 4096]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S16384x512 : Shape := ⟨2, ![16384, 512]⟩
abbrev S2048x4096 : Shape := ⟨2, ![2048, 4096]⟩
abbrev S4x128x4096 : Shape := ⟨3, ![4, 128, 4096]⟩
abbrev S256x1536 : Shape := ⟨2, ![256, 1536]⟩
abbrev S256x512 : Shape := ⟨2, ![256, 512]⟩
abbrev S1x512x256 : Shape := ⟨3, ![1, 512, 256]⟩
abbrev S512x256 : Shape := ⟨2, ![512, 256]⟩
abbrev S1x128x256 : Shape := ⟨3, ![1, 128, 256]⟩
abbrev S16x512 : Shape := ⟨2, ![16, 512]⟩
abbrev S128x512 : Shape := ⟨2, ![128, 512]⟩
abbrev S128x256 : Shape := ⟨2, ![128, 256]⟩
abbrev S8x16x256 : Shape := ⟨3, ![8, 16, 256]⟩
abbrev S8x256 : Shape := ⟨2, ![8, 256]⟩
abbrev S8x1x256 : Shape := ⟨3, ![8, 1, 256]⟩
abbrev S512 : Shape := ⟨1, ![512]⟩
abbrev S1x512 : Shape := ⟨2, ![1, 512]⟩

abbrev nBuf : Space → Nat
  | .hbm => 51
  | .vmem => 21
  | .smem => 0
  | _ => 0

abbrev bufTy : (tb : Table) → Fin (tcTables nBuf tb) → BufTy
  | .hbm, ⟨0, _⟩ => ⟨S16384x5632, .f32⟩
  | .hbm, ⟨1, _⟩ => ⟨S4x2048x4096, .f32⟩
  | .hbm, ⟨2, _⟩ => ⟨S4x2048x4096, .f32⟩
  | .hbm, ⟨3, _⟩ => ⟨S4096, .i32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S4096, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x48, .f32⟩
  | .hbm, ⟨30, _⟩ => ⟨S_, .f32⟩
  | .hbm, ⟨31, _⟩ => ⟨S4096x8, .f32⟩
  | .hbm, ⟨32, _⟩ => ⟨S4096x64, .f32⟩
  | .hbm, ⟨33, _⟩ => ⟨S4096x8, .f32⟩
  | .hbm, ⟨34, _⟩ => ⟨S4096x64, .f32⟩
  | .hbm, ⟨35, _⟩ => ⟨S4096x64, .f32⟩
  | .hbm, ⟨36, _⟩ => ⟨S1x4096x1x64, .f32⟩
  | .hbm, ⟨37, _⟩ => ⟨S1x4096x8x64, .f32⟩
  | .hbm, ⟨38, _⟩ => ⟨S4096x512, .f32⟩
  | .hbm, ⟨39, _⟩ => ⟨S1x4096x1x64, .f32⟩
  | .hbm, ⟨40, _⟩ => ⟨S1x4096x8x64, .f32⟩
  | .hbm, ⟨41, _⟩ => ⟨S4096x512, .f32⟩
  | .hbm, ⟨42, _⟩ => ⟨S1x4096x1x64, .f32⟩
  | .hbm, ⟨43, _⟩ => ⟨S1x4096x8x64, .f32⟩
  | .hbm, ⟨44, _⟩ => ⟨S4096x512, .f32⟩
  | .hbm, ⟨45, _⟩ => ⟨S4x2048x4096, .f32⟩
  | .hbm, ⟨46, _⟩ => ⟨S4x2048x4096, .f32⟩
  | .hbm, ⟨47, _⟩ => ⟨S16384x512, .bf16⟩
  | .hbm, ⟨48, _⟩ => ⟨S2048x4096, .bf16⟩
  | .hbm, ⟨49, _⟩ => ⟨S2048x4096, .bf16⟩
  | .hbm, ⟨50, _⟩ => ⟨S4x128x4096, .f32⟩
  | .local _ .vmem, ⟨0, _⟩ => ⟨S256x1536, .f32⟩
  | .local _ .vmem, ⟨1, _⟩ => ⟨S256x1536, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S256x512, .bf16⟩
  | .local _ .vmem, ⟨13, _⟩ => ⟨S256x512, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S1x128x256, .f32⟩
  | .local _ .vmem, ⟨19, _⟩ => ⟨S1x128x256, .f32⟩
  | .local _ .vmem, ⟨20, _⟩ => ⟨S16x512, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35_0 : Ref sig .tc := ⟨.hbm, 45, rfl⟩
abbrev main_v35_1 : Ref sig .tc := ⟨.hbm, 46, rfl⟩
abbrev main_v35_2 : Ref sig .tc := ⟨.hbm, 47, rfl⟩
abbrev main_v35_3 : Ref sig .tc := ⟨.hbm, 48, rfl⟩
abbrev main_v35_4 : Ref sig .tc := ⟨.hbm, 49, rfl⟩
abbrev main_v35_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def k0_off1 (i : grid0.Coords) : Fin 2 → Nat :=
  let arg1 : BitVec 32 := BitVec.ofNat 32 (i 1).val
  let v350 : Index := Scalar.indexCast arg1
  let c0_116 : Index := 0#32
  ![v350.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== PrepRefIdeal.lean ====
abbrev S16384x5632 : Shape := ⟨2, ![16384, 5632]⟩
abbrev S4x2048x4096 : Shape := ⟨3, ![4, 2048, 4096]⟩
abbrev S4x4096x5632 : Shape := ⟨3, ![4, 4096, 5632]⟩
abbrev S4x4096x512 : Shape := ⟨3, ![4, 4096, 512]⟩
abbrev S4x4096x8x64 : Shape := ⟨4, ![4, 4096, 8, 64]⟩
abbrev S4096 : Shape := ⟨1, ![4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x8 : Shape := ⟨4, ![4, 4096, 8, 8]⟩
abbrev S4x4096x8x48 : Shape := ⟨4, ![4, 4096, 8, 48]⟩
abbrev S1x2048x4096 : Shape := ⟨3, ![1, 2048, 4096]⟩
abbrev S4x512x4096 : Shape := ⟨3, ![4, 512, 4096]⟩
abbrev S2x2048x4096 : Shape := ⟨3, ![2, 2048, 4096]⟩

abbrev nBuf : Space → Nat
  | .hbm => 57
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S4x2048x4096, .f32⟩
  | .hbm, ⟨2, _⟩ => ⟨S4x2048x4096, .f32⟩
  | .hbm, ⟨3, _⟩ => ⟨S4x4096x5632, .f32⟩
  | .hbm, ⟨4, _⟩ => ⟨S4x4096x512, .f32⟩
  | .hbm, ⟨5, _⟩ => ⟨S4x4096x8x64, .f32⟩
  | .hbm, ⟨6, _⟩ => ⟨S4096, .i32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S4096, .f32⟩
  | .hbm, ⟨22, _⟩ => ⟨S4096x1, .f32⟩
  | .hbm, ⟨23, _⟩ => ⟨S1x8, .f32⟩
  | .hbm, ⟨24, _⟩ => ⟨S4096x8, .f32⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S1x4096x1x8, .f32⟩
  | .hbm, ⟨29, _⟩ => ⟨S4096x8, .f32⟩
  | .hbm, ⟨30, _⟩ => ⟨S1x4096x1x8, .f32⟩
  | .hbm, ⟨31, _⟩ => ⟨S4x4096x8x8, .f32⟩
  | .hbm, ⟨32, _⟩ => ⟨S4x4096x8x8, .f32⟩
  | .hbm, ⟨33, _⟩ => ⟨S4x4096x8x8, .f32⟩
  | .hbm, ⟨34, _⟩ => ⟨S4x4096x8x8, .f32⟩
  | .hbm, ⟨35, _⟩ => ⟨S4x4096x8x8, .f32⟩
  | .hbm, ⟨36, _⟩ => ⟨S4x4096x8x8, .f32⟩
  | .hbm, ⟨37, _⟩ => ⟨S4x4096x8x8, .f32⟩
  | .hbm, ⟨38, _⟩ => ⟨S4x4096x8x8, .f32⟩
  | .hbm, ⟨39, _⟩ => ⟨S4x4096x8x8, .f32⟩
  | .hbm, ⟨40, _⟩ => ⟨S4x4096x8x8, .f32⟩
  | .hbm, ⟨41, _⟩ => ⟨S4x4096x8x8, .f32⟩
  | .hbm, ⟨42, _⟩ => ⟨S4x4096x8x8, .f32⟩
  | .hbm, ⟨43, _⟩ => ⟨S4x4096x8x48, .f32⟩
  | .hbm, ⟨44, _⟩ => ⟨S4x4096x8x64, .f32⟩
  | .hbm, ⟨45, _⟩ => ⟨S4x4096x512, .f32⟩
  | .hbm, ⟨46, _⟩ => ⟨S4x4096x512, .f32⟩
  | .hbm, ⟨47, _⟩ => ⟨S1x2048x4096, .f32⟩
  | .hbm, ⟨48, _⟩ => ⟨S4x512x4096, .f32⟩
  | .hbm, ⟨49, _⟩ => ⟨S1x2048x4096, .f32⟩
  | .hbm, ⟨50, _⟩ => ⟨S2x2048x4096, .f32⟩
  | .hbm, ⟨51, _⟩ => ⟨S4x2048x4096, .f32⟩
  | .hbm, ⟨52, _⟩ => ⟨S1x2048x4096, .f32⟩
  | .hbm, ⟨53, _⟩ => ⟨S4x512x4096, .f32⟩
  | .hbm, ⟨54, _⟩ => ⟨S1x2048x4096, .f32⟩
  | .hbm, ⟨55, _⟩ => ⟨S2x2048x4096, .f32⟩
  | .hbm, ⟨56, _⟩ => ⟨S4x2048x4096, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩

abbrev nD : Nat := 1
abbrev τ : Topo := Topo.v7x

variable {F : FTy → Type} [FloatOps F]
-- ==== PMix.lean ====
abbrev S16384x5632 : Shape := ⟨2, ![16384, 5632]⟩
abbrev S4x128x128 : Shape := ⟨3, ![4, 128, 128]⟩
abbrev S512 : Shape := ⟨1, ![512]⟩
abbrev S3x512 : Shape := ⟨2, ![3, 512]⟩
abbrev S1x512 : Shape := ⟨2, ![1, 512]⟩
abbrev S16384x512 : Shape := ⟨2, ![16384, 512]⟩
abbrev S4x8x512 : Shape := ⟨3, ![4, 8, 512]⟩
abbrev S512x512 : Shape := ⟨2, ![512, 512]⟩
abbrev S16x512 : Shape := ⟨2, ![16, 512]⟩
abbrev S8x512 : Shape := ⟨2, ![8, 512]⟩
abbrev S1x8x512 : Shape := ⟨3, ![1, 8, 512]⟩
abbrev S536x512 : Shape := ⟨2, ![536, 512]⟩
abbrev S520x512 : Shape := ⟨2, ![520, 512]⟩
abbrev S528x512 : Shape := ⟨2, ![528, 512]⟩
abbrev S528x384 : Shape := ⟨2, ![528, 384]⟩
abbrev S528x256 : Shape := ⟨2, ![528, 256]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 9
  | .vmem => 28
  | .smem => 0
  | _ => 0

abbrev bufTy : (tb : Table) → Fin (tcTables nBuf tb) → BufTy
  | .hbm, ⟨0, _⟩ => ⟨S16384x5632, .f32⟩
  | .hbm, ⟨1, _⟩ => ⟨S4x128x128, .f32⟩
  | .hbm, ⟨2, _⟩ => ⟨S512, .f32⟩
  | .hbm, ⟨3, _⟩ => ⟨S3x512, .f32⟩
  | .hbm, ⟨4, _⟩ => ⟨S4x128x128, .bf16⟩
  | .hbm, ⟨5, _⟩ => ⟨S1x512, .f32⟩
  | .hbm, ⟨6, _⟩ => ⟨S16384x512, .bf16⟩
  | .hbm, ⟨7, _⟩ => ⟨S16384x512, .bf16⟩
  | .hbm, ⟨8, _⟩ => ⟨S4x8x512, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S4x128x128, .bf16⟩
  | .local _ .vmem, ⟨15, _⟩ => ⟨S1x512, .f32⟩
  | .local _ .vmem, ⟨16, _⟩ => ⟨S3x512, .f32⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S1x8x512, .f32⟩
  | .local _ .vmem, ⟨22, _⟩ => ⟨S1x8x512, .f32⟩
  | .local _ .vmem, ⟨23, _⟩ => ⟨S536x512, .f32⟩
  | .local _ .vmem, ⟨24, _⟩ => ⟨S520x512, .f32⟩
  | .local _ .vmem, ⟨25, _⟩ => ⟨S536x512, .f32⟩
  | .local _ .vmem, ⟨26, _⟩ => ⟨S536x512, .f32⟩
  | .local _ .vmem, ⟨27, _⟩ => ⟨S536x512, .f32⟩
  | _, _ => ⟨S16384x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c3_i32 : BitVec 32 := 3#32
  let c0_i32_0 : BitVec 32 := 0#32
  ![v4.toNat, c3_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c10_i32 : BitVec 32 := 10#32
  let c0_i32 : BitVec 32 := 0#32
  ![v1.toNat, c10_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c9_i32 : BitVec 32 := 9#32
  let c0_i32_0 : BitVec 32 := 0#32
  ![v4.toNat, c9_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c10_i32 : BitVec 32 := 10#32
  let c0_i32_0 : BitVec 32 := 0#32
  ![v4.toNat, c10_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== PMixRefIdeal.lean ====
abbrev S16384x5632 : Shape := ⟨2, ![16384, 5632]⟩
abbrev S4x128x128 : Shape := ⟨3, ![4, 128, 128]⟩
abbrev S512 : Shape := ⟨1, ![512]⟩
abbrev S3x512 : Shape := ⟨2, ![3, 512]⟩
abbrev S4x4096x5632 : Shape := ⟨3, ![4, 4096, 5632]⟩
abbrev S4x4096x512 : Shape := ⟨3, ![4, 4096, 512]⟩
abbrev S_ : Shape := ⟨0, ![]⟩
abbrev S4x2x512 : Shape := ⟨3, ![4, 2, 512]⟩
abbrev S4x4098x512 : Shape := ⟨3, ![4, 4098, 512]⟩
abbrev S1x512 : Shape := ⟨2, ![1, 512]⟩
abbrev S1x1x512 : Shape := ⟨3, ![1, 1, 512]⟩
abbrev S16384x512 : Shape := ⟨2, ![16384, 512]⟩
abbrev S4x8x512 : Shape := ⟨3, ![4, 8, 512]⟩

abbrev nBuf : Space → Nat
  | .hbm => 39
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S4x128x128, .f32⟩
  | .hbm, ⟨2, _⟩ => ⟨S512, .f32⟩
  | .hbm, ⟨3, _⟩ => ⟨S3x512, .f32⟩
  | .hbm, ⟨4, _⟩ => ⟨S4x4096x5632, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S_, .f32⟩
  | .hbm, ⟨9, _⟩ => ⟨S4x2x512, .f32⟩
  | .hbm, ⟨10, _⟩ => ⟨S4x4098x512, .f32⟩
  | .hbm, ⟨11, _⟩ => ⟨S4x4096x512, .f32⟩
  | .hbm, ⟨12, _⟩ => ⟨S1x512, .f32⟩
  | .hbm, ⟨13, _⟩ => ⟨S512, .f32⟩
  | .hbm, ⟨14, _⟩ => ⟨S1x1x512, .f32⟩
  | .hbm, ⟨15, _⟩ => ⟨S4x4096x512, .f32⟩
  | .hbm, ⟨16, _⟩ => ⟨S4x4096x512, .f32⟩
  | .hbm, ⟨17, _⟩ => ⟨S_, .f32⟩
  | .hbm, ⟨18, _⟩ => ⟨S4x4096x512, .f32⟩
  | .hbm, ⟨19, _⟩ => ⟨S4x4096x512, .f32⟩
  | .hbm, ⟨20, _⟩ => ⟨S4x4096x512, .f32⟩
  | .hbm, ⟨21, _⟩ => ⟨S1x512, .f32⟩
  | .hbm, ⟨22, _⟩ => ⟨S512, .f32⟩
  | .hbm, ⟨23, _⟩ => ⟨S1x1x512, .f32⟩
  | .hbm, ⟨24, _⟩ => ⟨S4x4096x512, .f32⟩
  | .hbm, ⟨25, _⟩ => ⟨S4x4096x512, .f32⟩
  | .hbm, ⟨26, _⟩ => ⟨S4x4096x512, .f32⟩
  | .hbm, ⟨27, _⟩ => ⟨S4x4096x512, .f32⟩
  | .hbm, ⟨28, _⟩ => ⟨S1x512, .f32⟩
  | .hbm, ⟨29, _⟩ => ⟨S512, .f32⟩
  | .hbm, ⟨30, _⟩ => ⟨S1x1x512, .f32⟩
  | .hbm, ⟨31, _⟩ => ⟨S4x4096x512, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S4x4096x512, .f32⟩
  | .hbm, ⟨36, _⟩ => ⟨S16384x512, .f32⟩
  | .hbm, ⟨37, _⟩ => ⟨S16384x512, .bf16⟩
  | .hbm, ⟨38, _⟩ => ⟨S4x8x512, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Hgrn.lean ====
abbrev S128x4x512 : Shape := ⟨3, ![128, 4, 512]⟩
abbrev S4x128x4x128x128 : Shape := ⟨5, ![4, 128, 4, 128, 128]⟩
abbrev S512 : Shape := ⟨1, ![512]⟩
abbrev S_ : Shape := ⟨0, ![]⟩
abbrev S128x8x512 : Shape := ⟨3, ![128, 8, 512]⟩
abbrev S1x512 : Shape := ⟨2, ![1, 512]⟩
abbrev S4x8x512 : Shape := ⟨3, ![4, 8, 512]⟩
abbrev S1x4x4x128x128 : Shape := ⟨5, ![1, 4, 4, 128, 128]⟩
abbrev S1x8x128 : Shape := ⟨3, ![1, 8, 128]⟩
abbrev S8x128 : Shape := ⟨2, ![8, 128]⟩
abbrev S1x128 : Shape := ⟨2, ![1, 128]⟩
abbrev S1x1x1x128x128 : Shape := ⟨5, ![1, 1, 1, 128, 128]⟩
abbrev S128x128 : Shape := ⟨2, ![128, 128]⟩
abbrev S8x8 : Shape := ⟨2, ![8, 8]⟩
abbrev S8x1 : Shape := ⟨2, ![8, 1]⟩
abbrev S8 : Shape := ⟨1, ![8]⟩

abbrev nBuf : Space → Nat
  | .hbm => 24
  | .vmem => 16
  | .smem => 0
  | _ => 0

abbrev bufTy : (tb : Table) → Fin (tcTables nBuf tb) → BufTy
  | .hbm, ⟨0, _⟩ => ⟨S128x4x512, .f32⟩
  | .hbm, ⟨1, _⟩ => ⟨S128x4x512, .f32⟩
  | .hbm, ⟨2, _⟩ => ⟨S128x4x512, .f32⟩
  | .hbm, ⟨3, _⟩ => ⟨S128x4x512, .f32⟩
  | .hbm, ⟨4, _⟩ => ⟨S4x128x4x128x128, .f32⟩
  | .hbm, ⟨5, _⟩ => ⟨S4x128x4x128x128, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S128x8x512, .f32⟩
  | .hbm, ⟨11, _⟩ => ⟨S_, .i32⟩
  | .hbm, ⟨12, _⟩ => ⟨S_, .f32⟩
  | .hbm, ⟨13, _⟩ => ⟨S128x8x512, .f32⟩
  | .hbm, ⟨14, _⟩ => ⟨S_, .i32⟩
  | .hbm, ⟨15, _⟩ => ⟨S_, .f32⟩
  | .hbm, ⟨16, _⟩ => ⟨S128x8x512, .f32⟩
  | .hbm, ⟨17, _⟩ => ⟨S_, .i32⟩
  | .hbm, ⟨18, _⟩ => ⟨S_, .f32⟩
  | .hbm, ⟨19, _⟩ => ⟨S128x8x512, .f32⟩
  | .hbm, ⟨20, _⟩ => ⟨S1x512, .f32⟩
  | .hbm, ⟨21, _⟩ => ⟨S1x512, .f32⟩
  | .hbm, ⟨22, _⟩ => ⟨S128x8x512, .f32⟩
  | .hbm, ⟨23, _⟩ => ⟨S4x128x4x128x128, .f32⟩
  | .local _ .vmem, ⟨0, _⟩ => ⟨S4x8x512, .f32⟩
  | .local _ .vmem, ⟨1, _⟩ => ⟨S4x8x512, .f32⟩
  | .local _ .vmem, ⟨2, _⟩ => ⟨S4x8x512, .f32⟩
  | .local _ .vmem, ⟨3, _⟩ => ⟨S4x8x512, .f32⟩
  | .local _ .vmem, ⟨4, _⟩ => ⟨S4x8x512, .f32⟩
  | .local _ .vmem, ⟨5, _⟩ => ⟨S4x8x512, .f32⟩
  | .local _ .vmem, ⟨6, _⟩ => ⟨S4x8x512, .f32⟩
  | .local _ .vmem, ⟨7, _⟩ => ⟨S4x8x512, .f32⟩
  | .local _ .vmem, ⟨8, _⟩ => ⟨S1x4x4x128x128, .f32⟩
  | .local _ .vmem, ⟨9, _⟩ => ⟨S1x4x4x128x128, .f32⟩
  | .local _ .vmem, ⟨10, _⟩ => ⟨S1x512, .f32⟩
  | .local _ .vmem, ⟨11, _⟩ => ⟨S1x512, .f32⟩
  | .local _ .vmem, ⟨12, _⟩ => ⟨S4x8x512, .f32⟩
  | .local _ .vmem, ⟨13, _⟩ => ⟨S4x8x512, .f32⟩
  | .local _ .vmem, ⟨14, _⟩ => ⟨S1x4x4x128x128, .f32⟩
  | .local _ .vmem, ⟨15, _⟩ => ⟨S1x4x4x128x128, .f32⟩
  | _, _ => ⟨S128x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6_0 : Ref sig .tc := ⟨.hbm, 22, rfl⟩
abbrev main_v6_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 5 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, arg0.toNat, c0_i32.toNat, c0_i32_0.toNat, c0_i32_1.toNat]

abbrev stage0_0 : Fin 2 → Memref sig .tc .vmem S4x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgrnRefIdeal.lean ====
abbrev S128x4x512 : Shape := ⟨3, ![128, 4, 512]⟩
abbrev S4x128x4x128x128 : Shape := ⟨5, ![4, 128, 4, 128, 128]⟩
abbrev S512 : Shape := ⟨1, ![512]⟩
abbrev S1x128x4x128x128 : Shape := ⟨5, ![1, 128, 4, 128, 128]⟩
abbrev S128x4x128x128 : Shape := ⟨4, ![128, 4, 128, 128]⟩
abbrev S128x4x4x128 : Shape := ⟨4, ![128, 4, 4, 128]⟩
abbrev S_ : Shape := ⟨0, ![]⟩
abbrev S1x1x512 : Shape := ⟨3, ![1, 1, 512]⟩
abbrev S4x4 : Shape := ⟨2, ![4, 4]⟩
abbrev S4x4x1 : Shape := ⟨3, ![4, 4, 1]⟩
abbrev S128x4x4x1x128 : Shape := ⟨5, ![128, 4, 4, 1, 128]⟩
abbrev S128x4x1x4x128 : Shape := ⟨5, ![128, 4, 1, 4, 128]⟩
abbrev S128x4x4x4x128 : Shape := ⟨5, ![128, 4, 4, 4, 128]⟩
abbrev S128x4x4x4 : Shape := ⟨4, ![128, 4, 4, 4]⟩
abbrev S128x4x1x128 : Shape := ⟨4, ![128, 4, 1, 128]⟩
abbrev S128x4x128 : Shape := ⟨3, ![128, 4, 128]⟩
abbrev S128x4x128x1 : Shape := ⟨4, ![128, 4, 128, 1]⟩
abbrev S128x4x4 : Shape := ⟨3, ![128, 4, 4]⟩
abbrev S128x4x4x1 : Shape := ⟨4, ![128, 4, 4, 1]⟩
abbrev S2x128x4x128x128 : Shape := ⟨5, ![2, 128, 4, 128, 128]⟩
abbrev S128x8x512 : Shape := ⟨3, ![128, 8, 512]⟩

abbrev nBuf : Space → Nat
  | .hbm => 134
  | .vmem => 0
  | .smem => 0
  | _ => 0

abbrev hbmTy0_0 (i : Nat) : BufTy := match i % 128 with
  | 0 => ⟨S128x4x512, .f32⟩
  | 1 => ⟨S128x4x512, .f32⟩
  | 2 => ⟨S128x4x512, .f32⟩
  | 3 => ⟨S128x4x512, .f32⟩
  | 4 => ⟨S4x128x4x128x128, .f32⟩
  | 5 => ⟨S4x128x4x128x128, .f32⟩
  | 6 => ⟨S512, .f32⟩
  | 7 => ⟨S512, .f32⟩
  | 8 => ⟨S1x128x4x128x128, .f32⟩
  | 9 => ⟨S128x4x128x128, .f32⟩
  | 10 => ⟨S128x4x4x128, .f32⟩
  | 11 => ⟨S128x4x4x128, .f32⟩
  | 12 => ⟨S128x4x4x128, .f32⟩
  | 13 => ⟨S128x4x4x128, .f32⟩
  | 14 => ⟨S_, .f32⟩
  | 15 => ⟨S128x4x4x128, .f32⟩
  | 16 => ⟨S128x4x4x128, .f32⟩
  | 17 => ⟨S_, .f32⟩
  | 18 => ⟨S128x4x4x128, .f32⟩
  | 19 => ⟨S128x4x4x128, .f32⟩
  | 20 => ⟨S128x4x4x128, .f32⟩
  | 21 => ⟨S_, .f32⟩
  | 22 => ⟨S512, .f32⟩
  | 23 => ⟨S512, .f32⟩
  | 24 => ⟨S128x4x512, .f32⟩
  | 25 => ⟨S128x4x512, .f32⟩
  | 26 => ⟨S_, .f32⟩
  | 27 => ⟨S128x4x512, .f32⟩
  | 28 => ⟨S128x4x512, .f32⟩
  | 29 => ⟨S_, .f32⟩
  | 30 => ⟨S128x4x512, .f32⟩
  | 31 => ⟨S128x4x512, .f32⟩
  | 32 => ⟨S1x1x512, .f32⟩
  | 33 => ⟨S128x4x512, .f32⟩
  | 34 => ⟨S128x4x512, .f32⟩
  | 35 => ⟨S1x1x512, .f32⟩
  | 36 => ⟨S128x4x512, .f32⟩
  | 37 => ⟨S128x4x512, .f32⟩
  | 38 => ⟨S128x4x512, .f32⟩
  | 39 => ⟨S128x4x4x128, .f32⟩
  | 40 => ⟨S128x4x4x128, .f32⟩
  | 41 => ⟨S_, .f32⟩
  | 42 => ⟨S128x4x512, .f32⟩
  | 43 => ⟨S128x4x512, .f32⟩
  | 44 => ⟨S128x4x4x128, .f32⟩
  | 45 => ⟨S128x4x4x128, .f32⟩
  | 46 => ⟨S128x4x4x128, .f32⟩
  | 47 => ⟨S128x4x4x128, .f32⟩
  | 48 => ⟨S_, .i1⟩
  | 49 => ⟨S4x4, .i1⟩
  | 50 => ⟨S4x4, .i32⟩
  | 51 => ⟨S_, .i32⟩
  | 52 => ⟨S4x4, .i32⟩
  | 53 => ⟨S4x4, .i32⟩
  | 54 => ⟨S4x4, .i32⟩
  | 55 => ⟨S4x4, .i1⟩
  | 56 => ⟨S_, .i1⟩
  | 57 => ⟨S4x4, .i1⟩
  | 58 => ⟨S4x4, .i1⟩
  | 59 => ⟨S_, .f32⟩
  | 60 => ⟨S_, .f32⟩
  | 61 => ⟨S128x4x4x128, .f32⟩
  | 62 => ⟨S4x4x1, .i1⟩
  | 63 => ⟨S128x4x4x1x128, .f32⟩
  | 64 => ⟨S128x4x1x4x128, .f32⟩
  | 65 => ⟨S128x4x4x4x128, .f32⟩
  | 66 => ⟨S128x4x4x4x128, .f32⟩
  | 67 => ⟨S128x4x4x4x128, .f32⟩
  | 68 => ⟨S_, .f32⟩
  | 69 => ⟨S_, .f32⟩
  | 70 => ⟨S128x4x4x4x128, .i1⟩
  | 71 => ⟨S128x4x4x4x128, .f32⟩
  | 72 => ⟨S128x4x4x4x128, .f32⟩
  | 73 => ⟨S128x4x4x1x128, .f32⟩
  | 74 => ⟨S128x4x4x4x128, .f32⟩
  | 75 => ⟨S128x4x4x4x128, .f32⟩
  | 76 => ⟨S128x4x4x4x128, .f32⟩
  | 77 => ⟨S128x4x1x4x128, .f32⟩
  | 78 => ⟨S128x4x4x4x128, .f32⟩
  | 79 => ⟨S128x4x4x4x128, .f32⟩
  | 80 => ⟨S_, .f32⟩
  | 81 => ⟨S128x4x4x4, .f32⟩
  | 82 => ⟨S128x4x4x128, .f32⟩
  | 83 => ⟨S128x4x4x128, .f32⟩
  | 84 => ⟨S128x4x4x128, .f32⟩
  | 85 => ⟨S128x4x4x128, .f32⟩
  | 86 => ⟨S128x4x4x128, .f32⟩
  | 87 => ⟨S128x4x1x128, .f32⟩
  | 88 => ⟨S128x4x128, .f32⟩
  | 89 => ⟨S128x4x128, .f32⟩
  | 90 => ⟨S128x4x128x1, .f32⟩
  | 91 => ⟨S128x4x128x128, .f32⟩
  | 92 => ⟨S128x4x128x128, .f32⟩
  | 93 => ⟨S128x4x4x128, .f32⟩
  | 94 => ⟨S128x4x4x128, .f32⟩
  | 95 => ⟨S128x4x4x128, .f32⟩
  | 96 => ⟨S128x4x4x128, .f32⟩
  | 97 => ⟨S128x4x128x128, .f32⟩
  | 98 => ⟨S128x4x128x128, .f32⟩
  | 99 => ⟨S128x4x4x128, .f32⟩
  | 100 => ⟨S128x4x4x128, .f32⟩
  | 101 => ⟨S_, .f32⟩
  | 102 => ⟨S128x4x4, .f32⟩
  | 103 => ⟨S128x4x4x1, .f32⟩
  | 104 => ⟨S_, .f32⟩
  | 105 => ⟨S128x4x4x1, .f32⟩
  | 106 => ⟨S128x4x4x1, .f32⟩
  | 107 => ⟨S_, .f32⟩
  | 108 => ⟨S128x4x4x1, .f32⟩
  | 109 => ⟨S128x4x4x1, .f32⟩
  | 110 => ⟨S128x4x4x1, .f32⟩
  | 111 => ⟨S128x4x4x128, .f32⟩
  | 112 => ⟨S128x4x4x128, .f32⟩
  | 113 => ⟨S128x4x512, .f32⟩
  | 114 => ⟨S1x1x512, .f32⟩
  | 115 => ⟨S128x4x512, .f32⟩
  | 116 => ⟨S128x4x512, .f32⟩
  | 117 => ⟨S128x4x512, .f32⟩
  | 118 => ⟨S128x4x512, .f32⟩
  | 119 => ⟨S_, .f32⟩
  | 120 => ⟨S128x4x512, .f32⟩
  | 121 => ⟨S128x4x512, .f32⟩
  | 122 => ⟨S_, .f32⟩
  | 123 => ⟨S128x4x512, .f32⟩
  | 124 => ⟨S128x4x512, .f32⟩
  | 125 => ⟨S128x4x512, .f32⟩
  | 126 => ⟨S128x4x512, .f32⟩
  | 127 => ⟨S1x128x4x128x128, .f32⟩
  | _ => ⟨S128x4x512, .f32⟩

abbrev hbmTy0_1 (i : Nat) : BufTy := match i % 128 with
  | 0 => ⟨S1x128x4x128x128, .f32⟩
  | 1 => ⟨S2x128x4x128x128, .f32⟩
  | 2 => ⟨S4x128x4x128x128, .f32⟩
  | 3 => ⟨S_, .i32⟩
  | 4 => ⟨S_, .f32⟩
  | 5 => ⟨S128x8x512, .f32⟩
  | _ => ⟨S128x4x512, .f32⟩

abbrev hbmTy (i : Nat) : BufTy := match i / 128 with
  | 0 => hbmTy0_0 i
  | 1 => hbmTy0_1 i
  | _ => ⟨S128x4x512, .f32⟩

abbrev bufTy : (tb : Table) → Fin (tcTables nBuf tb) → BufTy
  | .hbm, ⟨i, _⟩ => hbmTy i
  | _, _ => ⟨S128x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_0 : Ref sig .tc := ⟨.hbm, 56, rfl⟩
abbrev main_call1_v5 : Ref sig .tc := ⟨.hbm, 57, rfl⟩
abbrev main_v29 : Ref sig .tc := ⟨.hbm, 58, rfl⟩
abbrev main_call2_call0_cst : Ref sig .tc := ⟨.hbm, 59, rfl⟩
abbrev main_call2_call0_v0 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_4 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_5 : Ref sig .tc := ⟨.hbm, 101, rfl⟩
abbrev main_v65 : Ref sig .tc := ⟨.hbm, 102, rfl⟩
abbrev main_v66 : Ref sig .tc := ⟨.hbm, 103, rfl⟩
abbrev main_cst_6 : Ref sig .tc := ⟨.hbm, 104, rfl⟩
abbrev main_v67 : Ref sig .tc := ⟨.hbm, 105, rfl⟩
abbrev main_v68 : Ref sig .tc := ⟨.hbm, 106, rfl⟩
abbrev main_cst_7 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_8 : Ref sig .tc := ⟨.hbm, 131, rfl⟩
abbrev main_call5_v0 : Ref sig .tc := ⟨.hbm, 132, rfl⟩
abbrev main_v84 : Ref sig .tc := ⟨.hbm, 133, rfl⟩

abbrev nD : Nat := 1
abbrev τ : Topo := Topo.v7x

variable {F : FTy → Type} [FloatOps F]
-- ==== Proof.ValProj.lean ====
/-
The mixers' projection: each tile of rows is cast once and multiplied by the two halves of the weight's columns, which is the
first 5632 columns of the product with the whole weight.
-/
module

public import proofs.«01_k».proof.Proof.Gen.ProjIdeal.Run
public import proofs.«01_k».proof.Proof.Gen.ProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.ProjRefIdeal

open Cert.ProjRefIdeal Cert.ProjRefIdeal.Gen Idealize.ShloMosaic Idealize.ShloMosaic.TcCoe Idealize.SL.Sem

/-- What the reference returns, as a function of its two arguments. -/
def projRef (X : FVec Ideal S16384x1024 .f32) (W : FVec Ideal S1024x9728 .f32) : FVec Ideal S16384x5632 .f32 :=
  extractStridedSlice S16384x5632 ![0, 0] (Host.dotGeneral dot_S16384x1024_S1024x9728_S16384x9728_1_0_0_1_n_n none X W) slices_S16384x9728_S16384x5632_0_0

/-- The pooling inputs the reference keeps: the last fifteen rows of a sequence behind fifteen rows of zeros. -/
def poolRef (X : FVec Ideal S16384x1024 .f32) (W : FVec Ideal S1024x9728 .f32) : FVec Ideal S4x15x512 .f32 :=
  extractStridedSlice S4x15x512 ![0, 4096, 0] (concatenate S4x4111x512 1 [⟨S4x15x512, (broadcastInDim S4x15x512 ![] bcast_S_S4x15x512 (constant S_ .f32 0x00000000#32))⟩, ⟨S4x4096x512, (extractStridedSlice S4x4096x512 ![0, 0, 1536] (shapeCast _ (Host.dotGeneral dot_S16384x1024_S1024x9728_S16384x9728_1_0_0_1_n_n none X W) shapeCasts_S16384x9728_S4x4096x9728) slices_S4x4096x9728_S4x4096x512_0_0_1536)⟩] concatenates_S4x15x512_S4x4096x512_S4x4111x512_d1) slices_S4x4111x512_S4x15x512_0_4096_0

end Cert.ProjRefIdeal

namespace Cert.ProjIdeal.Val

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The weight's columns as the host hands them to the kernel. -/
def cols (W : FVec Ideal S1024x9728 .f32) : FVec Ideal S1024x5632 .bf16 :=
  truncf .bf16 (extractStridedSlice S1024x5632 ![0, 0] W slices_S1024x9728_S1024x5632_0_0) bitsLt_bf16_f32

theorem V_v1 (c : Dev nD) : V m c main_v1 = cols (m ((c : Thread nD τ).loc main_arg1)) := rfl

/-- Which block each window is at, at every grid point: two column halves per tile of rows. -/
theorem at_point : ∀ t : Fin cfg0.N, win0_0.index t = ![t.val / 2, 0] ∧ win0_1.index t = ![0, t.val % 2] ∧ win0_2.index t = ![t.val / 2, t.val % 2] :=
  (by decide +kernel : ∀ t : Fin grid0.N, _)

/-- The rows of a tile are the same at both of its points. -/
theorem same_rows (c : Dev nD) (t t' : Fin cfg0.N) (h : t'.val / 2 = t.val / 2) : iblk m c 0 t' = iblk m c 0 t := by
  blk_ext! [iblk, V, at_point t, at_point t', h]

/-- After any point the scratch holds the cast of the current tile of rows, put there at the tile's first point. -/
theorem scratch (c : Dev nD) (t : Fin cfg0.N) :
    (outsAt0 m c t.val t.isLt).2 = k0_pay1 (F := Ideal) (iblk m c 0 t) := by
  by_cases h : t.val % 2 = 0
  · rw [outsAt0_A m c t h]
    frame_out
  · rw [outsAt0_B m c t h]
    have hlt : t.val - 1 < cfg0.N := Nat.lt_of_le_of_lt (Nat.sub_le _ _) t.isLt
    have hA := outsAt0_A m c ⟨t.val - 1, hlt⟩ (by show (t.val - 1) % 2 = 0; omega)
    have hs := same_rows m c t ⟨t.val - 1, hlt⟩ (by show (t.val - 1) / 2 = t.val / 2; omega)
    rw [← hs]
    refine (congrArg Prod.snd hA).trans ?_
    frame_out

set_option maxHeartbeats 1600000 in
/-- One grid point: the tile it stores, read at an index, is the reference read where that index lies in the array. -/
theorem tile (c : Dev nD) (t : Fin cfg0.N) (y) :
    k0_pay2 (k0_pay1 (iblk m c 0 t)) (iblk m c 1 t) y
      = Cert.ProjRefIdeal.projRef (m ((c : Thread nD τ).loc main_arg0)) (m ((c : Thread nD τ).loc main_arg1))
          (((cfg0.win 2).blk t).view.emb y) := by
  pointwise [k0_pay1, k0_pay2, Cert.ProjRefIdeal.projRef]
  blk_point [iblk, V, at_point t]
  rw [V_v1]
  pointwise [cols]
  blk_point [at_point t]

/-- The whole result. -/
theorem result (c : Dev nD) : (dats m 0 c).arrAt 2 (cfgs 0).N
    = Cert.ProjRefIdeal.projRef (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 2 = 0
  · rw [outsAt0_A m c t h]
    frame_out
    exact tile m c t y
  · have hlt : t.val - 1 < cfg0.N := Nat.lt_of_le_of_lt (Nat.sub_le _ _) t.isLt
    have hsc := (scratch m c ⟨t.val - 1, hlt⟩).trans (congrArg _ (same_rows m c t ⟨t.val - 1, hlt⟩ (by show (t.val - 1) / 2 = t.val / 2; omega)))
    rw [outsAt0_B m c t h]
    rw [show (outsAt0 m c (t.val - 1) (Nat.lt_of_le_of_lt (Nat.sub_le _ _) t.isLt)).2 = k0_pay1 (F := Ideal) (iblk m c 0 t) from hsc]
    frame_out
    refine Eq.trans (congrFun (congrArg (fun z => k0_pay2 (F := Ideal) z (iblk m c 1 t)) (Memref.IsWhole.read_unread _ _)) y) ?_
    exact tile m c t y

/-- What the operations after the kernel make of the projection: the last fifteen rows of each sequence. -/
def kept (R : FVec Ideal S16384x5632 .f32) : FVec Ideal S4x15x512 .f32 :=
  extractStridedSlice S4x15x512 ![0, 4081, 1536] (shapeCast _ R shapeCasts_S16384x5632_S4x4096x5632) slices_S4x4096x5632_S4x15x512_0_4081_1536

set_option maxHeartbeats 1600000 in
/-- The pooling inputs kept are the reference's. -/
theorem kept_eq (X : FVec Ideal S16384x1024 .f32) (W : FVec Ideal S1024x9728 .f32) :
    kept (Cert.ProjRefIdeal.projRef X W) = Cert.ProjRefIdeal.poolRef X W := by
  funext y
  obtain ⟨a, b, d, rfl⟩ : ∃ (a : Fin 4) (b : Fin 15) (d : Fin 512), y = ix3 a b d := ⟨y 0, y 1, y 2, by funext d; fin_cases d <;> rfl⟩
  pointwise [kept, Cert.ProjRefIdeal.projRef, Cert.ProjRefIdeal.poolRef]
  rw [dif_neg (show ¬ 4096 + b.val < 15 by omega)]
  have e : a.val * 4096 + (4096 + b.val - 15) = a.val * 4096 + (4081 + b.val) := by omega
  simp only [e]

end Cert.ProjIdeal.Val

end
-- ==== Proof.PairProj.lean ====
/-
The conjuncts of the claim about Proj that are not frames of the kernel.
-/
module

public import proofs.«01_k».proof.Defs
public import proofs.«01_k».proof.Proof.Gen.Proj
public import proofs.«01_k».proof.Proof.Gen.ProjIdeal
public import proofs.«01_k».proof.Proof.Gen.ProjRefIdeal
public import proofs.«01_k».proof.Proof.ValProj
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_ProjRefIdeal : Cert.quiescent_ProjRefIdeal (hProjRefIdeal := Cert.ProjRefIdeal.Gen.facts) := by
  intro m g _
  exact (θ_run Cert.ProjRefIdeal.defs _ _).mono
    (fun r h => ⟨fun c => (h c).2.2, sem_eq_zero_of_no_sems (by decide) r.2⟩) (Cert.ProjRefIdeal.Value.run m g)

set_option maxHeartbeats 1600000 in
/-- The idealised kernel and the reference return the same projection and the same pooling inputs kept. -/
theorem equal_Proj : Cert.algebraic_ProjIdeal_ProjRefIdeal (hProjIdeal := Cert.ProjIdeal.Gen.facts) (hProjRefIdeal := Cert.ProjRefIdeal.Gen.facts) := by
  pair_intro
  · run_from Cert.ProjIdeal.Value.run m g
  · run_from Cert.ProjRefIdeal.Value.run m' g'
    · exact (Cert.ProjIdeal.Val.result m c).symm
    · exact (Cert.ProjIdeal.Val.kept_eq _ _).symm.trans (congrArg Cert.ProjIdeal.Val.kept (Cert.ProjIdeal.Val.result m c).symm)

end Cert.Proof

end
-- ==== Proof.ValGate.lean ====
/-
The gates: each tile of rows is cast once and multiplied by the two halves of the weight's last 4096 columns; the logistic
function of that is the reference's gate.
-/
module

public import proofs.«01_k».proof.Proof.Gen.GateIdeal.Value
public import proofs.«01_k».proof.Proof.Gen.GateRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.GateRefIdeal

open Cert.GateRefIdeal Cert.GateRefIdeal.Gen Idealize.ShloMosaic Idealize.ShloMosaic.TcCoe Idealize.SL.Sem

/-- What the reference returns, as a function of its two arguments. -/
def gateRef (X : FVec Ideal S16384x1024 .f32) (W : FVec Ideal S1024x9728 .f32) : FVec Ideal S16384x4096 .bf16 :=
  truncf .bf16 (Host.divf (broadcastInDim S16384x4096 ![] bcast_S_S16384x4096 (constant S_ .f32 0x3F800000#32)) (addf (broadcastInDim S16384x4096 ![] bcast_S_S16384x4096 (constant S_ .f32 0x3F800000#32)) (Host.exp (Host.negf (extractStridedSlice S16384x4096 ![0, 5632] (Host.dotGeneral dot_S16384x1024_S1024x9728_S16384x9728_1_0_0_1_n_n none X W) slices_S16384x9728_S16384x4096_0_5632))))) bitsLt_bf16_f32

end Cert.GateRefIdeal

namespace Cert.GateIdeal.Val

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ)

/-- Which block each window is at, at every grid point: two column halves per tile of rows. -/
theorem at_point : ∀ t : Fin cfg0.N, win0_0.index t = ![t.val / 2, 0] ∧ win0_1.index t = ![0, t.val % 2] ∧ win0_2.index t = ![t.val / 2, t.val % 2] :=
  (by decide +kernel : ∀ t : Fin grid0.N, _)

/-- The rows of a tile are the same at both of its points. -/
theorem same_rows (c : Dev nD) (t t' : Fin cfg0.N) (h : t'.val / 2 = t.val / 2) : iblk m c 0 t' = iblk m c 0 t := by
  blk_ext! [iblk, V, at_point t, at_point t', h]

/-- After any point the scratch holds the cast of the current tile of rows, put there at the tile's first point. -/
theorem scratch (c : Dev nD) (t : Fin cfg0.N) :
    (outsAt0 m c t.val t.isLt).2 = k0_pay1 (F := Ideal) (iblk m c 0 t) := by
  by_cases h : t.val % 2 = 0
  · rw [outsAt0_A m c t h]
    frame_out
  · rw [outsAt0_B m c t h]
    have hlt : t.val - 1 < cfg0.N := Nat.lt_of_le_of_lt (Nat.sub_le _ _) t.isLt
    have hA := outsAt0_A m c ⟨t.val - 1, hlt⟩ (by show (t.val - 1) % 2 = 0; omega)
    have hs := same_rows m c t ⟨t.val - 1, hlt⟩ (by show (t.val - 1) / 2 = t.val / 2; omega)
    rw [← hs]
    refine (congrArg Prod.snd hA).trans ?_
    frame_out

set_option maxHeartbeats 1600000 in
/-- One grid point: the tile it stores, read at an index, is the reference read where that index lies in the array. -/
theorem tile (c : Dev nD) (t : Fin cfg0.N) (y) :
    k0_pay2 (k0_pay1 (iblk m c 0 t)) (iblk m c 1 t) y
      = Cert.GateRefIdeal.gateRef (m ((c : Thread nD τ).loc main_arg0)) (m ((c : Thread nD τ).loc main_arg1))
          (((cfg0.win 2).blk t).view.emb y) := by
  pointwise [k0_pay1, k0_pay2, Cert.GateRefIdeal.gateRef]
  simp only [zero_sub]
  blk_point [iblk, V, at_point t]

/-- The whole result. -/
theorem result (c : Dev nD) : (dats m 0 c).arrAt 2 (cfgs 0).N
    = Cert.GateRefIdeal.gateRef (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 2 = 0
  · rw [outsAt0_A m c t h]
    frame_out
    exact tile m c t y
  · have hlt : t.val - 1 < cfg0.N := Nat.lt_of_le_of_lt (Nat.sub_le _ _) t.isLt
    have hsc := (scratch m c ⟨t.val - 1, hlt⟩).trans (congrArg _ (same_rows m c t ⟨t.val - 1, hlt⟩ (by show (t.val - 1) / 2 = t.val / 2; omega)))
    rw [outsAt0_B m c t h]
    rw [show (outsAt0 m c (t.val - 1) (Nat.lt_of_le_of_lt (Nat.sub_le _ _) t.isLt)).2 = k0_pay1 (F := Ideal) (iblk m c 0 t) from hsc]
    frame_out
    refine Eq.trans (congrFun (congrArg (fun z => k0_pay2 (F := Ideal) z (iblk m c 1 t)) (Memref.IsWhole.read_unread _ _)) y) ?_
    exact tile m c t y

end Cert.GateIdeal.Val

end
-- ==== Proof.PairGate.lean ====
/-
The conjuncts of the claim about Gate that are not frames of the kernel.
-/
module

public import proofs.«01_k».proof.Defs
public import proofs.«01_k».proof.Proof.Gen.Gate
public import proofs.«01_k».proof.Proof.Gen.GateIdeal
public import proofs.«01_k».proof.Proof.Gen.GateRefIdeal
public import proofs.«01_k».proof.Proof.ValGate
public import Idealize.ShloMosaic.Lib.Claim

@[expose] public section

noncomputable section

namespace Cert.Proof

open Idealize.ShloMosaic Idealize.ShloMosaic.TcCoe Idealize.SL.Sem

set_option maxHeartbeats 1600000 in
/-- The reference runs, leaves its arguments and ends with every counter at zero. -/
theorem runs_GateRefIdeal : Cert.quiescent_GateRefIdeal (hGateRefIdeal := Cert.GateRefIdeal.Gen.facts) := by
  intro m g _
  exact (θ_run Cert.GateRefIdeal.defs _ _).mono
    (fun r h => ⟨fun c => (h c).2, sem_eq_zero_of_no_sems (by decide) r.2⟩) (Cert.GateRefIdeal.Value.run m g)

set_option maxHeartbeats 1600000 in
/-- The idealised kernel and the reference return the same array. -/
theorem equal_Gate : Cert.algebraic_GateIdeal_GateRefIdeal (hGateIdeal := Cert.GateIdeal.Gen.facts) (hGateRefIdeal := Cert.GateRefIdeal.Gen.facts) := by
  pair_intro
  · run_from Cert.GateIdeal.Gen.run_main m g
  · run_from Cert.GateRefIdeal.Value.run m' g'
    exact (Cert.GateIdeal.Val.result m c).symm

end Cert.Proof

end
-- ==== Proof.ValMerge.lean ====
/-
The merge of the four mixers: each tile of 512 rows of the gated sum of the four branch products, through the output
projection, added to the scaled input and normalised, is the same rows of the reference's array.
-/
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.MergeRefIdeal

open Cert.MergeRefIdeal Cert.MergeRefIdeal.Gen Idealize.ShloMosaic Idealize.ShloMosaic.TcCoe Idealize.SL.Sem

/-- The gated sum of the four branch products. -/
def mixed (Ya Yb Yc Yd : FVec Ideal S16384x512 .bf16) (Q : FVec Ideal S16384x4096 .bf16) (Wb : FVec Ideal S4x512x1024 .f32) :
    FVec Ideal S16384x1024 .f32 :=
  (Host.reduceAdd (mulf (shapeCast _ (extf .f32 Q bitsLt_bf16_f32) shapeCasts_S16384x4096_S16384x4x1024) (transpose S16384x4x1024 [2, 0, 1] (Host.dotGeneral dot_S4x512x1024_S16384x4x512_S4x1024x16384_1_2_2_0_0_1 none Wb ((concatenate S16384x4x512 1 [⟨S16384x1x512, ((broadcastInDim S16384x1x512 ![0, 2] bcast_S16384x512_S16384x1x512_0_2 (extf .f32 Ya bitsLt_bf16_f32)) : FVec Ideal S16384x1x512 .f32)⟩, ⟨S16384x1x512, ((broadcastInDim S16384x1x512 ![0, 2] bcast_S16384x512_S16384x1x512_0_2 (extf .f32 Yb bitsLt_bf16_f32)) : FVec Ideal S16384x1x512 .f32)⟩, ⟨S16384x1x512, ((broadcastInDim S16384x1x512 ![0, 2] bcast_S16384x512_S16384x1x512_0_2 (extf .f32 Yc bitsLt_bf16_f32)) : FVec Ideal S16384x1x512 .f32)⟩, ⟨S16384x1x512, ((broadcastInDim S16384x1x512 ![0, 2] bcast_S16384x512_S16384x1x512_0_2 (extf .f32 Yd bitsLt_bf16_f32)) : FVec Ideal S16384x1x512 .f32)⟩] concatenates_S16384x1x512_S16384x1x512_S16384x1x512_S16384x1x512_S16384x4x512_d1 : FVec Ideal S16384x4x512 .f32))) transposes_S4x1024x16384_S16384x4x1024_2_0_1)) (constant S_ .f32 0x00000000#32) reducesTo_S16384x4x1024_S16384x1024_d1 h_S_)

/-- The normalisation of each row. -/
def normed (Z : FVec Ideal S16384x1024 .f32) (G B : FVec Ideal S1024 .f32) : FVec Ideal S16384x1024 .f32 :=
  addf (mulf (mulf (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))))) (subf Z (broadcastInDim S16384x1024 ![0, 1] bcast_S16384x1_S16384x1024_0_1 (Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 G))) (broadcastInDim S16384x1024 ![0, 1] bcast_S1x1024_S16384x1024_0_1 (broadcastInDim S1x1024 ![1] bcast_S1024_S1x1024_1 B))

/-- What the reference returns, as a function of its ten arguments. -/
def mergeRef (Ya Yb Yc Yd : FVec Ideal S16384x512 .bf16) (Q : FVec Ideal S16384x4096 .bf16) (X : FVec Ideal S16384x1024 .f32)
    (Wb : FVec Ideal S4x512x1024 .f32) (Wo : FVec Ideal S1024x1024 .f32) (G B : FVec Ideal S1024 .f32) : FVec Ideal S16384x1024 .f32 :=
  normed (addf (mulf (broadcastInDim S16384x1024 ![] bcast_S_S16384x1024 (constant S_ .f32 0x3FD744FD#32)) X) (Host.dotGeneral dot_S16384x1024_S1024x1024_S16384x1024_1_0_0_1_n_n none (mixed Ya Yb Yc Yd Q Wb) Wo)) G B

set_option maxHeartbeats 1600000 in
/-- The gated sum at an index, branch by branch. -/
theorem mixed_at (Ya Yb Yc Yd : FVec Ideal S16384x512 .bf16) (Q : FVec Ideal S16384x4096 .bf16) (Wb : FVec Ideal S4x512x1024 .f32)
    (r : Fin 16384) (j : Fin 1024) :
    mixed Ya Yb Yc Yd Q Wb (ix2 r j)
      = Q (ix2 r ⟨j.val, by omega⟩) * (∑ k : Fin 512, Ya (ix2 r k) * Wb (ix3 0 k j))
        + Q (ix2 r ⟨1024 + j.val, by omega⟩) * (∑ k : Fin 512, Yb (ix2 r k) * Wb (ix3 1 k j))
        + Q (ix2 r ⟨2048 + j.val, by omega⟩) * (∑ k : Fin 512, Yc (ix2 r k) * Wb (ix3 2 k j))
        + Q (ix2 r ⟨3072 + j.val, by omega⟩) * (∑ k : Fin 512, Yd (ix2 r k) * Wb (ix3 3 k j)) := by
  pointwise [mixed]
  rw [Fin.sum_univ_four]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [e0, e1, e2, e3, zero_mul, zero_add, one_mul, Nat.reduceMul, Nat.reduceSub, Nat.reduceLT, Nat.lt_irrefl, Nat.zero_lt_one, dif_pos, dif_neg, not_false_eq_true, mul_comm (Wb _)]

end Cert.MergeRefIdeal

namespace Cert.MergeIdeal.Val

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- Which block each window is at, at every grid point. -/
theorem at_point : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0, 0]
    ∧ win0_7.index t = ![0, 0] ∧ win0_8.index t = ![0, 0] ∧ win0_9.index t = ![0, 0] ∧ win0_10.index t = ![t.val, 0] :=
  (by decide +kernel : ∀ t : Fin grid0.N, _)

set_option maxHeartbeats 1600000 in
/-- The whole result. -/
theorem result (c : Dev nD) : (dats m 0 c).arrAt 10 (cfgs 0).N
    = Cert.MergeRefIdeal.mergeRef (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  frame_out
  pointwise [k0_pay1, k0_pay2, k0_pay3, Cert.MergeRefIdeal.mergeRef, Cert.MergeRefIdeal.normed, Cert.MergeRefIdeal.mixed_at]
  blk_point [iblk, V, at_point t]

end Cert.MergeIdeal.Val

end
-- ==== Proof.PairMerge.lean ====
/-
The conjuncts of the claim about Merge that are not frames of the kernel.
-/
module

public import proofs.«01_k».proof.Defs
public import proofs.«01_k».proof.Proof.Gen.Merge
public import proofs.«01_k».proof.Proof.Gen.MergeIdeal
public import proofs.«01_k».proof.Proof.Gen.MergeRefIdeal
public import proofs.«01_k».proof.Proof.ValMerge
public import Idealize.ShloMosaic.Lib.Claim

@[expose] public section

noncomputable section

namespace Cert.Proof

open Idealize.ShloMosaic Idealize.ShloMosaic.TcCoe Idealize.SL.Sem

set_option maxHeartbeats 1600000 in
/-- The reference runs, leaves its arguments and ends with every counter at zero. -/
theorem runs_MergeRefIdeal : Cert.quiescent_MergeRefIdeal (hMergeRefIdeal := Cert.MergeRefIdeal.Gen.facts) := by
  intro m g _
  exact (θ_run Cert.MergeRefIdeal.defs _ _).mono
    (fun r h => ⟨fun c => (h c).2, sem_eq_zero_of_no_sems (by decide) r.2⟩) (Cert.MergeRefIdeal.Value.run m g)

set_option maxHeartbeats 1600000 in
/-- The idealised kernel and the reference return the same array. -/
theorem equal_Merge : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    obtain ⟨h0, h1, h2, h3, h4, h5, h6, h7, h8, h9⟩ := hagree c
    refine (show Cert.MergeRefIdeal.Value.res_main_v42 m' c = Cert.MergeRefIdeal.mergeRef (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1)) (m' ((c : Thread Cert.MergeRefIdeal.nD Cert.MergeRefIdeal.τ).loc Cert.MergeRefIdeal.main_arg2)) (m' ((c : Thread Cert.MergeRefIdeal.nD Cert.MergeRefIdeal.τ).loc Cert.MergeRefIdeal.main_arg3)) (m' ((c : Thread Cert.MergeRefIdeal.nD Cert.MergeRefIdeal.τ).loc Cert.MergeRefIdeal.main_arg4)) (m' ((c : Thread Cert.MergeRefIdeal.nD Cert.MergeRefIdeal.τ).loc Cert.MergeRefIdeal.main_arg5)) (m' ((c : Thread Cert.MergeRefIdeal.nD Cert.MergeRefIdeal.τ).loc Cert.MergeRefIdeal.main_arg6)) (m' ((c : Thread Cert.MergeRefIdeal.nD Cert.MergeRefIdeal.τ).loc Cert.MergeRefIdeal.main_arg7)) (m' ((c : Thread Cert.MergeRefIdeal.nD Cert.MergeRefIdeal.τ).loc Cert.MergeRefIdeal.main_arg8)) (m' ((c : Thread Cert.MergeRefIdeal.nD Cert.MergeRefIdeal.τ).loc Cert.MergeRefIdeal.main_arg9)) from rfl).trans ?_
    rw [h0, h1, h2, h3, h4, h5, h6, h7, h8, h9]
    exact (Cert.MergeIdeal.Val.result m c).symm

end Cert.Proof

end
-- ==== Proof.TileFfnUp.lean ====
/-
What one tile of the feed-forward block's first product stores: the activation, the tail and the rows it hands on.
-/
module

public import proofs.«01_k».proof.Proof.Gen.FfnUpIdeal.Value
public import proofs.«01_k».proof.Proof.Gen.FfnUpRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.FfnUpIdeal.Val

open Cert.FfnUpIdeal Cert.FfnUpIdeal.Gen Idealize.ShloMosaic Idealize.ShloMosaic.TcCoe Idealize.SL.Sem
open Idealize.ShloMosaic.Pipeline (Dat)

variable (m : (ℓ : Loc nD τ sig) → Buf (Elt Ideal) ℓ)

/-- One entry of a tile's product. -/
def prod (X : Vec Ideal S256x1024 .f32) (W : Vec Ideal S1024x5632 .bf16) (r : Fin 256) (k : Fin 5632) : EReal :=
  ∑ x : Fin 1024, X (ix2 r x) * W (ix2 x k)

/-- The three-tap convolution of a tile's product, the two rows before the tile given. -/
def conv (X : Vec Ideal S256x1024 .f32) (W : Vec Ideal S1024x5632 .bf16) (C : Vec Ideal S3x5632 .f32) (P : Fin 8 → Fin 5632 → EReal)
    (r : Fin 256) (k : Fin 5632) : EReal :=
  C (ix2 0 k) * (if h : r.val < 2 then P ⟨6 + r.val, by omega⟩ k else prod X W ⟨r.val - 2, by omega⟩ k)
    + C (ix2 1 k) * (if h : r.val < 1 then P ⟨7 + r.val, by omega⟩ k else prod X W ⟨r.val - 1, by omega⟩ k)
    + C (ix2 2 k) * prod X W r k

/-- The activation of a tile: the first half of the columns through the logistic unit, times the second half. -/
def actOf (X : Vec Ideal S256x1024 .f32) (W : Vec Ideal S1024x5632 .bf16) (C : Vec Ideal S3x5632 .f32) (P : Fin 8 → Fin 5632 → EReal)
    (r : Fin 256) (j : Fin 2816) : EReal :=
  conv X W C P r ⟨j.val, by omega⟩ * Ideal.div 1 (1 + Ideal.exp (0 - conv X W C P r ⟨j.val, by omega⟩)) * conv X W C P r ⟨2816 + j.val, by omega⟩

/-- The kernel's test for the first tile of a sequence. -/
theorem first_tile (t : Fin cfg0.N) (a b : EReal) :
    Scalar.select (Scalar.cmpi .eq (Scalar.select (Scalar.andi (Scalar.xori (Scalar.cmpi .slt (Scalar.remsi (BitVec.ofNat 32 (grid0.coords t 0).val) 16#32) 0#32) 0#1)
      (Scalar.cmpi .ne (Scalar.remsi (BitVec.ofNat 32 (grid0.coords t 0).val) 16#32) 0#32)) (Scalar.addi (Scalar.remsi (BitVec.ofNat 32 (grid0.coords t 0).val) 16#32) 16#32)
      (Scalar.remsi (BitVec.ofNat 32 (grid0.coords t 0).val) 16#32)) 0#32) a b = if t.val % 16 = 0 then a else b := by
  have h : ∀ t : Fin cfg0.N, Scalar.cmpi .eq (Scalar.select (Scalar.andi (Scalar.xori (Scalar.cmpi .slt (Scalar.remsi (BitVec.ofNat 32 (grid0.coords t 0).val) 16#32) 0#32) 0#1)
      (Scalar.cmpi .ne (Scalar.remsi (BitVec.ofNat 32 (grid0.coords t 0).val) 16#32) 0#32)) (Scalar.addi (Scalar.remsi (BitVec.ofNat 32 (grid0.coords t 0).val) 16#32) 16#32)
      (Scalar.remsi (BitVec.ofNat 32 (grid0.coords t 0).val) 16#32)) 0#32 = if t.val % 16 = 0 then 1#1 else 0#1 :=
    (by decide +kernel : ∀ t : Fin grid0.N, _)
  rw [h t]
  split <;> rfl

/-- The scratch read back as it was left. -/
theorem carried (h : (scM0_0 : Memref sig .tc .vmem S8x5632 .f32).IsWhole) (S : Vec Ideal S8x5632 .f32) (i : S8x5632.Idx) :
    View.read (Elt Ideal) (View.whole cc0_scratch0) (h.unread S) i = S i :=
  congrFun (Memref.IsWhole.read_unread h S) i

/-- Stores that cover an index hide whatever was stored before them. -/
theorem canon_take {S : Shape} {e : EltTy} (n : ℕ) : ∀ (L : List (View.Piece (Elt Ideal) S e)) (y : S.Idx),
    (∃ p ∈ L.take n, y ∈ p.1.set) → View.canon L y = View.canon (L.take n) y := by
  induction n with
  | zero => intro L y h; obtain ⟨p, hp, _⟩ := h; simp at hp
  | succ n ih =>
    intro L y h
    cases L with
    | nil => simp
    | cons p L =>
      rw [List.take_succ_cons] at h ⊢
      by_cases hm : y ∈ p.1.set
      · obtain ⟨x, rfl⟩ := p.1.exists_idx_of_mem hm
        rw [show p.1.idx x = p.1.emb x from rfl]
        exact (View.canon_cons_emb p.1 p.2 L x).trans (View.canon_cons_emb p.1 p.2 (L.take n) x).symm
      · rw [View.canon_cons_of_not_mem _ _ hm, View.canon_cons_of_not_mem _ _ hm]
        refine ih L y ?_
        obtain ⟨q, hq, hy⟩ := h
        rcases List.mem_cons.mp hq with rfl | hq
        · exact absurd hy hm
        · exact ⟨q, hq, hy⟩

/-- At the first tile of all, what the kernel takes from the scratch does not matter. -/
theorem first_none (t : Fin cfg0.N) (h : t.val % 64 = 0) {α : Type} (a b : α) :
    Scalar.select (Scalar.cmpi .eq (Scalar.select (Scalar.andi (Scalar.xori (Scalar.cmpi .slt (Scalar.remsi (BitVec.ofNat 32 (grid0.coords t 0).val)
      (Scalar.select (Scalar.cmpi .eq 16#32 0#32) 1#32 16#32)) 0#32) (Scalar.cmpi .slt (Scalar.select (Scalar.cmpi .eq 16#32 0#32) 1#32 16#32) 0#32))
      (Scalar.cmpi .ne (Scalar.remsi (BitVec.ofNat 32 (grid0.coords t 0).val) (Scalar.select (Scalar.cmpi .eq 16#32 0#32) 1#32 16#32)) 0#32))
      (Scalar.addi (Scalar.remsi (BitVec.ofNat 32 (grid0.coords t 0).val) (Scalar.select (Scalar.cmpi .eq 16#32 0#32) 1#32 16#32)) (Scalar.select (Scalar.cmpi .eq 16#32 0#32) 1#32 16#32))
      (Scalar.remsi (BitVec.ofNat 32 (grid0.coords t 0).val) (Scalar.select (Scalar.cmpi .eq 16#32 0#32) 1#32 16#32))) 0#32) a b = a := by
  have hN : t.val < 64 := lt_of_lt_of_eq t.isLt N_0
  obtain rfl : t = ⟨0, by decide⟩ := Fin.ext (by show t.val = 0; omega)
  rfl

/-- The same with the constants evaluated: at the first tile of all, what the kernel takes from the scratch does not matter. -/
theorem first_none' (t : Fin cfg0.N) (h : t.val % 64 = 0) {α : Type} (a b : α) :
    Scalar.select (Scalar.cmpi .eq (Scalar.select (Scalar.andi (Scalar.xori (Scalar.cmpi .slt (Scalar.remsi (BitVec.ofNat 32 (grid0.coords t 0).val)
      16#32) 0#32) 0#1)
      (Scalar.cmpi .ne (Scalar.remsi (BitVec.ofNat 32 (grid0.coords t 0).val) 16#32) 0#32))
      (Scalar.addi (Scalar.remsi (BitVec.ofNat 32 (grid0.coords t 0).val) 16#32) 16#32)
      (Scalar.remsi (BitVec.ofNat 32 (grid0.coords t 0).val) 16#32)) 0#32) a b = a := by
  have hN : t.val < 64 := lt_of_lt_of_eq t.isLt N_0
  obtain rfl : t = ⟨0, by decide⟩ := Fin.ext (by show t.val = 0; omega)
  rfl

/-- The number of tiles in a sequence, as the kernel computes it. -/
theorem sixteen : Scalar.select (Scalar.cmpi .eq 16#32 0#32) 1#32 16#32 = 16#32 := rfl

/-- That number is not negative. -/
theorem sixteen_pos : Scalar.cmpi .slt 16#32 0#32 = 0#1 := rfl

set_option maxHeartbeats 1600000 in
/-- The last eight rows of a tile's product, as the tile leaves them in its block of the second result. -/
theorem tail (c : Dev nD) (t : Fin cfg0.N) (a : Fin 8) (k : Fin 5632) :
    (outsAt0 m c t.val t.isLt).2.1 (ix3 0 a k) = prod (iblk m c 0 t) (iblk m c 1 t) ⟨248 + a.val, by omega⟩ k := by
  by_cases ht : t.val % 64 = 0
  · rw [outsAt0_A m c t ht]
    frame_out
    canon_tiles x hh
    all_goals
      open_payloads
      pointwise [prod]
      have e1 := hh1
      have e2 := hh2
      change a.val = _ at e1
      change k.val = _ at e2
      rw [show a = ⟨_, lt_of_eq_of_lt e1.symm a.isLt⟩ from Fin.ext e1, show k = ⟨_, lt_of_eq_of_lt e2.symm k.isLt⟩ from Fin.ext e2]
  · rw [outsAt0_B m c t ht]
    frame_out
    canon_tiles x hh
    all_goals
      open_payloads
      pointwise [prod]
      have e1 := hh1
      have e2 := hh2
      change a.val = _ at e1
      change k.val = _ at e2
      rw [show a = ⟨_, lt_of_eq_of_lt e1.symm a.isLt⟩ from Fin.ext e1, show k = ⟨_, lt_of_eq_of_lt e2.symm k.isLt⟩ from Fin.ext e2]

set_option maxHeartbeats 1600000 in
/-- The same eight rows, as the tile leaves them in the scratch for the next one. -/
theorem left_over (c : Dev nD) (t : Fin cfg0.N) (a : Fin 8) (k : Fin 5632) :
    (outsAt0 m c t.val t.isLt).2.2 (ix2 a k) = prod (iblk m c 0 t) (iblk m c 1 t) ⟨248 + a.val, by omega⟩ k := by
  by_cases ht : t.val % 64 = 0
  · rw [outsAt0_A m c t ht]
    frame_out
    refine (canon_take 22 _ _ ?_).trans ?_
    all_goals simp only [List.take_succ_cons, List.take_zero]
    · exact View.cover_of_tiled_head _ _ _ (by rfl) _
    canon_tiles x hh
    all_goals
      open_payloads
      pointwise [prod]
      have e1 := hh0
      have e2 := hh1
      change a.val = _ at e1
      change k.val = _ at e2
      rw [show a = ⟨_, lt_of_eq_of_lt e1.symm a.isLt⟩ from Fin.ext e1, show k = ⟨_, lt_of_eq_of_lt e2.symm k.isLt⟩ from Fin.ext e2]
  · rw [outsAt0_B m c t ht]
    frame_out
    canon_tiles x hh
    all_goals
      open_payloads
      pointwise [prod]
      have e1 := hh0
      have e2 := hh1
      change a.val = _ at e1
      change k.val = _ at e2
      rw [show a = ⟨_, lt_of_eq_of_lt e1.symm a.isLt⟩ from Fin.ext e1, show k = ⟨_, lt_of_eq_of_lt e2.symm k.isLt⟩ from Fin.ext e2]

set_option maxHeartbeats 1600000 in
/-- The activation a tile stores, at a tile that reads the scratch. -/
theorem act_later (c : Dev nD) (t : Fin cfg0.N) (h : ¬t.val % 64 = 0) (r : Fin 256) (j : Fin 2816) : (outsAt0 m c t.val t.isLt).1 (ix2 r j)
   = actOf (iblk m c 0 t) (iblk m c 1 t) (iblk m c 2 t) (fun a k => if t.val % 16 = 0 then 0 else (outsAt0 m c (t.val - 1) (by have := t.isLt; omega)).2.2 (ix2 a k)) r j := by
  rw [outsAt0_B m c t h]
  frame_out
  canon_tiles x hh
  all_goals
    open_payloads
    pointwise [actOf, conv, prod, first_tile]
    have e1 := hh0
    have e2 := hh1
    change r.val = _ at e1
    change j.val = _ at e2
    rw [show r = ⟨_, lt_of_eq_of_lt e1.symm r.isLt⟩ from Fin.ext e1, show j = ⟨_, lt_of_eq_of_lt e2.symm j.isLt⟩ from Fin.ext e2]
    simp only [← Nat.add_assoc, Nat.reduceAdd, carried, sixteen, sixteen_pos, first_tile]
    try rfl

set_option maxHeartbeats 1600000 in
/-- The activation the first tile stores. -/
theorem act_first (c : Dev nD) (t : Fin cfg0.N) (h : t.val % 64 = 0) (r : Fin 256) (j : Fin 2816) : (outsAt0 m c t.val t.isLt).1 (ix2 r j)
   = actOf (iblk m c 0 t) (iblk m c 1 t) (iblk m c 2 t) (fun a k => 0) r j := by
  rw [outsAt0_A m c t h]
  frame_out
  canon_tiles x hh
  all_goals
    open_payloads
    repeat rw [first_none t h]
    repeat rw [first_none' t h]
    pointwise [actOf, conv, prod, first_tile]
    have e1 := hh0
    have e2 := hh1
    change r.val = _ at e1
    change j.val = _ at e2
    rw [show r = ⟨_, lt_of_eq_of_lt e1.symm r.isLt⟩ from Fin.ext e1, show j = ⟨_, lt_of_eq_of_lt e2.symm j.isLt⟩ from Fin.ext e2]
    simp only [← Nat.add_assoc, Nat.reduceAdd]
    try rfl

end Cert.FfnUpIdeal.Val

end
-- ==== Proof.ValFfnUp.lean ====
/-
The feed-forward block's first product with its causal convolution and gated unit: what the whole run leaves is what the
reference returns.
-/
module

public import proofs.«01_k».proof.Proof.TileFfnUp

@[expose] public section

set_option maxRecDepth 16384

noncomputable section

namespace Cert.FfnUpRefIdeal

open Cert.FfnUpRefIdeal.Gen Idealize.ShloMosaic Idealize.ShloMosaic.TcCoe Idealize.SL.Sem

/-- The product, two rows of zeros before each sequence. -/
def padded (X : FVec Ideal S16384x1024 .f32) (W : FVec Ideal S1024x5632 .f32) : FVec Ideal S4x4098x5632 .f32 :=
  concatenate S4x4098x5632 1 [⟨S4x2x5632, ((broadcastInDim S4x2x5632 ![] bcast_S_S4x2x5632 (constant S_ .f32 0x00000000#32)) : FVec Ideal S4x2x5632 .f32)⟩, ⟨S4x4096x5632, ((shapeCast _ (Host.dotGeneral dot_S16384x1024_S1024x5632_S16384x5632_1_0_0_1_n_n none X W) shapeCasts_S16384x5632_S4x4096x5632) : FVec Ideal S4x4096x5632 .f32)⟩] concatenates_S4x2x5632_S4x4096x5632_S4x4098x5632_d1

/-- The three taps of the convolution, summed. -/
def taps (U : FVec Ideal S4x4098x5632 .f32) (C : FVec Ideal S3x5632 .f32) : FVec Ideal S4x4096x5632 .f32 :=
  addf (addf (addf (broadcastInDim S4x4096x5632 ![] bcast_S_S4x4096x5632 (constant S_ .f32 0x00000000#32)) (mulf (extractStridedSlice S4x4096x5632 ![0, 0, 0] U slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] C slices_S3x5632_S1x5632_0_0) shapeCasts_S1x5632_S5632))))) (mulf (extractStridedSlice S4x4096x5632 ![0, 1, 0] U slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] C slices_S3x5632_S1x5632_1_0) shapeCasts_S1x5632_S5632))))) (mulf (extractStridedSlice S4x4096x5632 ![0, 2, 0] U slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] C slices_S3x5632_S1x5632_2_0) shapeCasts_S1x5632_S5632))))

/-- The gated unit. -/
def gated (V : FVec Ideal S4x4096x5632 .f32) : FVec Ideal S16384x2816 .bf16 :=
  truncf .bf16 (shapeCast _ (mulf (mulf (extractStridedSlice S4x4096x2816 ![0, 0, 0] V slices_S4x4096x5632_S4x4096x2816_0_0_0) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (extractStridedSlice S4x4096x2816 ![0, 0, 0] V slices_S4x4096x5632_S4x4096x2816_0_0_0)))))) (extractStridedSlice S4x4096x2816 ![0, 0, 2816] V slices_S4x4096x5632_S4x4096x2816_0_0_2816)) shapeCasts_S4x4096x2816_S16384x2816) bitsLt_bf16_f32

/-- The last rows of each sequence's product. -/
def lastRows (U : FVec Ideal S4x4098x5632 .f32) : FVec Ideal S4x8x5632 .f32 :=
  extractStridedSlice S4x8x5632 ![0, 4090, 0] U slices_S4x4098x5632_S4x8x5632_0_4090_0

/-- One entry of the product. -/
def prodAt (X : FVec Ideal S16384x1024 .f32) (W : FVec Ideal S1024x5632 .f32) (r : Fin 16384) (k : Fin 5632) : EReal :=
  ∑ x : Fin 1024, X (ix2 r x) * W (ix2 x k)

/-- One entry of the convolution, by the row of the whole array. -/
def convAt (X : FVec Ideal S16384x1024 .f32) (W : FVec Ideal S1024x5632 .f32) (C : FVec Ideal S3x5632 .f32) (r : Fin 16384) (k : Fin 5632) : EReal :=
  C (ix2 0 k) * (if r.val % 4096 < 2 then 0 else prodAt X W ⟨r.val - 2, by omega⟩ k)
    + C (ix2 1 k) * (if r.val % 4096 < 1 then 0 else prodAt X W ⟨r.val - 1, by omega⟩ k)
    + C (ix2 2 k) * prodAt X W r k

/-- The padded product at an index. -/
theorem padded_at (X : FVec Ideal S16384x1024 .f32) (W : FVec Ideal S1024x5632 .f32) (b : Fin 4) (i : Fin 4098) (k : Fin 5632) :
    padded X W (ix3 b i k) = if h : i.val < 2 then 0 else prodAt X W ⟨b.val * 4096 + (i.val - 2), by omega⟩ k := by
  pointwise [padded, prodAt]

/-- The convolution at an index. -/
theorem taps_at (X : FVec Ideal S16384x1024 .f32) (W : FVec Ideal S1024x5632 .f32) (C : FVec Ideal S3x5632 .f32) (b : Fin 4) (i : Fin 4096) (k : Fin 5632) :
    taps (padded X W) C (ix3 b i k) = convAt X W C ⟨b.val * 4096 + i.val, by omega⟩ k := by
  have hi := i.isLt
  pointwise [taps, padded_at, convAt]
  congr 1
  · congr 1
    · rw [mul_comm]
      congr 1
      by_cases h : i.val < 2
      · rw [dif_pos h, if_pos (by omega)]
      · rw [dif_neg h, if_neg (by omega)]
        congr 1
        exact Fin.ext (by show b.val * 4096 + (i.val - 2) = b.val * 4096 + i.val - 2; omega)
    · rw [mul_comm]
      congr 1
      by_cases h : i.val < 1
      · rw [dif_pos (by omega), if_pos (by omega)]
      · rw [dif_neg (by omega), if_neg (by omega)]
        congr 1
        exact Fin.ext (by show b.val * 4096 + (1 + i.val - 2) = b.val * 4096 + i.val - 1; omega)
  · exact mul_comm _ _

/-- The gated unit at an index. -/
theorem gated_at (V : FVec Ideal S4x4096x5632 .f32) (r : Fin 16384) (j : Fin 2816) :
    gated V (ix2 r j) = V (ix3 ⟨r.val / 4096, by omega⟩ ⟨r.val % 4096, by omega⟩ ⟨j.val, by omega⟩)
      * Ideal.div 1 (1 + Ideal.exp (0 - V (ix3 ⟨r.val / 4096, by omega⟩ ⟨r.val % 4096, by omega⟩ ⟨j.val, by omega⟩)))
      * V (ix3 ⟨r.val / 4096, by omega⟩ ⟨r.val % 4096, by omega⟩ ⟨2816 + j.val, by omega⟩) := by
  pointwise [gated]
  simp only [zero_sub]

/-- The last rows at an index. -/
theorem lastRows_at (X : FVec Ideal S16384x1024 .f32) (W : FVec Ideal S1024x5632 .f32) (b : Fin 4) (a : Fin 8) (k : Fin 5632) :
    lastRows (padded X W) (ix3 b a k) = prodAt X W ⟨b.val * 4096 + (4088 + a.val), by omega⟩ k := by
  pointwise [lastRows, padded_at]
  rw [dif_neg (by omega)]
  congr 1
  exact Fin.ext (by show b.val * 4096 + (4090 + a.val - 2) = b.val * 4096 + (4088 + a.val); omega)

end Cert.FfnUpRefIdeal

namespace Cert.FfnUpIdeal.Val

open Cert.FfnUpIdeal Cert.FfnUpIdeal.Gen Idealize.ShloMosaic Idealize.ShloMosaic.TcCoe Idealize.SL.Sem
open Idealize.ShloMosaic.Pipeline (Dat)
open Cert.FfnUpRefIdeal (prodAt convAt)

variable (m : (ℓ : Loc nD τ sig) → Buf (Elt Ideal) ℓ)

/-- The rows given. -/
abbrev argX (c : Dev nD) : FVec Ideal S16384x1024 .f32 := m ((c : Thread nD τ).loc main_arg0)
/-- The weight given. -/
abbrev argW (c : Dev nD) : FVec Ideal S1024x5632 .f32 := m ((c : Thread nD τ).loc main_arg1)
/-- The taps given. -/
abbrev argC (c : Dev nD) : FVec Ideal S3x5632 .f32 := m ((c : Thread nD τ).loc main_arg2)

/-- Which block each window is at, at every grid point. -/
theorem at_point : ∀ t : Fin cfg0.N, win0_0.index t = ![t.val, 0] ∧ win0_1.index t = ![0, 0] ∧ win0_2.index t = ![0, 0]
    ∧ win0_3.index t = ![t.val, 0] ∧ win0_4.index t = ![t.val / 16, 0, 0] :=
  (by decide +kernel : ∀ t : Fin grid0.N, _)

/-- The rows of a tile. -/
theorem rows_at (c : Dev nD) (t : Fin cfg0.N) (r : Fin 256) (x : Fin 1024) :
    iblk m c 0 t (ix2 r x) = argX m c (ix2 ⟨256 * t.val + r.val, by have := lt_of_lt_of_eq t.isLt N_0; omega⟩ x) := by
  blk_point [iblk, V, at_point t]

/-- The weight at every tile. -/
theorem weight_at (c : Dev nD) (t : Fin cfg0.N) (x : Fin 1024) (k : Fin 5632) : iblk m c 1 t (ix2 x k) = argW m c (ix2 x k) := by
  blk_point [iblk, V, at_point t]

/-- The taps at every tile. -/
theorem tap_at (c : Dev nD) (t : Fin cfg0.N) (x : Fin 3) (k : Fin 5632) : iblk m c 2 t (ix2 x k) = argC m c (ix2 x k) := by
  blk_point [iblk, V, at_point t]

/-- A tile's product is the whole product's rows of that tile. -/
theorem prod_at (c : Dev nD) (t : Fin cfg0.N) (r : Fin 256) (k : Fin 5632) :
    prod (iblk m c 0 t) (iblk m c 1 t) r k = prodAt (argX m c) (argW m c) ⟨256 * t.val + r.val, by have := lt_of_lt_of_eq t.isLt N_0; omega⟩ k := by
  unfold prod prodAt
  exact Finset.sum_congr rfl fun x _ => by rw [rows_at, weight_at]

/-- A tile's convolution is the whole convolution's rows of that tile, if the rows handed on are the ones before it. -/
theorem conv_at (c : Dev nD) (t : Fin cfg0.N) (P : Fin 8 → Fin 5632 → EReal)
    (hz : t.val % 16 = 0 → ∀ a k, P a k = 0)
    (hp : ∀ h : t.val % 16 ≠ 0, ∀ (a : Fin 8) (k : Fin 5632), P a k = prodAt (argX m c) (argW m c) ⟨256 * t.val - 8 + a.val, by have := lt_of_lt_of_eq t.isLt N_0; omega⟩ k)
    (r : Fin 256) (k : Fin 5632) :
    conv (iblk m c 0 t) (iblk m c 1 t) (iblk m c 2 t) P r k
      = convAt (argX m c) (argW m c) (argC m c) ⟨256 * t.val + r.val, by have := lt_of_lt_of_eq t.isLt N_0; omega⟩ k := by
  have hN := lt_of_lt_of_eq t.isLt N_0
  have hr := r.isLt
  unfold conv convAt
  simp only [tap_at, prod_at]
  congr 2
  · congr 1
    by_cases h2 : r.val < 2
    · rw [dif_pos h2]
      by_cases h16 : t.val % 16 = 0
      · rw [hz h16, if_pos (by show (256 * t.val + r.val) % 4096 < 2; omega)]
      · rw [hp h16, if_neg (by show ¬(256 * t.val + r.val) % 4096 < 2; omega)]
        congr 1
        exact Fin.ext (by show 256 * t.val - 8 + (6 + r.val) = 256 * t.val + r.val - 2; omega)
    · rw [dif_neg h2, if_neg (by show ¬(256 * t.val + r.val) % 4096 < 2; omega)]
      congr 1
      exact Fin.ext (by show 256 * t.val + (r.val - 2) = 256 * t.val + r.val - 2; omega)
  · congr 1
    by_cases h2 : r.val < 1
    · rw [dif_pos h2]
      by_cases h16 : t.val % 16 = 0
      · rw [hz h16, if_pos (by show (256 * t.val + r.val) % 4096 < 1; omega)]
      · rw [hp h16, if_neg (by show ¬(256 * t.val + r.val) % 4096 < 1; omega)]
        congr 1
        exact Fin.ext (by show 256 * t.val - 8 + (7 + r.val) = 256 * t.val + r.val - 1; omega)
    · rw [dif_neg h2, if_neg (by show ¬(256 * t.val + r.val) % 4096 < 1; omega)]
      congr 1
      exact Fin.ext (by show 256 * t.val + (r.val - 1) = 256 * t.val + r.val - 1; omega)

/-- What a tile stores of the activation. -/
theorem act_at (c : Dev nD) (t : Fin cfg0.N) (r : Fin 256) (j : Fin 2816) : (outsAt0 m c t.val t.isLt).1 (ix2 r j)
    = convAt (argX m c) (argW m c) (argC m c) ⟨256 * t.val + r.val, by have := lt_of_lt_of_eq t.isLt N_0; omega⟩ ⟨j.val, by omega⟩
      * Ideal.div 1 (1 + Ideal.exp (0 - convAt (argX m c) (argW m c) (argC m c) ⟨256 * t.val + r.val, by have := lt_of_lt_of_eq t.isLt N_0; omega⟩ ⟨j.val, by omega⟩))
      * convAt (argX m c) (argW m c) (argC m c) ⟨256 * t.val + r.val, by have := lt_of_lt_of_eq t.isLt N_0; omega⟩ ⟨2816 + j.val, by omega⟩ := by
  have hN := lt_of_lt_of_eq t.isLt N_0
  by_cases h : t.val % 64 = 0
  · rw [act_first m c t h]
    unfold actOf
    rw [conv_at m c t _ (fun _ _ _ => rfl) (fun h' => absurd (show t.val % 16 = 0 by omega) h'), conv_at m c t _ (fun _ _ _ => rfl) (fun h' => absurd (show t.val % 16 = 0 by omega) h')]
  · rw [act_later m c t h]
    have hz : t.val % 16 = 0 → ∀ (a : Fin 8) (k : Fin 5632), (if t.val % 16 = 0 then 0 else (outsAt0 m c (t.val - 1) (by have := t.isLt; omega)).2.2 (ix2 a k) : EReal) = 0 :=
      fun h16 a k => if_pos h16
    have hp : ∀ h' : t.val % 16 ≠ 0, ∀ (a : Fin 8) (k : Fin 5632), (if t.val % 16 = 0 then 0 else (outsAt0 m c (t.val - 1) (by have := t.isLt; omega)).2.2 (ix2 a k) : EReal)
        = prodAt (argX m c) (argW m c) ⟨256 * t.val - 8 + a.val, by omega⟩ k := by
      intro h' a k
      rw [if_neg h']
      refine (left_over m c ⟨t.val - 1, by have := t.isLt; omega⟩ a k).trans ?_
      rw [prod_at]
      congr 1
      exact Fin.ext (by show 256 * (t.val - 1) + (248 + a.val) = 256 * t.val - 8 + a.val; omega)
    unfold actOf
    rw [conv_at m c t _ hz hp, conv_at m c t _ hz hp]

set_option maxHeartbeats 1600000 in
/-- The whole activation. -/
theorem result_act (c : Dev nD) : (dats m 0 c).arrAt 3 (cfgs 0).N
    = Cert.FfnUpRefIdeal.gated (Cert.FfnUpRefIdeal.taps (Cert.FfnUpRefIdeal.padded (argX m c) (argW m c)) (argC m c)) := by
  refine (dats m 0 c).arrAt_eq_of_covers 3 _ (by decide +kernel) fun t _ y => ?_
  blk_simp
  rw [after0_3]
  have hN := lt_of_lt_of_eq t.isLt N_0
  have h0 : (y 0).val < 256 := (y 0).isLt
  have h1 : (y 1).val < 2816 := (y 1).isLt
  refine (congrArg _ (eq_ix2 y)).trans ((act_at m c t ⟨(y 0).val, h0⟩ ⟨(y 1).val, h1⟩).trans ?_)
  have e : (win0_3.blk t).view.emb y = (ix2 ⟨256 * t.val + (y 0).val, by omega⟩ ⟨(y 1).val, h1⟩ : S16384x2816.Idx) := by
    blk_ext [at_point t]
  rw [e, Cert.FfnUpRefIdeal.gated_at]
  simp only [Cert.FfnUpRefIdeal.taps_at]
  have er : ∀ h, (⟨(256 * t.val + (y 0).val) / 4096 * 4096 + (256 * t.val + (y 0).val) % 4096, h⟩ : Fin 16384) = ⟨256 * t.val + (y 0).val, by omega⟩ :=
    fun h => Fin.ext (by show (256 * t.val + (y 0).val) / 4096 * 4096 + (256 * t.val + (y 0).val) % 4096 = 256 * t.val + (y 0).val; omega)
  simp only [er]

set_option maxHeartbeats 1600000 in
/-- The whole array of last rows. -/
theorem result_tail (c : Dev nD) : (dats m 0 c).arrAt 4 (cfgs 0).N
    = Cert.FfnUpRefIdeal.lastRows (Cert.FfnUpRefIdeal.padded (argX m c) (argW m c)) := by
  refine (dats m 0 c).arrAt_eq_of_covers 4 _ (by decide +kernel) fun t ht y => ?_
  have h15 := (flush0_4 t).mp ht
  blk_simp
  rw [after0_4]
  have hN := lt_of_lt_of_eq t.isLt N_0
  have h0 : (y 0).val < 1 := (y 0).isLt
  have h1 : (y 1).val < 8 := (y 1).isLt
  have h2 : (y 2).val < 5632 := (y 2).isLt
  have hy : y = ix3 (0 : Fin 1) (⟨(y 1).val, h1⟩ : Fin 8) (⟨(y 2).val, h2⟩ : Fin 5632) :=
    (eq_ix3 y).trans (congrArg (fun a : Fin 1 => (ix3 a (⟨(y 1).val, h1⟩ : Fin 8) (⟨(y 2).val, h2⟩ : Fin 5632))) (Fin.ext (by show (y 0).val = 0; omega) : (⟨(y 0).val, h0⟩ : Fin 1) = 0))
  refine (congrArg _ hy).trans ((tail m c t ⟨(y 1).val, h1⟩ ⟨(y 2).val, h2⟩).trans ?_)
  have e : (win0_4.blk t).view.emb y = (ix3 ⟨t.val / 16, by omega⟩ ⟨(y 1).val, h1⟩ ⟨(y 2).val, h2⟩ : S4x8x5632.Idx) := by
    blk_ext [at_point t]
  rw [e, Cert.FfnUpRefIdeal.lastRows_at, prod_at]
  congr 1
  exact Fin.ext (by show 256 * t.val + (248 + (y 1).val) = t.val / 16 * 4096 + (4088 + (y 1).val); omega)

end Cert.FfnUpIdeal.Val

end
-- ==== Proof.PairFfnUp.lean ====
/-
The conjuncts of the claim about FfnUp that are not frames of the kernel.
-/
module

public import proofs.«01_k».proof.Defs
public import proofs.«01_k».proof.Proof.Gen.FfnUp
public import proofs.«01_k».proof.Proof.Gen.FfnUpIdeal
public import proofs.«01_k».proof.Proof.Gen.FfnUpRefIdeal
public import proofs.«01_k».proof.Proof.ValFfnUp
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_FfnUpRefIdeal : Cert.quiescent_FfnUpRefIdeal (hFfnUpRefIdeal := Cert.FfnUpRefIdeal.Gen.facts) := by
  intro m g _
  exact (θ_run Cert.FfnUpRefIdeal.defs _ _).mono
    (fun r h => ⟨fun c => (h c).2.2, sem_eq_zero_of_no_sems (by decide) r.2⟩) (Cert.FfnUpRefIdeal.Value.run m g)

set_option maxHeartbeats 1600000 in
/-- The idealised kernel and the reference return the same two arrays. -/
theorem equal_FfnUp : Cert.algebraic_FfnUpIdeal_FfnUpRefIdeal (hFfnUpIdeal := Cert.FfnUpIdeal.Gen.facts) (hFfnUpRefIdeal := Cert.FfnUpRefIdeal.Gen.facts) := by
  pair_intro
  · run_from Cert.FfnUpIdeal.Gen.run_main m g
  · run_from Cert.FfnUpRefIdeal.Value.run m' g'
    · obtain ⟨h0, h1, h2⟩ := hagree c
      refine (show Cert.FfnUpRefIdeal.Value.res_main_v31 m' c = Cert.FfnUpRefIdeal.gated (Cert.FfnUpRefIdeal.taps (Cert.FfnUpRefIdeal.padded (m' ((c : Thread Cert.FfnUpRefIdeal.nD Cert.FfnUpRefIdeal.τ).loc Cert.FfnUpRefIdeal.main_arg0)) (m' ((c : Thread Cert.FfnUpRefIdeal.nD Cert.FfnUpRefIdeal.τ).loc Cert.FfnUpRefIdeal.main_arg1))) (m' ((c : Thread Cert.FfnUpRefIdeal.nD Cert.FfnUpRefIdeal.τ).loc Cert.FfnUpRefIdeal.main_arg2))) from rfl).trans ?_
      rw [h0, h1, h2]
      exact (Cert.FfnUpIdeal.Val.result_act m c).symm
    · exact (Cert.FfnUpIdeal.Val.result_tail m c).symm

end Cert.Proof

end
-- ==== Proof.ValFfnDown.lean ====
/-
The feed-forward block's second half: each tile of 512 rows of the product with the down projection, added to the scaled
residual and normalised, is the same rows of the reference's array.
-/
module

public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.FfnDownRefIdeal

open Cert.FfnDownRefIdeal Cert.FfnDownRefIdeal.Gen Idealize.ShloMosaic Idealize.ShloMosaic.TcCoe Idealize.SL.Sem

/-- What the reference returns, as a function of its five arguments. -/
def downRef (A : FVec Ideal S16384x2816 .bf16) (W : FVec Ideal S2816x1024 .f32) (H : FVec Ideal S16384x1024 .f32)
    (G B : FVec Ideal S1024 .f32) : FVec Ideal S16384x1024 .f32 :=
  addf (mulf (mulf (subf (addf (mulf (broadcastInDim S16384x1024 ![] bcast_S_S16384x1024 (constant S_ .f32 0x3FD744FD#32)) H) (Host.dotGeneral dot_S16384x2816_S2816x1024_S16384x1024_1_0_0_1_n_n none (extf .f32 A bitsLt_bf16_f32) W)) (broadcastInDim S16384x1024 ![0, 1] bcast_S16384x1_S16384x1024_0_1 (Host.divf (broadcastInDim S16384x1 ![0] bcast_S16384_S16384x1_0 (Host.reduceAdd (addf (mulf (broadcastInDim S16384x1024 ![] bcast_S_S16384x1024 (constant S_ .f32 0x3FD744FD#32)) H) (Host.dotGeneral dot_S16384x2816_S2816x1024_S16384x1024_1_0_0_1_n_n none (extf .f32 A bitsLt_bf16_f32) W)) (constant S_ .f32 0x00000000#32) reducesTo_S16384x1024_S16384_d1 h_S_)) (broadcastInDim S16384x1 ![] bcast_S_S16384x1 (constant S_ .f32 0x44800000#32))))) (broadcastInDim S16384x1024 ![0, 1] bcast_S16384x1_S16384x1024_0_1 (Host.rsqrt (addf (Host.divf (broadcastInDim S16384x1 ![0] bcast_S16384_S16384x1_0 (Host.reduceAdd (mulf (subf (addf (mulf (broadcastInDim S16384x1024 ![] bcast_S_S16384x1024 (constant S_ .f32 0x3FD744FD#32)) H) (Host.dotGeneral dot_S16384x2816_S2816x1024_S16384x1024_1_0_0_1_n_n none (extf .f32 A bitsLt_bf16_f32) W)) (broadcastInDim S16384x1024 ![0, 1] bcast_S16384x1_S16384x1024_0_1 (Host.divf (broadcastInDim S16384x1 ![0] bcast_S16384_S16384x1_0 (Host.reduceAdd (addf (mulf (broadcastInDim S16384x1024 ![] bcast_S_S16384x1024 (constant S_ .f32 0x3FD744FD#32)) H) (Host.dotGeneral dot_S16384x2816_S2816x1024_S16384x1024_1_0_0_1_n_n none (extf .f32 A bitsLt_bf16_f32) W)) (constant S_ .f32 0x00000000#32) reducesTo_S16384x1024_S16384_d1 h_S_)) (broadcastInDim S16384x1 ![] bcast_S_S16384x1 (constant S_ .f32 0x44800000#32))))) (subf (addf (mulf (broadcastInDim S16384x1024 ![] bcast_S_S16384x1024 (constant S_ .f32 0x3FD744FD#32)) H) (Host.dotGeneral dot_S16384x2816_S2816x1024_S16384x1024_1_0_0_1_n_n none (extf .f32 A bitsLt_bf16_f32) W)) (broadcastInDim S16384x1024 ![0, 1] bcast_S16384x1_S16384x1024_0_1 (Host.divf (broadcastInDim S16384x1 ![0] bcast_S16384_S16384x1_0 (Host.reduceAdd (addf (mulf (broadcastInDim S16384x1024 ![] bcast_S_S16384x1024 (constant S_ .f32 0x3FD744FD#32)) H) (Host.dotGeneral dot_S16384x2816_S2816x1024_S16384x1024_1_0_0_1_n_n none (extf .f32 A bitsLt_bf16_f32) W)) (constant S_ .f32 0x00000000#32) reducesTo_S16384x1024_S16384_d1 h_S_)) (broadcastInDim S16384x1 ![] bcast_S_S16384x1 (constant S_ .f32 0x44800000#32)))))) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 G))) (broadcastInDim S16384x1024 ![0, 1] bcast_S1x1024_S16384x1024_0_1 (broadcastInDim S1x1024 ![1] bcast_S1024_S1x1024_1 B))

end Cert.FfnDownRefIdeal

namespace Cert.FfnDownIdeal.Val

open Cert.FfnDownIdeal Cert.FfnDownIdeal.Gen Idealize.ShloMosaic Idealize.ShloMosaic.TcCoe Idealize.SL.Sem
open Idealize.ShloMosaic.Pipeline (Dat)

variable (m : (ℓ : Loc nD τ sig) → Buf (Elt Ideal) ℓ)

/-- Which block each window is at, at every grid point. -/
theorem at_point : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

set_option maxHeartbeats 1600000 in
/-- One grid point: the tile it stores, read at an index, is the reference read where that index lies in the array. -/
theorem tile (c : Dev nD) (t : Fin cfg0.N) (y) :
    k0_pay1 (iblk m c 2 t) (iblk m c 0 t) (iblk m c 1 t) (iblk m c 3 t) (iblk m c 4 t) y
      = Cert.FfnDownRefIdeal.downRef (m ((c : Thread nD τ).loc main_arg0)) (m ((c : Thread nD τ).loc main_arg1))
          (m ((c : Thread nD τ).loc main_arg2)) (m ((c : Thread nD τ).loc main_arg3)) (m ((c : Thread nD τ).loc main_arg4))
          (((cfg0.win 5).blk t).view.emb y) := by
  pointwise [k0_pay1, Cert.FfnDownRefIdeal.downRef]
  blk_point [iblk, V, at_point t]

/-- The whole result. -/
theorem result (c : Dev nD) : (dats m 0 c).arrAt 5 (cfgs 0).N
    = Cert.FfnDownRefIdeal.downRef (m ((c : Thread nD τ).loc main_arg0)) (m ((c : Thread nD τ).loc main_arg1))
          (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  frame_out
  exact tile m c t y

end Cert.FfnDownIdeal.Val

end
-- ==== Proof.PairFfnDown.lean ====
/-
The conjuncts of the claim about FfnDown that are not frames of the kernel.
-/
module

public import proofs.«01_k».proof.Defs
public import proofs.«01_k».proof.Proof.Gen.FfnDown
public import proofs.«01_k».proof.Proof.Gen.FfnDownIdeal
public import proofs.«01_k».proof.Proof.Gen.FfnDownRefIdeal
public import proofs.«01_k».proof.Proof.ValFfnDown
public import Idealize.ShloMosaic.Lib.Claim

@[expose] public section

noncomputable section

namespace Cert.Proof

open Idealize.ShloMosaic Idealize.ShloMosaic.TcCoe Idealize.SL.Sem

set_option maxHeartbeats 1600000 in
/-- The reference runs, leaves its arguments and ends with every counter at zero. -/
theorem runs_FfnDownRefIdeal : Cert.quiescent_FfnDownRefIdeal (hFfnDownRefIdeal := Cert.FfnDownRefIdeal.Gen.facts) := by
  intro m g _
  exact (θ_run Cert.FfnDownRefIdeal.defs _ _).mono
    (fun r h => ⟨fun c => (h c).2, sem_eq_zero_of_no_sems (by decide) r.2⟩) (Cert.FfnDownRefIdeal.Value.run m g)

set_option maxHeartbeats 1600000 in
/-- The idealised kernel and the reference return the same array. -/
theorem equal_FfnDown : Cert.algebraic_FfnDownIdeal_FfnDownRefIdeal (hFfnDownIdeal := Cert.FfnDownIdeal.Gen.facts) (hFfnDownRefIdeal := Cert.FfnDownRefIdeal.Gen.facts) := by
  pair_intro
  · run_from Cert.FfnDownIdeal.Gen.run_main m g
  · run_from Cert.FfnDownRefIdeal.Value.run m' g'
    exact (Cert.FfnDownIdeal.Val.result m c).symm

end Cert.Proof

end
-- ==== Proof.ValSProj.lean ====
/-
The sample group's projection, its values and its pooling rows: each tile of columns is the product of the cast rows, and the
operations after the kernel put its rows in the reference's order.
-/
module

public import proofs.«01_k».proof.Proof.Gen.SProjIdeal.Run
public import proofs.«01_k».proof.Proof.Gen.SProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SProjRefIdeal

open Cert.SProjRefIdeal Cert.SProjRefIdeal.Gen Cert.SProjRefIdeal.Value Idealize.ShloMosaic Idealize.ShloMosaic.TcCoe Idealize.SL.Sem

/-- The reference's values: columns 1024 to 1535 of the product, as heads. -/
def refV (X : FVec Ideal S128x4x1024 .f32) (W : FVec Ideal S1024x9728 .f32) : FVec Ideal S128x4x8x64 .f32 :=
  shapeCast _ (extractStridedSlice S128x4x512 ![0, 0, 1024] (Host.dotGeneral dot_S128x4x1024_S1024x9728_S128x4x9728_2_0_01_1_n_n none X W) slices_S128x4x9728_S128x4x512_0_0_1024) shapeCasts_S128x4x512_S128x4x8x64

/-- The reference's pooling rows: the last fifteen of the fifteen kept and the four new ones. -/
def refPool (X : FVec Ideal S128x4x1024 .f32) (W : FVec Ideal S1024x9728 .f32) (P : FVec Ideal S128x15x512 .f32) : FVec Ideal S128x15x512 .f32 :=
  extractStridedSlice S128x15x512 ![0, 4, 0] (concatenate S128x19x512 1 [⟨S128x15x512, P⟩, ⟨S128x4x512, (extractStridedSlice S128x4x512 ![0, 0, 1536] (Host.dotGeneral dot_S128x4x1024_S1024x9728_S128x4x9728_2_0_01_1_n_n none X W) slices_S128x4x9728_S128x4x512_0_0_1536)⟩] concatenates_S128x15x512_S128x4x512_S128x19x512_d1) slices_S128x19x512_S128x15x512_0_4_0

end Cert.SProjRefIdeal

namespace Cert.SProjIdeal.Val

open Cert.SProjIdeal Cert.SProjIdeal.Gen Idealize.ShloMosaic Idealize.ShloMosaic.TcCoe Idealize.SL.Sem
open Idealize.ShloMosaic.Pipeline (Dat)

/-- The product, with the rows in time order: row `r` is step `r / 128` of sequence `r % 128`. -/
def prod (X : FVec Ideal S128x4x1024 .f32) (W : FVec Ideal S1024x9728 .f32) : FVec Ideal S512x5632 .f32 :=
  fun y => ∑ x : Fin 1024, X (ix3 ⟨(y 0).val % 128, by omega⟩ ⟨(y 0).val / 128, by have : (y 0).val < 512 := (y 0).isLt; omega⟩ x) * W (ix2 x ⟨(y 1).val, by have : (y 1).val < 5632 := (y 1).isLt; omega⟩)

/-- What the operations after the kernel make of the product: the values. -/
def kerV (R : FVec Ideal S512x5632 .f32) : FVec Ideal S128x4x8x64 .f32 :=
  shapeCast _ (transpose S128x4x512 [1, 0, 2] (shapeCast _ (extractStridedSlice S512x512 ![0, 1024] R slices_S512x5632_S512x512_0_1024) shapeCasts_S512x512_S4x128x512) transposes_S4x128x512_S128x4x512_1_0_2) shapeCasts_S128x4x512_S128x4x8x64

/-- What the operations after the kernel make of the product and the rows kept: the pooling rows. -/
def kerPool (R : FVec Ideal S512x5632 .f32) (P : FVec Ideal S128x15x512 .f32) : FVec Ideal S128x15x512 .f32 :=
  transpose S128x15x512 [1, 0, 2] (shapeCast _ (extractStridedSlice S1920x512 ![512, 0] (concatenate S2432x512 0 [⟨S1920x512, (shapeCast _ (transpose S15x128x512 [1, 0, 2] P transposes_S128x15x512_S15x128x512_1_0_2) shapeCasts_S15x128x512_S1920x512)⟩, ⟨S512x512, (extractStridedSlice S512x512 ![0, 1536] R slices_S512x5632_S512x512_0_1536)⟩] concatenates_S1920x512_S512x512_S2432x512_d0) slices_S2432x512_S1920x512_512_0) shapeCasts_S1920x512_S15x128x512) transposes_S15x128x512_S128x15x512_1_0_2

set_option maxHeartbeats 1600000 in
/-- The values are the reference's. -/
theorem v_eq (X : FVec Ideal S128x4x1024 .f32) (W : FVec Ideal S1024x9728 .f32) : kerV (prod X W) = Cert.SProjRefIdeal.refV X W := by
  funext y
  obtain ⟨a, b, d, e, rfl⟩ : ∃ (a : Fin 128) (b : Fin 4) (d : Fin 8) (e : Fin 64), y = ix4 a b d e := ⟨y 0, y 1, y 2, y 3, by funext d; fin_cases d <;> rfl⟩
  have e1 : (b.val * 128 + a.val) % 128 = a.val := by omega
  have e2 : (b.val * 128 + a.val) / 128 = b.val := by omega
  pointwise [kerV, prod, Cert.SProjRefIdeal.refV]
  simp only [e1, e2]

set_option maxHeartbeats 1600000 in
/-- The pooling rows are the reference's. -/
theorem pool_eq (X : FVec Ideal S128x4x1024 .f32) (W : FVec Ideal S1024x9728 .f32) (P : FVec Ideal S128x15x512 .f32) : kerPool (prod X W) P = Cert.SProjRefIdeal.refPool X W P := by
  funext y
  obtain ⟨a, b, d, rfl⟩ : ∃ (a : Fin 128) (b : Fin 15) (d : Fin 512), y = ix3 a b d := ⟨y 0, y 1, y 2, by funext d; fin_cases d <;> rfl⟩
  pointwise [kerPool, prod, Cert.SProjRefIdeal.refPool]
  by_cases h : 4 + b.val < 15
  · have e : (512 + (b.val * 128 + a.val)) / 128 = 4 + b.val := by omega
    rw [dif_pos (show 512 + (b.val * 128 + a.val) < 1920 by omega), dif_pos h]
    simp only [e]
  · have e1 : (512 + (b.val * 128 + a.val) - 1920) % 128 = a.val := by omega
    have e2 : (512 + (b.val * 128 + a.val) - 1920) / 128 = 4 + b.val - 15 := by omega
    rw [dif_neg (show ¬512 + (b.val * 128 + a.val) < 1920 by omega), dif_neg h]
    simp only [e1, e2]

/-- The rows as the host hands them to the kernel, in time order. -/
def rows (X : FVec Ideal S128x4x1024 .f32) : FVec Ideal S512x1024 .f32 :=
  shapeCast _ (transpose S4x128x1024 [1, 0, 2] X transposes_S128x4x1024_S4x128x1024_1_0_2) shapeCasts_S4x128x1024_S512x1024

/-- The weight's columns as the host hands them to the kernel. -/
def cols (W : FVec Ideal S1024x9728 .f32) : FVec Ideal S1024x5632 .bf16 :=
  truncf .bf16 (extractStridedSlice S1024x5632 ![0, 0] W slices_S1024x9728_S1024x5632_0_0) bitsLt_bf16_f32

/-- The product of two such arrays. -/
def times (R : FVec Ideal S512x1024 .f32) (C : FVec Ideal S1024x5632 .bf16) : FVec Ideal S512x5632 .f32 :=
  fun y => ∑ x : Fin 1024, R (ix2 (y 0) x) * C (ix2 x (y 1))

theorem times_eq (X : FVec Ideal S128x4x1024 .f32) (W : FVec Ideal S1024x9728 .f32) : times (rows X) (cols W) = prod X W := by
  funext y
  obtain ⟨r, k, rfl⟩ : ∃ (r : Fin 512) (k : Fin 5632), y = ix2 r k := ⟨y 0, y 1, by funext d; fin_cases d <;> rfl⟩
  pointwise [times, rows, cols, prod]

variable (m : (ℓ : Loc nD τ sig) → Buf (Elt Ideal) ℓ)

theorem V_v1 (c : Dev nD) : V m c main_v1 = rows (m ((c : Thread nD τ).loc main_arg0)) := by
  entry_read
  try rfl

theorem V_v3 (c : Dev nD) : V m c main_v3 = cols (m ((c : Thread nD τ).loc main_arg1)) := by
  entry_read
  try rfl

/-- Which block each window is at, at every grid point: one column tile after another. -/
theorem at_point : ∀ t : Fin cfg0.N, win0_0.index t = ![0, 0] ∧ win0_1.index t = ![0, t.val] ∧ win0_2.index t = ![0, t.val] :=
  (by decide +kernel : ∀ t : Fin grid0.N, _)

/-- The rows are the same at every point. -/
theorem same_rows (c : Dev nD) (t t' : Fin cfg0.N) : iblk m c 0 t' = iblk m c 0 t := by
  blk_ext! [iblk, V, at_point t, at_point t']

/-- After any point the scratch holds the cast of the rows, put there at the first point. -/
theorem scratch (c : Dev nD) : ∀ (n : ℕ) (h : n < cfg0.N), (outsAt0 m c n h).2 = k0_pay1 (F := Ideal) (iblk m c 0 ⟨n, h⟩) := by
  intro n
  induction n with
  | zero =>
    intro h
    refine (congrArg Prod.snd (outsAt0_A m c ⟨0, h⟩ rfl)).trans ?_
    frame_out
  | succ n ih =>
    intro h
    have hN : n + 1 < 11 := lt_of_lt_of_eq h N_0
    have h0 : ¬(⟨n + 1, h⟩ : Fin cfg0.N).val % 11 = 0 := by show ¬(n + 1) % 11 = 0; omega
    refine (congrArg Prod.snd (outsAt0_B m c ⟨n + 1, h⟩ h0)).trans ?_
    have hs := (ih (by omega)).trans (congrArg _ (same_rows m c ⟨n + 1, h⟩ ⟨n, by omega⟩))
    rw [← hs]
    rfl

set_option maxHeartbeats 1600000 in
/-- One grid point: the tile it stores, read at an index, is the product read where that index lies in the array. -/
theorem tile (c : Dev nD) (t : Fin cfg0.N) (y) :
    k0_pay2 (k0_pay1 (iblk m c 0 t)) (iblk m c 1 t) y
      = prod (m ((c : Thread nD τ).loc main_arg0)) (m ((c : Thread nD τ).loc main_arg1)) (((cfg0.win 2).blk t).view.emb y) := by
  rw [← times_eq, ← V_v1 m c, ← V_v3 m c]
  pointwise [k0_pay1, k0_pay2, times]
  blk_point [iblk, at_point t]

/-- The whole product. -/
theorem result (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 11 = 0
  · rw [outsAt0_A m c t h]
    frame_out
    exact tile m c t y
  · have hlt : t.val - 1 < cfg0.N := Nat.lt_of_le_of_lt (Nat.sub_le _ _) t.isLt
    have hsc := (scratch m c (t.val - 1) hlt).trans (congrArg _ (same_rows m c t ⟨t.val - 1, hlt⟩))
    rw [outsAt0_B m c t h]
    rw [show (outsAt0 m c (t.val - 1) (Nat.lt_of_le_of_lt (Nat.sub_le _ _) t.isLt)).2 = k0_pay1 (F := Ideal) (iblk m c 0 t) from hsc]
    frame_out
    refine Eq.trans (congrFun (congrArg (fun z => k0_pay2 (F := Ideal) z (iblk m c 1 t)) (Memref.IsWhole.read_unread _ _)) y) ?_
    exact tile m c t y

end Cert.SProjIdeal.Val

end
-- ==== Proof.PairSProj.lean ====
/-
The conjuncts of the claim about SProj that are not frames of the kernel.
-/
module

public import proofs.«01_k».proof.Defs
public import proofs.«01_k».proof.Proof.Gen.SProj
public import proofs.«01_k».proof.Proof.Gen.SProjIdeal
public import proofs.«01_k».proof.Proof.Gen.SProjRefIdeal
public import proofs.«01_k».proof.Proof.ValSProj
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_SProjRefIdeal : Cert.quiescent_SProjRefIdeal (hSProjRefIdeal := Cert.SProjRefIdeal.Gen.facts) := by
  intro m g _
  exact (θ_run Cert.SProjRefIdeal.defs _ _).mono
    (fun r h => ⟨fun c => (h c).2.2, sem_eq_zero_of_no_sems (by decide) r.2⟩) (Cert.SProjRefIdeal.Value.run m g)

set_option maxHeartbeats 1600000 in
/-- The idealised kernel and the reference return the same values and the same pooling rows. -/
theorem equal_SProj : Cert.algebraic_SProjIdeal_SProjRefIdeal (hSProjIdeal := Cert.SProjIdeal.Gen.facts) (hSProjRefIdeal := Cert.SProjRefIdeal.Gen.facts) := by
  pair_intro
  · run_from Cert.SProjIdeal.Value.run m g
  · run_from Cert.SProjRefIdeal.Value.run m' g'
    · exact (Cert.SProjIdeal.Val.v_eq _ _).symm.trans (congrArg Cert.SProjIdeal.Val.kerV (Cert.SProjIdeal.Val.result m c).symm)
    · obtain ⟨h0, h1, h2⟩ := hagree c
      rw [h2]
      exact (Cert.SProjIdeal.Val.pool_eq _ _ _).symm.trans (congrArg (fun R => Cert.SProjIdeal.Val.kerPool R _) (Cert.SProjIdeal.Val.result m c).symm)

end Cert.Proof

end
-- ==== Proof.ValSRope.lean ====
/-
The sample group's rotary positions: the kernel turns a row of eight heads with two rolls and three tables, the reference turns the
first sixteen entries of each head by the angle of its step.
-/
module

public import proofs.«01_k».proof.Proof.Gen.SRopeIdeal.Value
public import proofs.«01_k».proof.Proof.Gen.SRopeRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SRopeRefIdeal

open Cert.SRopeRefIdeal Cert.SRopeRefIdeal.Gen Cert.SRopeRefIdeal.Value Idealize.ShloMosaic Idealize.ShloMosaic.TcCoe Idealize.SL.Sem

/-- The angle of each step and each of the eight frequencies. -/
def angle : FVec Ideal S4x8 .f32 :=
  mulf (broadcastInDim S4x8 ![0, 1] bcast_S4x1_S4x8_0_1 (broadcastInDim S4x1 ![0] bcast_S4_S4x1_0 (sitofp .f32 (addi (broadcastInDim S4 ![] bcast_S_S4 (constantI S_ 32 2048#32)) (iotaInDim S4 32 0))))) (broadcastInDim S4x8 ![0, 1] bcast_S1x8_S4x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The queries, head by head. -/
def headsQ (P : FVec Ideal S512x5632 .f32) : FVec Ideal S128x4x8x64 .f32 :=
  shapeCast _ (extractStridedSlice S128x4x512 ![0, 0, 0] (transpose S128x4x5632 [1, 0, 2] (shapeCast _ P shapeCasts_S512x5632_S4x128x5632) transposes_S4x128x5632_S128x4x5632_1_0_2) slices_S128x4x5632_S128x4x512_0_0_0) shapeCasts_S128x4x512_S128x4x8x64

/-- The keys, head by head. -/
def headsK (P : FVec Ideal S512x5632 .f32) : FVec Ideal S128x4x8x64 .f32 :=
  shapeCast _ (extractStridedSlice S128x4x512 ![0, 0, 512] (transpose S128x4x5632 [1, 0, 2] (shapeCast _ P shapeCasts_S512x5632_S4x128x5632) transposes_S4x128x5632_S128x4x5632_1_0_2) slices_S128x4x5632_S128x4x512_0_0_512) shapeCasts_S128x4x512_S128x4x8x64

/-- The rotation of the first sixteen entries of each head. -/
def turned (X : FVec Ideal S128x4x8x64 .f32) : FVec Ideal S128x4x8x64 .f32 :=
  concatenate S128x4x8x64 3 [⟨S128x4x8x8, subf (mulf (extractStridedSlice S128x4x8x8 ![0, 0, 0, 0] X slices_S128x4x8x64_S128x4x8x8_0_0_0_0) (broadcastInDim S128x4x8x8 ![0, 1, 2, 3] bcast_S1x4x1x8_S128x4x8x8_0_1_2_3 (broadcastInDim S1x4x1x8 ![1, 3] bcast_S4x8_S1x4x1x8_1_3 (Host.cos angle)))) (mulf (extractStridedSlice S128x4x8x8 ![0, 0, 0, 8] X slices_S128x4x8x64_S128x4x8x8_0_0_0_8) (broadcastInDim S128x4x8x8 ![0, 1, 2, 3] bcast_S1x4x1x8_S128x4x8x8_0_1_2_3 (broadcastInDim S1x4x1x8 ![1, 3] bcast_S4x8_S1x4x1x8_1_3 (Host.sin angle))))⟩, ⟨S128x4x8x8, addf (mulf (extractStridedSlice S128x4x8x8 ![0, 0, 0, 8] X slices_S128x4x8x64_S128x4x8x8_0_0_0_8) (broadcastInDim S128x4x8x8 ![0, 1, 2, 3] bcast_S1x4x1x8_S128x4x8x8_0_1_2_3 (broadcastInDim S1x4x1x8 ![1, 3] bcast_S4x8_S1x4x1x8_1_3 (Host.cos angle)))) (mulf (extractStridedSlice S128x4x8x8 ![0, 0, 0, 0] X slices_S128x4x8x64_S128x4x8x8_0_0_0_0) (broadcastInDim S128x4x8x8 ![0, 1, 2, 3] bcast_S1x4x1x8_S128x4x8x8_0_1_2_3 (broadcastInDim S1x4x1x8 ![1, 3] bcast_S4x8_S1x4x1x8_1_3 (Host.sin angle))))⟩, ⟨S128x4x8x48, extractStridedSlice S128x4x8x48 ![0, 0, 0, 16] X slices_S128x4x8x64_S128x4x8x48_0_0_0_16⟩] concatenates_S128x4x8x8_S128x4x8x8_S128x4x8x48_S128x4x8x64_d3

/-- The heads put back as rows in time order. -/
def flat (X : FVec Ideal S128x4x8x64 .f32) : FVec Ideal S512x512 .f32 :=
  shapeCast _ (transpose S4x128x8x64 [1, 0, 2, 3] X transposes_S128x4x8x64_S4x128x8x64_1_0_2_3) shapeCasts_S4x128x8x64_S512x512

/-- What the reference returns: the turned queries. -/
theorem ref_q (m : (ℓ : Loc nD τ sig) → Buf (Elt Ideal) ℓ) (c : Dev nD) : res_main_v42 m c
    = flat (turned (headsQ (m ((c : Thread nD τ).loc main_arg0)))) := rfl

/-- What the reference returns: the turned keys. -/
theorem ref_k (m : (ℓ : Loc nD τ sig) → Buf (Elt Ideal) ℓ) (c : Dev nD) : res_main_v80 m c
    = flat (turned (headsK (m ((c : Thread nD τ).loc main_arg0)))) := rfl

end Cert.SRopeRefIdeal

namespace Cert.SRopeIdeal.Val

open Cert.SRopeIdeal Cert.SRopeIdeal.Gen Idealize.ShloMosaic Idealize.ShloMosaic.TcCoe Idealize.SL.Sem
open Idealize.ShloMosaic.Pipeline (Dat)

/-- The angles as the host computes them for the kernel, row by row. -/
def angle : FVec Ideal S512x8 .f32 :=
  mulf (broadcastInDim S512x8 ![0, 1] bcast_S512x1_S512x8_0_1 (broadcastInDim S512x1 ![0] bcast_S512_S512x1_0 (sitofp .f32 (addi (broadcastInDim S512 ![] bcast_S_S512 (constantI S_ 32 2048#32)) (shapeCast _ (broadcastInDim S4x128 ![0] bcast_S4_S4x128_0 (iotaInDim S4 32 0)) shapeCasts_S4x128_S512))))) (broadcastInDim S512x8 ![0, 1] bcast_S1x8_S512x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32))))))

/-- The three tables, each repeated for the eight heads: the cosines, and the sines of the two rolls. -/
def tabC : FVec Ideal S512x512 .f32 :=
  shapeCast _ (broadcastInDim S1x512x8x64 ![0, 1, 2, 3] bcast_S1x512x1x64_S1x512x8x64_0_1_2_3 (shapeCast _ (concatenate S512x64 1 [⟨S512x8, Host.cos angle⟩, ⟨S512x8, Host.cos angle⟩, ⟨S512x48, (broadcastInDim S512x48 ![] bcast_S_S512x48 (constant S_ .f32 0x3F800000#32))⟩] concatenates_S512x8_S512x8_S512x48_S512x64_d1) shapeCasts_S512x64_S1x512x1x64)) shapeCasts_S1x512x8x64_S512x512
def tabL : FVec Ideal S512x512 .f32 :=
  shapeCast _ (broadcastInDim S1x512x8x64 ![0, 1, 2, 3] bcast_S1x512x1x64_S1x512x8x64_0_1_2_3 (shapeCast _ (concatenate S512x64 1 [⟨S512x8, Host.negf (Host.sin angle)⟩, ⟨S512x8, (broadcastInDim S512x8 ![] bcast_S_S512x8 (constant S_ .f32 0x00000000#32))⟩, ⟨S512x48, (broadcastInDim S512x48 ![] bcast_S_S512x48 (constant S_ .f32 0x00000000#32))⟩] concatenates_S512x8_S512x8_S512x48_S512x64_d1) shapeCasts_S512x64_S1x512x1x64)) shapeCasts_S1x512x8x64_S512x512
def tabH : FVec Ideal S512x512 .f32 :=
  shapeCast _ (broadcastInDim S1x512x8x64 ![0, 1, 2, 3] bcast_S1x512x1x64_S1x512x8x64_0_1_2_3 (shapeCast _ (concatenate S512x64 1 [⟨S512x8, (broadcastInDim S512x8 ![] bcast_S_S512x8 (constant S_ .f32 0x00000000#32))⟩, ⟨S512x8, Host.sin angle⟩, ⟨S512x48, (broadcastInDim S512x48 ![] bcast_S_S512x48 (constant S_ .f32 0x00000000#32))⟩] concatenates_S512x8_S512x8_S512x48_S512x64_d1) shapeCasts_S512x64_S1x512x1x64)) shapeCasts_S1x512x8x64_S512x512

variable (m : (ℓ : Loc nD τ sig) → Buf (Elt Ideal) ℓ)

theorem V_v32 (c : Dev nD) : V m c main_v32 = tabC := rfl
theorem V_v35 (c : Dev nD) : V m c main_v35 = tabL := rfl
theorem V_v38 (c : Dev nD) : V m c main_v38 = tabH := rfl

/-- The host's angle of a row is the reference's angle of its step. -/
theorem angle_at (r : Fin 512) (j : Fin 8) : angle (ix2 r j) = Cert.SRopeRefIdeal.angle (ix2 ⟨r.val / 128, by omega⟩ j) := by
  pointwise [angle, Cert.SRopeRefIdeal.angle]

/-- Columns `o` to `o + 511` of the projection. -/
def colsOf (P : FVec Ideal S512x5632 .f32) (o : ℕ) (ho : o + 512 ≤ 5632) : Vec Ideal S512x512 .f32 :=
  fun y => P (ix2 (y 0) ⟨o + (y 1).val, by have : (y 1).val < 512 := (y 1).isLt; omega⟩)

/-- The cosines of an entry of a head. -/
theorem tabC_at (r : Fin 512) (h : Fin 8) (e : Fin 64) : tabC (ix2 r ⟨h.val * 64 + e.val, by omega⟩)
    = if h : e.val < 8 then Ideal.cos (angle (ix2 r ⟨e.val, h⟩)) else if h' : e.val - 8 < 8 then Ideal.cos (angle (ix2 r ⟨e.val - 8, h'⟩)) else 1 := by
  pointwise [tabC]

/-- The sines that go with the entry eight further on. -/
theorem tabL_at (r : Fin 512) (h : Fin 8) (e : Fin 64) : tabL (ix2 r ⟨h.val * 64 + e.val, by omega⟩)
    = if h : e.val < 8 then -Ideal.sin (angle (ix2 r ⟨e.val, h⟩)) else 0 := by
  pointwise [tabL]
  split <;> simp

/-- The sines that go with the entry eight before. -/
theorem tabH_at (r : Fin 512) (h : Fin 8) (e : Fin 64) : tabH (ix2 r ⟨h.val * 64 + e.val, by omega⟩)
    = if h : e.val < 8 then 0 else if h' : e.val - 8 < 8 then Ideal.sin (angle (ix2 r ⟨e.val - 8, h'⟩)) else 0 := by
  pointwise [tabH]

/-- The kernel's turn of one entry: the entry, the one eight further on and the one eight before, each times its table. -/
def turn (X : Vec Ideal S512x512 .f32) (r : Fin 512) (h : Fin 8) (e : Fin 64) : EReal :=
  X (ix2 r ⟨h.val * 64 + e.val, by omega⟩) * tabC (ix2 r ⟨h.val * 64 + e.val, by omega⟩)
    + X (ix2 r ⟨(h.val * 64 + e.val + 512 - 504) % 512, by omega⟩) * tabL (ix2 r ⟨h.val * 64 + e.val, by omega⟩)
    + X (ix2 r ⟨(h.val * 64 + e.val + 512 - 8) % 512, by omega⟩) * tabH (ix2 r ⟨h.val * 64 + e.val, by omega⟩)

/-- The turn with the tables put in: the reference's rotation. -/
theorem turn_eq (X : Vec Ideal S512x512 .f32) (r : Fin 512) (h : Fin 8) (e : Fin 64) : turn X r h e
    = if h1 : e.val < 8 then
        X (ix2 r ⟨h.val * 64 + e.val, by omega⟩) * Ideal.cos (angle (ix2 r ⟨e.val, h1⟩)) - X (ix2 r ⟨h.val * 64 + (8 + e.val), by omega⟩) * Ideal.sin (angle (ix2 r ⟨e.val, h1⟩))
      else if h2 : e.val - 8 < 8 then
        X (ix2 r ⟨h.val * 64 + (8 + (e.val - 8)), by omega⟩) * Ideal.cos (angle (ix2 r ⟨e.val - 8, h2⟩)) + X (ix2 r ⟨h.val * 64 + (e.val - 8), by omega⟩) * Ideal.sin (angle (ix2 r ⟨e.val - 8, h2⟩))
      else X (ix2 r ⟨h.val * 64 + (16 + (e.val - 8 - 8)), by omega⟩) := by
  unfold turn
  rw [tabC_at, tabL_at, tabH_at]
  by_cases h1 : e.val < 8
  · have e1 : (h.val * 64 + e.val + 512 - 504) % 512 = h.val * 64 + (8 + e.val) := by omega
    simp only [dif_pos h1, e1, mul_zero, add_zero, mul_neg, sub_eq_add_neg]
  · by_cases h2 : e.val - 8 < 8
    · have e1 : (h.val * 64 + e.val + 512 - 8) % 512 = h.val * 64 + (e.val - 8) := by omega
      have e2 : 8 + (e.val - 8) = e.val := by omega
      simp only [dif_neg h1, dif_pos h2, e1, e2, mul_zero, add_zero]
    · have e2 : 16 + (e.val - 8 - 8) = e.val := by omega
      simp only [dif_neg h1, dif_neg h2, e2, mul_zero, add_zero, mul_one]

/-- The reference's turned queries, entry by entry. -/
theorem refQ_at (P : FVec Ideal S512x5632 .f32) (r : Fin 512) (h : Fin 8) (e : Fin 64) :
    Cert.SRopeRefIdeal.flat (Cert.SRopeRefIdeal.turned (Cert.SRopeRefIdeal.headsQ P)) (ix2 r ⟨h.val * 64 + e.val, by omega⟩) = turn (colsOf P 0 (by decide)) r h e := by
  have e1 : (h.val * 64 + e.val) / 64 = h.val := by omega
  have e2 : (h.val * 64 + e.val) % 64 = e.val := by omega
  have e3 : r.val / 128 * 128 + r.val % 128 = r.val := by omega
  rw [turn_eq]
  simp only [angle_at, colsOf]
  pointwise [Cert.SRopeRefIdeal.flat, Cert.SRopeRefIdeal.turned, Cert.SRopeRefIdeal.headsQ]

/-- The reference's turned keys, entry by entry. -/
theorem refK_at (P : FVec Ideal S512x5632 .f32) (r : Fin 512) (h : Fin 8) (e : Fin 64) :
    Cert.SRopeRefIdeal.flat (Cert.SRopeRefIdeal.turned (Cert.SRopeRefIdeal.headsK P)) (ix2 r ⟨h.val * 64 + e.val, by omega⟩) = turn (colsOf P 512 (by decide)) r h e := by
  have e1 : (h.val * 64 + e.val) / 64 = h.val := by omega
  have e2 : (h.val * 64 + e.val) % 64 = e.val := by omega
  have e3 : r.val / 128 * 128 + r.val % 128 = r.val := by omega
  rw [turn_eq]
  simp only [angle_at, colsOf]
  pointwise [Cert.SRopeRefIdeal.flat, Cert.SRopeRefIdeal.turned, Cert.SRopeRefIdeal.headsK]

/-- What the kernel stores, entry by entry. -/
theorem pay5_at (X : Vec Ideal S512x512 .f32) (r : Fin 512) (h : Fin 8) (e : Fin 64) : k0_pay5 tabC tabL tabH X (ix2 r ⟨h.val * 64 + e.val, by omega⟩) = turn X r h e := by
  pointwise [k0_pay5, k0_pay2, k0_pay3, k0_pay4, turn]
theorem pay6_at (X : Vec Ideal S512x512 .f32) (r : Fin 512) (h : Fin 8) (e : Fin 64) : k0_pay6 tabC tabL tabH X (ix2 r ⟨h.val * 64 + e.val, by omega⟩) = turn X r h e := by
  pointwise [k0_pay6, k0_pay2, k0_pay3, k0_pay4, turn]

/-- The window of every buffer is at its one block. -/
theorem at_point : ∀ t : Fin cfg0.N, win0_0.index t = ![0, 0] ∧ win0_1.index t = ![0, 1] ∧ win0_3.index t = ![0, 0] ∧ win0_4.index t = ![0, 0]
    ∧ win0_5.index t = ![0, 0] ∧ win0_6.index t = ![0, 0] ∧ win0_8.index t = ![0, 0] :=
  (by decide +kernel : ∀ t : Fin grid0.N, _)

theorem in_q (c : Dev nD) (t : Fin cfg0.N) : iblk m c 0 t = colsOf (m ((c : Thread nD τ).loc main_arg0)) 0 (by decide) := by
  blk_ext! [iblk, V, at_point t, colsOf]
theorem in_k (c : Dev nD) (t : Fin cfg0.N) : iblk m c 1 t = colsOf (m ((c : Thread nD τ).loc main_arg0)) 512 (by decide) := by
  blk_ext! [iblk, V, at_point t, colsOf]
theorem in_C (c : Dev nD) (t : Fin cfg0.N) : iblk m c 3 t = tabC := by
  rw [← V_v32 m c]
  blk_ext! [iblk, at_point t]
theorem in_L (c : Dev nD) (t : Fin cfg0.N) : iblk m c 4 t = tabL := by
  rw [← V_v35 m c]
  blk_ext! [iblk, at_point t]
theorem in_H (c : Dev nD) (t : Fin cfg0.N) : iblk m c 5 t = tabH := by
  rw [← V_v38 m c]
  blk_ext! [iblk, at_point t]

/-- An index of a row of heads, as row, head and entry. -/
theorem split_row (y : S512x512.Idx) : ∃ (r : Fin 512) (h : Fin 8) (e : Fin 64), y = ix2 r ⟨h.val * 64 + e.val, by omega⟩ := by
  have h1 : (y 1).val < 512 := (y 1).isLt
  refine ⟨y 0, ⟨(y 1).val / 64, by omega⟩, ⟨(y 1).val % 64, by omega⟩, ?_⟩
  funext d
  fin_cases d
  · rfl
  · exact Fin.ext (by show (y 1).val = (y 1).val / 64 * 64 + (y 1).val % 64; omega)

set_option maxHeartbeats 2000000 in
/-- The queries. -/
theorem result_q (c : Dev nD) : (dats m 0 c).arrAt 6 (cfgs 0).N
    = Cert.SRopeRefIdeal.flat (Cert.SRopeRefIdeal.turned (Cert.SRopeRefIdeal.headsQ (m ((c : Thread nD τ).loc main_arg0)))) := by
  refine (dats m 0 c).arrAt_eq_of_covers 6 _ (by decide +kernel) fun t _ y => ?_
  blk_simp
  rw [after0_6]
  frame_out
  rw [in_q, in_C, in_L, in_H]
  have he : (((cfg0.win 6).blk t).view.emb y) = y := by
    funext d
    fin_cases d <;> apply Fin.ext <;> blk_simp [at_point t] <;> rfl
  refine Eq.trans ?_ (congrArg _ he.symm)
  obtain ⟨r, h, e, rfl⟩ := split_row y
  exact (pay5_at _ r h e).trans (refQ_at _ r h e).symm

set_option maxHeartbeats 2000000 in
/-- The keys. -/
theorem result_k (c : Dev nD) : (dats m 0 c).arrAt 8 (cfgs 0).N
    = Cert.SRopeRefIdeal.flat (Cert.SRopeRefIdeal.turned (Cert.SRopeRefIdeal.headsK (m ((c : Thread nD τ).loc main_arg0)))) := by
  refine (dats m 0 c).arrAt_eq_of_covers 8 _ (by decide +kernel) fun t _ y => ?_
  blk_simp
  rw [after0_8]
  frame_out
  rw [in_k, in_C, in_L, in_H]
  have he : (((cfg0.win 8).blk t).view.emb y) = y := by
    funext d
    fin_cases d <;> apply Fin.ext <;> blk_simp [at_point t] <;> rfl
  refine Eq.trans ?_ (congrArg _ he.symm)
  obtain ⟨r, h, e, rfl⟩ := split_row y
  exact (pay6_at _ r h e).trans (refK_at _ r h e).symm

end Cert.SRopeIdeal.Val

end
-- ==== Proof.PairSRope.lean ====
/-
The conjuncts of the claim about SRope that are not frames of the kernel.
-/
module

public import proofs.«01_k».proof.Defs
public import proofs.«01_k».proof.Proof.Gen.SRope
public import proofs.«01_k».proof.Proof.Gen.SRopeIdeal
public import proofs.«01_k».proof.Proof.Gen.SRopeRefIdeal
public import proofs.«01_k».proof.Proof.ValSRope
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_SRopeRefIdeal : Cert.quiescent_SRopeRefIdeal (hSRopeRefIdeal := Cert.SRopeRefIdeal.Gen.facts) := by
  intro m g _
  exact (θ_run Cert.SRopeRefIdeal.defs _ _).mono
    (fun r h => ⟨fun c => (h c).2.2, sem_eq_zero_of_no_sems (by decide) r.2⟩) (Cert.SRopeRefIdeal.Value.run m g)

set_option maxHeartbeats 1600000 in
/-- The idealised kernel and the reference return the same turned queries and keys. -/
theorem equal_SRope : Cert.algebraic_SRopeIdeal_SRopeRefIdeal (hSRopeIdeal := Cert.SRopeIdeal.Gen.facts) (hSRopeRefIdeal := Cert.SRopeRefIdeal.Gen.facts) := by
  pair_intro
  · run_from Cert.SRopeIdeal.Gen.run_main m g
  · run_from Cert.SRopeRefIdeal.Value.run m' g'
    · refine (Cert.SRopeRefIdeal.ref_q _ c).trans ?_
      rw [hagree c]
      exact (Cert.SRopeIdeal.Val.result_q m c).symm
    · refine (Cert.SRopeRefIdeal.ref_k _ c).trans ?_
      rw [hagree c]
      exact (Cert.SRopeIdeal.Val.result_k m c).symm

end Cert.Proof

end
-- ==== Proof.ValSMix.lean ====
/-
The sample group's short convolution: the kernel forms each step's product and adds three taps for each step; the reference runs the taps
over the rows kept and the four new ones.
-/
module

public import proofs.«01_k».proof.Proof.Gen.SMixIdeal.Value
public import proofs.«01_k».proof.Proof.Gen.SMixRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SMixRefIdeal

open Cert.SMixRefIdeal Cert.SMixRefIdeal.Gen Cert.SMixRefIdeal.Value Idealize.ShloMosaic Idealize.ShloMosaic.TcCoe Idealize.SL.Sem

/-- The two rows kept of each sequence and the four new products, in time order. -/
def full (P : FVec Ideal S512x5632 .f32) (S : FVec Ideal S128x2x512 .f32) : FVec Ideal S6x128x512 .f32 :=
  concatenate S6x128x512 0 [⟨S2x128x512, (transpose S2x128x512 [1, 0, 2] S transposes_S128x2x512_S2x128x512_1_0_2)⟩, ⟨S4x128x512, (mulf (extractStridedSlice S4x128x512 ![0, 0, 4608] (shapeCast _ P shapeCasts_S512x5632_S4x128x5632) slices_S4x128x5632_S4x128x512_0_0_4608) (extractStridedSlice S4x128x512 ![0, 0, 5120] (shapeCast _ P shapeCasts_S512x5632_S4x128x5632) slices_S4x128x5632_S4x128x512_0_0_5120))⟩] concatenates_S2x128x512_S4x128x512_S6x128x512_d0

/-- The gated convolution. -/
def rowsRef (P : FVec Ideal S512x5632 .f32) (S : FVec Ideal S128x2x512 .f32) (W : FVec Ideal S3x512 .f32) : FVec Ideal S512x512 .bf16 :=
  truncf .bf16 (shapeCast _ (mulf (extractStridedSlice S4x128x512 ![0, 0, 4096] (shapeCast _ P shapeCasts_S512x5632_S4x128x5632) slices_S4x128x5632_S4x128x512_0_0_4096) (addf (addf (addf (broadcastInDim S4x128x512 ![] bcast_S_S4x128x512 (constant S_ .f32 0x00000000#32)) (mulf (extractStridedSlice S4x128x512 ![0, 0, 0] (full P S) slices_S6x128x512_S4x128x512_0_0_0) (broadcastInDim S4x128x512 ![0, 1, 2] bcast_S1x1x512_S4x128x512_0_1_2 (broadcastInDim S1x1x512 ![2] bcast_S512_S1x1x512_2 (shapeCast _ (extractStridedSlice S1x512 ![0, 0] W slices_S3x512_S1x512_0_0) shapeCasts_S1x512_S512))))) (mulf (extractStridedSlice S4x128x512 ![1, 0, 0] (full P S) slices_S6x128x512_S4x128x512_1_0_0) (broadcastInDim S4x128x512 ![0, 1, 2] bcast_S1x1x512_S4x128x512_0_1_2 (broadcastInDim S1x1x512 ![2] bcast_S512_S1x1x512_2 (shapeCast _ (extractStridedSlice S1x512 ![1, 0] W slices_S3x512_S1x512_1_0) shapeCasts_S1x512_S512))))) (mulf (extractStridedSlice S4x128x512 ![2, 0, 0] (full P S) slices_S6x128x512_S4x128x512_2_0_0) (broadcastInDim S4x128x512 ![0, 1, 2] bcast_S1x1x512_S4x128x512_0_1_2 (broadcastInDim S1x1x512 ![2] bcast_S512_S1x1x512_2 (shapeCast _ (extractStridedSlice S1x512 ![2, 0] W slices_S3x512_S1x512_2_0) shapeCasts_S1x512_S512)))))) shapeCasts_S4x128x512_S512x512) bitsLt_bf16_f32

/-- The rows kept. -/
def keptRef (P : FVec Ideal S512x5632 .f32) (S : FVec Ideal S128x2x512 .f32) : FVec Ideal S256x512 .f32 :=
  shapeCast _ (extractStridedSlice S2x128x512 ![4, 0, 0] (full P S) slices_S6x128x512_S2x128x512_4_0_0) shapeCasts_S2x128x512_S256x512

/-- One row of the rows kept followed by the new products. -/
def rowOf (P : FVec Ideal S512x5632 .f32) (S : FVec Ideal S128x2x512 .f32) (n : ℕ) (hn : n < 768) (k : Fin 512) : EReal :=
  if h : n < 256 then S (ix3 ⟨n % 128, by omega⟩ ⟨n / 128, by omega⟩ k)
  else P (ix2 ⟨n - 256, by omega⟩ ⟨4608 + k.val, by omega⟩) * P (ix2 ⟨n - 256, by omega⟩ ⟨5120 + k.val, by omega⟩)

/-- One entry of the gated convolution. -/
def rowAt (P : FVec Ideal S512x5632 .f32) (S : FVec Ideal S128x2x512 .f32) (W : FVec Ideal S3x512 .f32) (R : Fin 512) (k : Fin 512) : EReal :=
  P (ix2 R ⟨4096 + k.val, by omega⟩) * (W (ix2 0 k) * rowOf P S R.val (by omega) k + W (ix2 1 k) * rowOf P S (128 + R.val) (by omega) k + W (ix2 2 k) * rowOf P S (256 + R.val) (by omega) k)

theorem full_at (P : FVec Ideal S512x5632 .f32) (S : FVec Ideal S128x2x512 .f32) (t : Fin 6) (b : Fin 128) (k : Fin 512) :
    full P S (ix3 t b k) = rowOf P S (t.val * 128 + b.val) (by omega) k := by
  unfold rowOf
  pointwise [full]
  by_cases h : t.val < 2
  · have e1 : (t.val * 128 + b.val) % 128 = b.val := by omega
    have e2 : (t.val * 128 + b.val) / 128 = t.val := by omega
    rw [dif_pos h, dif_pos (by omega)]
    simp only [e1, e2]
  · have e : (t.val - 2) * 128 + b.val = t.val * 128 + b.val - 256 := by omega
    rw [dif_neg h, dif_neg (by omega)]
    simp only [e]

theorem rowOf_congr (P : FVec Ideal S512x5632 .f32) (S : FVec Ideal S128x2x512 .f32) (n n' : ℕ) (hn : n < 768) (hn' : n' < 768) (k : Fin 512) (h : n = n') : rowOf P S n hn k = rowOf P S n' hn' k := by
  subst h
  rfl

theorem rowsRef_at (P : FVec Ideal S512x5632 .f32) (S : FVec Ideal S128x2x512 .f32) (W : FVec Ideal S3x512 .f32) (R : Fin 512) (k : Fin 512) : rowsRef P S W (ix2 R k) = rowAt P S W R k := by
  have e1 : R.val / 128 * 128 + R.val % 128 = R.val := by omega
  pointwise [rowsRef]
  simp only [full_at]
  unfold rowAt
  rw [rowOf_congr P S (R.val / 128 * 128 + R.val % 128) R.val (by omega) (by omega) k (by omega),
    rowOf_congr P S ((1 + R.val / 128) * 128 + R.val % 128) (128 + R.val) (by omega) (by omega) k (by omega),
    rowOf_congr P S ((2 + R.val / 128) * 128 + R.val % 128) (256 + R.val) (by omega) (by omega) k (by omega)]
  rw [mul_comm (W (ix2 0 k)), mul_comm (W (ix2 1 k)), mul_comm (W (ix2 2 k))]

theorem keptRef_at (P : FVec Ideal S512x5632 .f32) (S : FVec Ideal S128x2x512 .f32) (R : Fin 256) (k : Fin 512) : keptRef P S (ix2 R k) = rowOf P S (512 + R.val) (by omega) k := by
  pointwise [keptRef]
  rw [full_at]
  exact rowOf_congr P S _ _ _ _ k (by show (4 + R.val / 128) * 128 + R.val % 128 = 512 + R.val; omega)

end Cert.SMixRefIdeal

namespace Cert.SMixIdeal.Val

open Cert.SMixIdeal Cert.SMixIdeal.Gen Idealize.ShloMosaic Idealize.ShloMosaic.TcCoe Idealize.SL.Sem
open Cert.SMixRefIdeal (rowAt rowOf)

variable (m : (ℓ : Loc nD τ sig) → Buf (Elt Ideal) ℓ)

/-- The projected columns. -/
abbrev projArg (c : Dev nD) : FVec Ideal S512x5632 .f32 := m ((c : Thread nD τ).loc main_arg1)
/-- The rows kept before. -/
abbrev keptArg (c : Dev nD) : FVec Ideal S128x2x512 .f32 := m ((c : Thread nD τ).loc main_arg2)
/-- The three taps. -/
abbrev tapArg (c : Dev nD) : FVec Ideal S3x512 .f32 := m ((c : Thread nD τ).loc main_arg5)

/-- Which block each window is at, at the one grid point. -/
theorem at_point : ∀ t : Fin cfg0.N, win0_1.index t = ![0, 8] ∧ win0_2.index t = ![0, 9] ∧ win0_3.index t = ![0, 10] ∧ win0_4.index t = ![0, 0]
    ∧ win0_7.index t = ![0, 0] ∧ win0_9.index t = ![0, 0] ∧ win0_10.index t = ![0, 0] :=
  (by decide +kernel : ∀ t : Fin grid0.N, _)

/-- The rows kept, as the host hands them to the kernel, in time order. -/
def timed (S : FVec Ideal S128x2x512 .f32) : FVec Ideal S256x512 .f32 :=
  shapeCast _ (transpose S2x128x512 [1, 0, 2] S transposes_S128x2x512_S2x128x512_1_0_2) shapeCasts_S2x128x512_S256x512

theorem V_v1 (c : Dev nD) : V m c main_v1 = timed (keptArg m c) := rfl

theorem in_db (c : Dev nD) (t : Fin cfg0.N) (r k : Fin 512) : iblk m c 1 t (ix2 r k) = projArg m c (ix2 r ⟨4096 + k.val, by omega⟩) := by
  blk_point [iblk, V, at_point t]
theorem in_dc (c : Dev nD) (t : Fin cfg0.N) (r k : Fin 512) : iblk m c 2 t (ix2 r k) = projArg m c (ix2 r ⟨4608 + k.val, by omega⟩) := by
  blk_point [iblk, V, at_point t]
theorem in_dh (c : Dev nD) (t : Fin cfg0.N) (r k : Fin 512) : iblk m c 3 t (ix2 r k) = projArg m c (ix2 r ⟨5120 + k.val, by omega⟩) := by
  blk_point [iblk, V, at_point t]
theorem in_w (c : Dev nD) (t : Fin cfg0.N) (r : Fin 3) (k : Fin 512) : iblk m c 7 t (ix2 r k) = tapArg m c (ix2 r k) := by
  blk_point [iblk, V, at_point t]
theorem in_zb (c : Dev nD) (t : Fin cfg0.N) (r : Fin 256) (k : Fin 512) : iblk m c 4 t (ix2 r k) = keptArg m c (ix3 ⟨r.val % 128, by omega⟩ ⟨r.val / 128, by omega⟩ k) := by
  refine Eq.trans (b := timed (keptArg m c) (ix2 r k)) ?_ (by pointwise [timed])
  rw [← V_v1]
  blk_point [iblk, at_point t]

/-- A block of 128 rows of an array, read at an index. -/
theorem ld_at (X : Vec Ideal S512x512 .f32) (o : ℕ) (inb : ∀ a, (![o, 0] : Fin 2 → ℕ) a + S128x512.size a ≤ S512x512.size a) (ho : o ≤ 384) (a : Fin 128) (k : Fin 512) :
    View.ld X (Rect.unit (s := S512x512) ![o, 0] S128x512.size inb) (ix2 a k) = X (ix2 ⟨o + a.val, by omega⟩ k) :=
  congrArg X (by funext d; fin_cases d <;> apply Fin.ext <;> simp [View.ld, Rect.unit])
theorem ld_kept (X : Vec Ideal S256x512 .f32) (o : ℕ) (inb : ∀ a, (![o, 0] : Fin 2 → ℕ) a + S128x512.size a ≤ S256x512.size a) (ho : o ≤ 128) (a : Fin 128) (k : Fin 512) :
    View.ld X (Rect.unit (s := S256x512) ![o, 0] S128x512.size inb) (ix2 a k) = X (ix2 ⟨o + a.val, by omega⟩ k) :=
  congrArg X (by funext d; fin_cases d <;> apply Fin.ext <;> simp [View.ld, Rect.unit])
theorem ld_taps (X : Vec Ideal S3x512 .f32) (j : Fin 3) (k : Fin 512) : View.ld X r0_1 (ix2 j k) = X (ix2 j k) :=
  congrArg X (by funext d; fin_cases d <;> apply Fin.ext <;> simp [View.ld, Rect.unit])

theorem pay2_at (X : Vec Ideal S128x512 .f32) (a : Fin 128) (k : Fin 512) : k0_pay2 X (ix2 a k) = X (ix2 a k) := by
  pointwise [k0_pay2]
theorem pay3_at (X : Vec Ideal S128x512 .f32) (a : Fin 128) (k : Fin 512) : k0_pay3 X (ix2 a k) = X (ix2 a k) := by
  pointwise [k0_pay3]
theorem pay4_at (X Y : Vec Ideal S128x512 .f32) (a : Fin 128) (k : Fin 512) : k0_pay4 X Y (ix2 a k) = X (ix2 a k) * Y (ix2 a k) := by
  pointwise [k0_pay4]
theorem pay5_at (X Y : Vec Ideal S128x512 .f32) (a : Fin 128) (k : Fin 512) : k0_pay5 X Y (ix2 a k) = X (ix2 a k) * Y (ix2 a k) := by
  pointwise [k0_pay5]
theorem pay6_at (X Y : Vec Ideal S128x512 .f32) (a : Fin 128) (k : Fin 512) : k0_pay6 X Y (ix2 a k) = X (ix2 a k) * Y (ix2 a k) := by
  pointwise [k0_pay6]
theorem pay7_at (X Y : Vec Ideal S128x512 .f32) (a : Fin 128) (k : Fin 512) : k0_pay7 X Y (ix2 a k) = X (ix2 a k) * Y (ix2 a k) := by
  pointwise [k0_pay7]
theorem pay16_at (W : Vec Ideal S3x512 .f32) (A B D X : Vec Ideal S128x512 .f32) (a : Fin 128) (k : Fin 512) :
    k0_pay16 W A B D X (ix2 a k) = X (ix2 a k) * (W (ix2 0 k) * A (ix2 a k) + W (ix2 1 k) * B (ix2 a k) + W (ix2 2 k) * D (ix2 a k)) := by
  pointwise [k0_pay16]
theorem pay25_at (W : Vec Ideal S3x512 .f32) (A B D X : Vec Ideal S128x512 .f32) (a : Fin 128) (k : Fin 512) :
    k0_pay25 W A B D X (ix2 a k) = X (ix2 a k) * (W (ix2 0 k) * A (ix2 a k) + W (ix2 1 k) * B (ix2 a k) + W (ix2 2 k) * D (ix2 a k)) := by
  pointwise [k0_pay25]
theorem pay36_at (W : Vec Ideal S3x512 .f32) (A B D X : Vec Ideal S128x512 .f32) (a : Fin 128) (k : Fin 512) :
    k0_pay36 W A B D X (ix2 a k) = X (ix2 a k) * (W (ix2 0 k) * A (ix2 a k) + W (ix2 1 k) * B (ix2 a k) + W (ix2 2 k) * D (ix2 a k)) := by
  pointwise [k0_pay36]
theorem pay46_at (W : Vec Ideal S3x512 .f32) (A B D X : Vec Ideal S128x512 .f32) (a : Fin 128) (k : Fin 512) :
    k0_pay46 W A B D X (ix2 a k) = X (ix2 a k) * (W (ix2 0 k) * A (ix2 a k) + W (ix2 1 k) * B (ix2 a k) + W (ix2 2 k) * D (ix2 a k)) := by
  pointwise [k0_pay46]

/-- A new product is a row of the reference's sequence. -/
theorem new_row (c : Dev nD) (t : Fin cfg0.N) (o : ℕ) (inb : ∀ a, (![o, 0] : Fin 2 → ℕ) a + S128x512.size a ≤ S512x512.size a) (ho : o ≤ 384)
    (a : Fin 128) (k : Fin 512) (n : ℕ) (hn : n < 768) (h : n = 256 + (o + a.val)) :
    View.ld (e' := .f32) (iblk m c 2 t) (Rect.unit (s := S512x512) ![o, 0] S128x512.size inb) (ix2 a k) * View.ld (e' := .f32) (iblk m c 3 t) (Rect.unit (s := S512x512) ![o, 0] S128x512.size inb) (ix2 a k)
      = rowOf (projArg m c) (keptArg m c) n hn k := by
  subst h
  have e : 256 + (o + a.val) - 256 = o + a.val := by omega
  rw [ld_at _ o inb ho, ld_at _ o inb ho, in_dc, in_dh]
  unfold rowOf
  rw [dif_neg (by omega)]
  simp only [e]

/-- A row kept is a row of the reference's sequence. -/
theorem old_row (c : Dev nD) (t : Fin cfg0.N) (o : ℕ) (inb : ∀ a, (![o, 0] : Fin 2 → ℕ) a + S128x512.size a ≤ S256x512.size a) (ho : o ≤ 128)
    (a : Fin 128) (k : Fin 512) (n : ℕ) (hn : n < 768) (h : n = o + a.val) :
    View.ld (e' := .f32) (iblk m c 4 t) (Rect.unit (s := S256x512) ![o, 0] S128x512.size inb) (ix2 a k) = rowOf (projArg m c) (keptArg m c) n hn k := by
  subst h
  rw [ld_kept _ o inb ho, in_zb]
  unfold rowOf
  rw [dif_pos (by omega)]

set_option maxHeartbeats 1600000 in
/-- What the point leaves of the rows kept. -/
theorem kept_tile (c : Dev nD) (t : Fin cfg0.N) (r : Fin 256) (k : Fin 512) :
    out0_10 (iblk m c 0 t) (iblk m c 1 t) (iblk m c 2 t) (iblk m c 3 t) (iblk m c 4 t) (iblk m c 5 t) (iblk m c 6 t) (iblk m c 7 t) (ix2 r k)
      = rowOf (projArg m c) (keptArg m c) (512 + r.val) (by omega) k := by
  unfold_out out0_10
  canon_tiles x hh
  · obtain ⟨a, b, rfl⟩ : ∃ (a : Fin 128) (b : Fin 512), x = ix2 a b := ⟨x 0, x 1, by funext d; fin_cases d <;> rfl⟩
    obtain rfl : k = b := Fin.ext hh1
    have e0 : r.val = 128 + a.val := hh0
    exact (pay7_at _ _ a k).trans (new_row m c t 384 _ (by omega) a k (512 + r.val) (by omega) (by omega))
  · obtain ⟨a, b, rfl⟩ : ∃ (a : Fin 128) (b : Fin 512), x = ix2 a b := ⟨x 0, x 1, by funext d; fin_cases d <;> rfl⟩
    obtain rfl : k = b := Fin.ext hh1
    have e0 : r.val = a.val := hh0
    exact (pay6_at _ _ a k).trans (new_row m c t 256 _ (by omega) a k (512 + r.val) (by omega) (by omega))

/-- One entry of the gated convolution from its four reads. -/
theorem entry_of (c : Dev nD) (t : Fin cfg0.N) (o : ℕ) (inb : ∀ a, (![o, 0] : Fin 2 → ℕ) a + S128x512.size a ≤ S512x512.size a) (ho : o ≤ 384)
    (a : Fin 128) (r k : Fin 512) (hr : r.val = o + a.val) (A B D : EReal)
    (hA : A = rowOf (projArg m c) (keptArg m c) r.val (by omega) k) (hB : B = rowOf (projArg m c) (keptArg m c) (128 + r.val) (by omega) k)
    (hD : D = rowOf (projArg m c) (keptArg m c) (256 + r.val) (by omega) k) :
    View.ld (e' := .f32) (iblk m c 1 t) (Rect.unit (s := S512x512) ![o, 0] S128x512.size inb) (ix2 a k)
        * (View.ld (e' := .f32) (iblk m c 7 t) r0_1 (ix2 0 k) * A + View.ld (e' := .f32) (iblk m c 7 t) r0_1 (ix2 1 k) * B + View.ld (e' := .f32) (iblk m c 7 t) r0_1 (ix2 2 k) * D)
      = rowAt (projArg m c) (keptArg m c) (tapArg m c) r k := by
  have hi : o + a.val < 512 := by omega
  rw [ld_at _ o inb ho, show (⟨o + a.val, hi⟩ : Fin 512) = r from Fin.ext hr.symm, ld_taps, ld_taps, ld_taps, in_db, in_w, in_w, in_w, hA, hB, hD]
  rfl

set_option maxHeartbeats 1600000 in
/-- What the point leaves of the gated convolution. -/
theorem rows_tile (c : Dev nD) (t : Fin cfg0.N) (r k : Fin 512) :
    out0_9 (iblk m c 0 t) (iblk m c 1 t) (iblk m c 2 t) (iblk m c 3 t) (iblk m c 4 t) (iblk m c 5 t) (iblk m c 6 t) (iblk m c 7 t) (ix2 r k)
      = rowAt (projArg m c) (keptArg m c) (tapArg m c) r k := by
  unfold_out out0_9
  canon_tiles x hh
  · obtain ⟨a, b, rfl⟩ : ∃ (a : Fin 128) (b : Fin 512), x = ix2 a b := ⟨x 0, x 1, by funext d; fin_cases d <;> rfl⟩
    obtain rfl : k = b := Fin.ext hh1
    have e0 : r.val = 384 + a.val := hh0
    exact (pay46_at _ _ _ _ _ a k).trans (entry_of m c t 384 _ (by omega) a r k (by omega) _ _ _
      ((pay5_at _ _ a k).trans (new_row m c t 128 _ (by omega) a k r.val (by omega) (by omega)))
      ((pay6_at _ _ a k).trans (new_row m c t 256 _ (by omega) a k (128 + r.val) (by omega) (by omega)))
      ((pay7_at _ _ a k).trans (new_row m c t 384 _ (by omega) a k (256 + r.val) (by omega) (by omega))))
  · obtain ⟨a, b, rfl⟩ : ∃ (a : Fin 128) (b : Fin 512), x = ix2 a b := ⟨x 0, x 1, by funext d; fin_cases d <;> rfl⟩
    obtain rfl : k = b := Fin.ext hh1
    have e0 : r.val = 256 + a.val := hh0
    exact (pay36_at _ _ _ _ _ a k).trans (entry_of m c t 256 _ (by omega) a r k (by omega) _ _ _
      ((pay4_at _ _ a k).trans (new_row m c t 0 _ (by omega) a k r.val (by omega) (by omega)))
      ((pay5_at _ _ a k).trans (new_row m c t 128 _ (by omega) a k (128 + r.val) (by omega) (by omega)))
      ((pay6_at _ _ a k).trans (new_row m c t 256 _ (by omega) a k (256 + r.val) (by omega) (by omega))))
  · obtain ⟨a, b, rfl⟩ : ∃ (a : Fin 128) (b : Fin 512), x = ix2 a b := ⟨x 0, x 1, by funext d; fin_cases d <;> rfl⟩
    obtain rfl : k = b := Fin.ext hh1
    have e0 : r.val = 128 + a.val := hh0
    exact (pay25_at _ _ _ _ _ a k).trans (entry_of m c t 128 _ (by omega) a r k (by omega) _ _ _
      ((pay3_at _ a k).trans (old_row m c t 128 _ (by omega) a k r.val (by omega) (by omega)))
      ((pay4_at _ _ a k).trans (new_row m c t 0 _ (by omega) a k (128 + r.val) (by omega) (by omega)))
      ((pay5_at _ _ a k).trans (new_row m c t 128 _ (by omega) a k (256 + r.val) (by omega) (by omega))))
  · obtain ⟨a, b, rfl⟩ : ∃ (a : Fin 128) (b : Fin 512), x = ix2 a b := ⟨x 0, x 1, by funext d; fin_cases d <;> rfl⟩
    obtain rfl : k = b := Fin.ext hh1
    have e0 : r.val = a.val := hh0
    exact (pay16_at _ _ _ _ _ a k).trans (entry_of m c t 0 _ (by omega) a r k (by omega) _ _ _
      ((pay2_at _ a k).trans (old_row m c t 0 _ (by omega) a k r.val (by omega) (by omega)))
      ((pay3_at _ a k).trans (old_row m c t 128 _ (by omega) a k (128 + r.val) (by omega) (by omega)))
      ((pay4_at _ _ a k).trans (new_row m c t 0 _ (by omega) a k (256 + r.val) (by omega) (by omega))))

/-- The gated convolution. -/
theorem result_rows (c : Dev nD) : (dats m 0 c).arrAt 9 (cfgs 0).N = Cert.SMixRefIdeal.rowsRef (projArg m c) (keptArg m c) (tapArg m c) := by
  refine (dats m 0 c).arrAt_eq_of_covers 9 _ (by decide +kernel) fun t _ y => ?_
  blk_simp
  rw [after0_9]
  obtain ⟨r, k, rfl⟩ : ∃ (r k : Fin 512), y = ix2 r k := ⟨y 0, y 1, by funext d; fin_cases d <;> rfl⟩
  refine (rows_tile m c t r k).trans ((Cert.SMixRefIdeal.rowsRef_at _ _ _ _ k).symm.trans (congrArg _ ?_))
  funext d
  fin_cases d <;> apply Fin.ext <;> blk_simp [at_point t] <;> rfl

/-- The rows kept. -/
theorem result_kept (c : Dev nD) : (dats m 0 c).arrAt 10 (cfgs 0).N = Cert.SMixRefIdeal.keptRef (projArg m c) (keptArg m c) := by
  refine (dats m 0 c).arrAt_eq_of_covers 10 _ (by decide +kernel) fun t _ y => ?_
  blk_simp
  rw [after0_10]
  obtain ⟨r, k, rfl⟩ : ∃ (r : Fin 256) (k : Fin 512), y = ix2 r k := ⟨y 0, y 1, by funext d; fin_cases d <;> rfl⟩
  refine (kept_tile m c t r k).trans ((Cert.SMixRefIdeal.keptRef_at _ _ _ k).symm.trans (congrArg _ ?_))
  funext d
  fin_cases d <;> apply Fin.ext <;> blk_simp [at_point t] <;> rfl

end Cert.SMixIdeal.Val

end
-- ==== Proof.PairSMix.lean ====
/-
The conjuncts of the claim about SMix that are not frames of the kernel.
-/
module

public import proofs.«01_k».proof.Defs
public import proofs.«01_k».proof.Proof.Gen.SMix
public import proofs.«01_k».proof.Proof.Gen.SMixIdeal
public import proofs.«01_k».proof.Proof.Gen.SMixRefIdeal
public import proofs.«01_k».proof.Proof.ValSMix
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_SMixRefIdeal : Cert.quiescent_SMixRefIdeal (hSMixRefIdeal := Cert.SMixRefIdeal.Gen.facts) := by
  intro m g _
  exact (θ_run Cert.SMixRefIdeal.defs _ _).mono
    (fun r h => ⟨fun c => (h c).2.2, sem_eq_zero_of_no_sems (by decide) r.2⟩) (Cert.SMixRefIdeal.Value.run m g)

set_option maxHeartbeats 1600000 in
/-- The idealised kernel and the reference return the same gated convolution and the same rows kept. -/
theorem equal_SMix : Cert.algebraic_SMixIdeal_SMixRefIdeal (hSMixIdeal := Cert.SMixIdeal.Gen.facts) (hSMixRefIdeal := Cert.SMixRefIdeal.Gen.facts) := by
  pair_intro
  · run_from Cert.SMixIdeal.Gen.run_main m g
  · run_from Cert.SMixRefIdeal.Value.run m' g'
    · obtain ⟨h0, h1, h2, h3, h4, h5⟩ := hagree c
      rw [h1, h2]
      exact (Cert.SMixIdeal.Val.result_rows m c).symm
    · obtain ⟨h0, h1, h2, h3, h4, h5⟩ := hagree c
      rw [h1, h2]
      exact (Cert.SMixIdeal.Val.result_kept m c).symm

end Cert.Proof

end
-- ==== Proof.ValSUp.lean ====
/-
The sample group's first feed-forward product and its convolution rows: each tile of columns is the product of the cast rows, and
the operations after the kernel put the two kept steps before it.
-/
module

public import proofs.«01_k».proof.Proof.Gen.SUpIdeal.Run
public import proofs.«01_k».proof.Proof.Gen.SUpRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SUpRefIdeal

open Cert.SUpRefIdeal Cert.SUpRefIdeal.Gen Cert.SUpRefIdeal.Value Idealize.ShloMosaic Idealize.ShloMosaic.TcCoe Idealize.SL.Sem

/-- The reference's rows: the two kept steps, then the four new ones. -/
def refFull (X : FVec Ideal S512x1024 .f32) (W : FVec Ideal S1024x5632 .f32) (P : FVec Ideal S128x2x5632 .f32) : FVec Ideal S768x5632 .f32 :=
  shapeCast _ (concatenate S6x128x5632 0 [⟨S2x128x5632, (transpose S2x128x5632 [1, 0, 2] P transposes_S128x2x5632_S2x128x5632_1_0_2)⟩, ⟨S4x128x5632, (shapeCast _ (Host.dotGeneral dot_S512x1024_S1024x5632_S512x5632_1_0_0_1_n_n none X W) shapeCasts_S512x5632_S4x128x5632)⟩] concatenates_S2x128x5632_S4x128x5632_S6x128x5632_d0) shapeCasts_S6x128x5632_S768x5632

/-- The reference's convolution rows: the last two of them. -/
def refTail (X : FVec Ideal S512x1024 .f32) (W : FVec Ideal S1024x5632 .f32) (P : FVec Ideal S128x2x5632 .f32) : FVec Ideal S128x2x5632 .f32 :=
  transpose S128x2x5632 [1, 0, 2] (extractStridedSlice S2x128x5632 ![4, 0, 0] (concatenate S6x128x5632 0 [⟨S2x128x5632, (transpose S2x128x5632 [1, 0, 2] P transposes_S128x2x5632_S2x128x5632_1_0_2)⟩, ⟨S4x128x5632, (shapeCast _ (Host.dotGeneral dot_S512x1024_S1024x5632_S512x5632_1_0_0_1_n_n none X W) shapeCasts_S512x5632_S4x128x5632)⟩] concatenates_S2x128x5632_S4x128x5632_S6x128x5632_d0) slices_S6x128x5632_S2x128x5632_4_0_0) transposes_S2x128x5632_S128x2x5632_1_0_2

end Cert.SUpRefIdeal

namespace Cert.SUpIdeal.Val

open Cert.SUpIdeal Cert.SUpIdeal.Gen Idealize.ShloMosaic Idealize.ShloMosaic.TcCoe Idealize.SL.Sem
open Idealize.ShloMosaic.Pipeline (Dat)

/-- The product, with the rows in time order: row `r` is step `r / 128` of sequence `r % 128`. -/
def prod (X : FVec Ideal S512x1024 .f32) (W : FVec Ideal S1024x5632 .f32) : FVec Ideal S512x5632 .f32 :=
  fun y => ∑ x : Fin 1024, X (ix2 (y 0) x) * W (ix2 x (y 1))

/-- What the operations after the kernel make of the product and the rows kept: all six steps. -/
def kerFull (R : FVec Ideal S512x5632 .f32) (P : FVec Ideal S128x2x5632 .f32) : FVec Ideal S768x5632 .f32 :=
  concatenate S768x5632 0 [⟨S256x5632, (shapeCast _ (transpose S2x128x5632 [1, 0, 2] P transposes_S128x2x5632_S2x128x5632_1_0_2) shapeCasts_S2x128x5632_S256x5632)⟩, ⟨S512x5632, R⟩] concatenates_S256x5632_S512x5632_S768x5632_d0

/-- And the last two steps. -/
def kerTail (R : FVec Ideal S512x5632 .f32) (P : FVec Ideal S128x2x5632 .f32) : FVec Ideal S128x2x5632 .f32 :=
  transpose S128x2x5632 [1, 0, 2] (shapeCast _ (extractStridedSlice S256x5632 ![512, 0] (concatenate S768x5632 0 [⟨S256x5632, (shapeCast _ (transpose S2x128x5632 [1, 0, 2] P transposes_S128x2x5632_S2x128x5632_1_0_2) shapeCasts_S2x128x5632_S256x5632)⟩, ⟨S512x5632, R⟩] concatenates_S256x5632_S512x5632_S768x5632_d0) slices_S768x5632_S256x5632_512_0) shapeCasts_S256x5632_S2x128x5632) transposes_S2x128x5632_S128x2x5632_1_0_2

set_option maxHeartbeats 1600000 in
/-- The six steps are the reference's. -/
theorem full_eq (X : FVec Ideal S512x1024 .f32) (W : FVec Ideal S1024x5632 .f32) (P : FVec Ideal S128x2x5632 .f32) : kerFull (prod X W) P = Cert.SUpRefIdeal.refFull X W P := by
  funext y
  obtain ⟨r, k, rfl⟩ : ∃ (r : Fin 768) (k : Fin 5632), y = ix2 r k := ⟨y 0, y 1, by funext d; fin_cases d <;> rfl⟩
  pointwise [kerFull, prod, Cert.SUpRefIdeal.refFull]
  by_cases h : r.val < 256
  · rw [dif_pos h, dif_pos (show r.val / 128 < 2 by omega)]
  · have e : (r.val / 128 - 2) * 128 + r.val % 128 = r.val - 256 := by omega
    rw [dif_neg h, dif_neg (show ¬r.val / 128 < 2 by omega)]
    simp only [e]

set_option maxHeartbeats 1600000 in
/-- The last two steps are the reference's. -/
theorem tail_eq (X : FVec Ideal S512x1024 .f32) (W : FVec Ideal S1024x5632 .f32) (P : FVec Ideal S128x2x5632 .f32) : kerTail (prod X W) P = Cert.SUpRefIdeal.refTail X W P := by
  funext y
  obtain ⟨a, b, d, rfl⟩ : ∃ (a : Fin 128) (b : Fin 2) (d : Fin 5632), y = ix3 a b d := ⟨y 0, y 1, y 2, by funext d; fin_cases d <;> rfl⟩
  have e : (4 + b.val - 2) * 128 + a.val = 512 + (b.val * 128 + a.val) - 256 := by omega
  pointwise [kerTail, prod, Cert.SUpRefIdeal.refTail]
  rw [dif_neg (show ¬512 + (b.val * 128 + a.val) < 256 by omega), dif_neg (show ¬4 + b.val < 2 by omega)]
  simp only [e]

variable (m : (ℓ : Loc nD τ sig) → Buf (Elt Ideal) ℓ)

/-- Which block each window is at, at every grid point: one column tile after another. -/
theorem at_point : ∀ t : Fin cfg0.N, win0_0.index t = ![0, 0] ∧ win0_1.index t = ![0, t.val] ∧ win0_2.index t = ![0, t.val] :=
  (by decide +kernel : ∀ t : Fin grid0.N, _)

/-- The rows are the same at every point. -/
theorem same_rows (c : Dev nD) (t t' : Fin cfg0.N) : iblk m c 0 t' = iblk m c 0 t := by
  blk_ext! [iblk, V, at_point t, at_point t']

/-- After any point the scratch holds the cast of the rows, put there at the first point. -/
theorem scratch (c : Dev nD) : ∀ (n : ℕ) (h : n < cfg0.N), (outsAt0 m c n h).2 = k0_pay1 (F := Ideal) (iblk m c 0 ⟨n, h⟩) := by
  intro n
  induction n with
  | zero =>
    intro h
    refine (congrArg Prod.snd (outsAt0_A m c ⟨0, h⟩ rfl)).trans ?_
    frame_out
  | succ n ih =>
    intro h
    have hN : n + 1 < 11 := lt_of_lt_of_eq h N_0
    have h0 : ¬(⟨n + 1, h⟩ : Fin cfg0.N).val % 11 = 0 := by show ¬(n + 1) % 11 = 0; omega
    refine (congrArg Prod.snd (outsAt0_B m c ⟨n + 1, h⟩ h0)).trans ?_
    have hs := (ih (by omega)).trans (congrArg _ (same_rows m c ⟨n + 1, h⟩ ⟨n, by omega⟩))
    rw [← hs]
    rfl

set_option maxHeartbeats 1600000 in
/-- One grid point: the tile it stores, read at an index, is the product read where that index lies in the array. -/
theorem tile (c : Dev nD) (t : Fin cfg0.N) (y) :
    k0_pay2 (k0_pay1 (iblk m c 0 t)) (iblk m c 1 t) y
      = prod (m ((c : Thread nD τ).loc main_arg0)) (m ((c : Thread nD τ).loc main_arg1)) (((cfg0.win 2).blk t).view.emb y) := by
  pointwise [k0_pay1, k0_pay2, prod]
  blk_point [iblk, V, at_point t]

/-- The whole product. -/
theorem result (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 11 = 0
  · rw [outsAt0_A m c t h]
    frame_out
    exact tile m c t y
  · have hlt : t.val - 1 < cfg0.N := Nat.lt_of_le_of_lt (Nat.sub_le _ _) t.isLt
    have hsc := (scratch m c (t.val - 1) hlt).trans (congrArg _ (same_rows m c t ⟨t.val - 1, hlt⟩))
    rw [outsAt0_B m c t h]
    rw [show (outsAt0 m c (t.val - 1) (Nat.lt_of_le_of_lt (Nat.sub_le _ _) t.isLt)).2 = k0_pay1 (F := Ideal) (iblk m c 0 t) from hsc]
    frame_out
    refine Eq.trans (congrFun (congrArg (fun z => k0_pay2 (F := Ideal) z (iblk m c 1 t)) (Memref.IsWhole.read_unread _ _)) y) ?_
    exact tile m c t y

end Cert.SUpIdeal.Val

end
-- ==== Proof.PairSUp.lean ====
/-
The conjuncts of the claim about SUp that are not frames of the kernel.
-/
module

public import proofs.«01_k».proof.Defs
public import proofs.«01_k».proof.Proof.Gen.SUp
public import proofs.«01_k».proof.Proof.Gen.SUpIdeal
public import proofs.«01_k».proof.Proof.Gen.SUpRefIdeal
public import proofs.«01_k».proof.Proof.ValSUp
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_SUpRefIdeal : Cert.quiescent_SUpRefIdeal (hSUpRefIdeal := Cert.SUpRefIdeal.Gen.facts) := by
  intro m g _
  exact (θ_run Cert.SUpRefIdeal.defs _ _).mono
    (fun r h => ⟨fun c => (h c).2.2, sem_eq_zero_of_no_sems (by decide) r.2⟩) (Cert.SUpRefIdeal.Value.run m g)

set_option maxHeartbeats 1600000 in
/-- The idealised kernel and the reference return the same six steps and the same last two. -/
theorem equal_SUp : Cert.algebraic_SUpIdeal_SUpRefIdeal (hSUpIdeal := Cert.SUpIdeal.Gen.facts) (hSUpRefIdeal := Cert.SUpRefIdeal.Gen.facts) := by
  pair_intro
  · run_from Cert.SUpIdeal.Value.run m g
  · run_from Cert.SUpRefIdeal.Value.run m' g'
    · obtain ⟨h0, h1, h2⟩ := hagree c
      rw [h2]
      exact (Cert.SUpIdeal.Val.full_eq _ _ _).symm.trans (congrArg (fun R => Cert.SUpIdeal.Val.kerFull R _) (Cert.SUpIdeal.Val.result m c).symm)
    · obtain ⟨h0, h1, h2⟩ := hagree c
      rw [h2]
      exact (Cert.SUpIdeal.Val.tail_eq _ _ _).symm.trans (congrArg (fun R => Cert.SUpIdeal.Val.kerTail R _) (Cert.SUpIdeal.Val.result m c).symm)

end Cert.Proof

end
-- ==== Proof.ValSDown.lean ====
/-
The sample group's feed-forward tail: each tile of 128 rows, gated after the convolution over three earlier steps, multiplied by the
down projection, added to the scaled residual and normalised, is the same rows of the reference's array.
-/
module

public import proofs.«01_k».proof.Proof.Gen.SDownIdeal.Value
public import proofs.«01_k».proof.Proof.Gen.SDownRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.SDownRefIdeal

open Cert.SDownRefIdeal Cert.SDownRefIdeal.Gen Cert.SDownRefIdeal.Value Idealize.ShloMosaic Idealize.ShloMosaic.TcCoe Idealize.SL.Sem

/-- The reference's convolution over the six steps, as an array of four steps of 128 rows. -/
def taps (A : FVec Ideal S768x5632 .f32) (C : FVec Ideal S3x5632 .f32) : FVec Ideal S4x128x5632 .f32 :=
  addf (addf (addf (broadcastInDim S4x128x5632 ![] bcast_S_S4x128x5632 (constant S_ .f32 0x00000000#32)) (mulf (extractStridedSlice S4x128x5632 ![0, 0, 0] (shapeCast _ A shapeCasts_S768x5632_S6x128x5632) slices_S6x128x5632_S4x128x5632_0_0_0) (broadcastInDim S4x128x5632 ![0, 1, 2] bcast_S1x1x5632_S4x128x5632_0_1_2 (broadcastInDim S1x1x5632 ![2] bcast_S5632_S1x1x5632_2 (shapeCast _ (extractStridedSlice S1x5632 ![0, 0] C slices_S3x5632_S1x5632_0_0) shapeCasts_S1x5632_S5632))))) (mulf (extractStridedSlice S4x128x5632 ![1, 0, 0] (shapeCast _ A shapeCasts_S768x5632_S6x128x5632) slices_S6x128x5632_S4x128x5632_1_0_0) (broadcastInDim S4x128x5632 ![0, 1, 2] bcast_S1x1x5632_S4x128x5632_0_1_2 (broadcastInDim S1x1x5632 ![2] bcast_S5632_S1x1x5632_2 (shapeCast _ (extractStridedSlice S1x5632 ![1, 0] C slices_S3x5632_S1x5632_1_0) shapeCasts_S1x5632_S5632))))) (mulf (extractStridedSlice S4x128x5632 ![2, 0, 0] (shapeCast _ A shapeCasts_S768x5632_S6x128x5632) slices_S6x128x5632_S4x128x5632_2_0_0) (broadcastInDim S4x128x5632 ![0, 1, 2] bcast_S1x1x5632_S4x128x5632_0_1_2 (broadcastInDim S1x1x5632 ![2] bcast_S5632_S1x1x5632_2 (shapeCast _ (extractStridedSlice S1x5632 ![2, 0] C slices_S3x5632_S1x5632_2_0) shapeCasts_S1x5632_S5632))))

/-- The reference's activation: the first half of the columns through the logistic unit, times the second half. -/
def gated (U : FVec Ideal S4x128x5632 .f32) : FVec Ideal S512x2816 .f32 :=
  mulf (mulf (extractStridedSlice S512x2816 ![0, 0] (shapeCast _ U shapeCasts_S4x128x5632_S512x5632) slices_S512x5632_S512x2816_0_0) (Host.divf (broadcastInDim S512x2816 ![] bcast_S_S512x2816 (constant S_ .f32 0x3F800000#32)) (addf (broadcastInDim S512x2816 ![] bcast_S_S512x2816 (constant S_ .f32 0x3F800000#32)) (Host.exp (Host.negf (extractStridedSlice S512x2816 ![0, 0] (shapeCast _ U shapeCasts_S4x128x5632_S512x5632) slices_S512x5632_S512x2816_0_0)))))) (extractStridedSlice S512x2816 ![0, 2816] (shapeCast _ U shapeCasts_S4x128x5632_S512x5632) slices_S512x5632_S512x2816_0_2816)

/-- What the reference makes of an activation, as a function of it and the other arguments. -/
def downRef (A : FVec Ideal S512x2816 .f32) (W : FVec Ideal S2816x1024 .f32) (H : FVec Ideal S512x1024 .f32)
    (G B : FVec Ideal S1024 .f32) : FVec Ideal S512x1024 .f32 :=
  addf (mulf (mulf (subf (addf (mulf (broadcastInDim S512x1024 ![] bcast_S_S512x1024 (constant S_ .f32 0x3FD744FD#32)) H) (Host.dotGeneral dot_S512x2816_S2816x1024_S512x1024_1_0_0_1_n_n none A W)) (broadcastInDim S512x1024 ![0, 1] bcast_S512x1_S512x1024_0_1 (Host.divf (broadcastInDim S512x1 ![0] bcast_S512_S512x1_0 (Host.reduceAdd (addf (mulf (broadcastInDim S512x1024 ![] bcast_S_S512x1024 (constant S_ .f32 0x3FD744FD#32)) H) (Host.dotGeneral dot_S512x2816_S2816x1024_S512x1024_1_0_0_1_n_n none A W)) (constant S_ .f32 0x00000000#32) reducesTo_S512x1024_S512_d1 h_S_)) (broadcastInDim S512x1 ![] bcast_S_S512x1 (constant S_ .f32 0x44800000#32))))) (broadcastInDim S512x1024 ![0, 1] bcast_S512x1_S512x1024_0_1 (Host.rsqrt (addf (Host.divf (broadcastInDim S512x1 ![0] bcast_S512_S512x1_0 (Host.reduceAdd (mulf (subf (addf (mulf (broadcastInDim S512x1024 ![] bcast_S_S512x1024 (constant S_ .f32 0x3FD744FD#32)) H) (Host.dotGeneral dot_S512x2816_S2816x1024_S512x1024_1_0_0_1_n_n none A W)) (broadcastInDim S512x1024 ![0, 1] bcast_S512x1_S512x1024_0_1 (Host.divf (broadcastInDim S512x1 ![0] bcast_S512_S512x1_0 (Host.reduceAdd (addf (mulf (broadcastInDim S512x1024 ![] bcast_S_S512x1024 (constant S_ .f32 0x3FD744FD#32)) H) (Host.dotGeneral dot_S512x2816_S2816x1024_S512x1024_1_0_0_1_n_n none A W)) (constant S_ .f32 0x00000000#32) reducesTo_S512x1024_S512_d1 h_S_)) (broadcastInDim S512x1 ![] bcast_S_S512x1 (constant S_ .f32 0x44800000#32))))) (subf (addf (mulf (broadcastInDim S512x1024 ![] bcast_S_S512x1024 (constant S_ .f32 0x3FD744FD#32)) H) (Host.dotGeneral dot_S512x2816_S2816x1024_S512x1024_1_0_0_1_n_n none A W)) (broadcastInDim S512x1024 ![0, 1] bcast_S512x1_S512x1024_0_1 (Host.divf (broadcastInDim S512x1 ![0] bcast_S512_S512x1_0 (Host.reduceAdd (addf (mulf (broadcastInDim S512x1024 ![] bcast_S_S512x1024 (constant S_ .f32 0x3FD744FD#32)) H) (Host.dotGeneral dot_S512x2816_S2816x1024_S512x1024_1_0_0_1_n_n none A W)) (constant S_ .f32 0x00000000#32) reducesTo_S512x1024_S512_d1 h_S_)) (broadcastInDim S512x1 ![] bcast_S_S512x1 (constant S_ .f32 0x44800000#32)))))) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x3727C5AC#32)))))) (broadcastInDim S512x1024 ![0, 1] bcast_S1x1024_S512x1024_0_1 (broadcastInDim S1x1024 ![1] bcast_S1024_S1x1024_1 G))) (broadcastInDim S512x1024 ![0, 1] bcast_S1x1024_S512x1024_0_1 (broadcastInDim S1x1024 ![1] bcast_S1024_S1x1024_1 B))

set_option maxHeartbeats 1600000 in
/-- What the reference returns. -/
theorem ref_result (m : (ℓ : Loc nD τ sig) → Buf (Elt Ideal) ℓ) (c : Dev nD) : res_main_v55 m c
    = downRef (gated (taps (m ((c : Thread nD τ).loc main_arg0)) (m ((c : Thread nD τ).loc main_arg1)))) (m ((c : Thread nD τ).loc main_arg2)) (m ((c : Thread nD τ).loc main_arg3)) (m ((c : Thread nD τ).loc main_arg4)) (m ((c : Thread nD τ).loc main_arg5)) := rfl

/-- One entry of the convolution: the step's own row and the rows one and two steps earlier, 128 rows apart. -/
def tap (A : FVec Ideal S768x5632 .f32) (C : FVec Ideal S3x5632 .f32) (r : Fin 512) (k : Fin 5632) : EReal :=
  C (ix2 0 k) * A (ix2 ⟨r.val, by omega⟩ k) + C (ix2 1 k) * A (ix2 ⟨r.val + 128, by omega⟩ k) + C (ix2 2 k) * A (ix2 ⟨r.val + 256, by omega⟩ k)

/-- One entry of the activation. -/
def act (A : FVec Ideal S768x5632 .f32) (C : FVec Ideal S3x5632 .f32) (r : Fin 512) (j : Fin 2816) : EReal :=
  tap A C r ⟨j.val, by omega⟩ * Ideal.div 1 (1 + Ideal.exp (0 - tap A C r ⟨j.val, by omega⟩)) * tap A C r ⟨2816 + j.val, by omega⟩

set_option maxHeartbeats 1600000 in
/-- The reference's convolution, entry by entry. -/
theorem taps_at (A : FVec Ideal S768x5632 .f32) (C : FVec Ideal S3x5632 .f32) (a : Fin 4) (b : Fin 128) (k : Fin 5632) :
    taps A C (ix3 a b k) = tap A C ⟨a.val * 128 + b.val, by omega⟩ k := by
  have e1 : (1 + a.val) * 128 + b.val = a.val * 128 + b.val + 128 := by omega
  have e2 : (2 + a.val) * 128 + b.val = a.val * 128 + b.val + 256 := by omega
  pointwise [taps, tap]
  simp only [e1, e2, mul_comm]

set_option maxHeartbeats 1600000 in
/-- The reference's activation, entry by entry. -/
theorem gated_at (A : FVec Ideal S768x5632 .f32) (C : FVec Ideal S3x5632 .f32) (r : Fin 512) (j : Fin 2816) :
    gated (taps A C) (ix2 r j) = act A C r j := by
  have e : r.val / 128 * 128 + r.val % 128 = r.val := by omega
  pointwise [gated, act]
  simp only [taps_at, e, zero_sub]

end Cert.SDownRefIdeal

namespace Cert.SDownIdeal.Val

open Cert.SDownIdeal Cert.SDownIdeal.Gen Idealize.ShloMosaic Idealize.ShloMosaic.TcCoe Idealize.SL.Sem
open Idealize.ShloMosaic.Pipeline (Dat)

variable (m : (ℓ : Loc nD τ sig) → Buf (Elt Ideal) ℓ)

/-- Which block each window is at, at every grid point. -/
theorem at_point : ∀ t : Fin cfg0.N, win0_0.index t = ![t.val, 0] ∧ win0_1.index t = ![t.val + 1, 0] ∧ win0_2.index t = ![t.val + 2, 0]
    ∧ win0_3.index t = ![t.val, 1] ∧ win0_4.index t = ![t.val + 1, 1] ∧ win0_5.index t = ![t.val + 2, 1] ∧ win0_6.index t = ![0, 0] ∧ win0_7.index t = ![0, 1] ∧ win0_8.index t = ![0, 0] ∧ win0_9.index t = ![t.val, 0]
    ∧ win0_10.index t = ![0, 0] ∧ win0_11.index t = ![0, 0] ∧ win0_12.index t = ![t.val, 0] :=
  (by decide +kernel : ∀ t : Fin grid0.N, _)

set_option maxHeartbeats 1600000 in
/-- One grid point's activation: the reference's rows of that tile. -/
theorem gate_tile (c : Dev nD) (t : Fin cfg0.N) (a : Fin 128) (j : Fin 2816) :
    k0_pay2 (iblk m c 6 t) (iblk m c 7 t) (iblk m c 0 t) (iblk m c 1 t) (iblk m c 2 t) (iblk m c 3 t) (iblk m c 4 t) (iblk m c 5 t) (ix2 a j)
      = Cert.SDownRefIdeal.act (m ((c : Thread nD τ).loc main_arg0)) (m ((c : Thread nD τ).loc main_arg1))
          ⟨t.val * 128 + a.val, by have := lt_of_lt_of_eq t.isLt N_0; omega⟩ j := by
  pointwise [k0_pay2, Cert.SDownRefIdeal.act, Cert.SDownRefIdeal.tap]
  blk_point [iblk, V, at_point t]

/-- One grid point: the tile it stores, read at an index, is the reference read where that index lies in the array. -/
theorem tile (c : Dev nD) (t : Fin cfg0.N) (y) :
    k0_pay1 (fun y => Cert.SDownRefIdeal.act (m ((c : Thread nD τ).loc main_arg0)) (m ((c : Thread nD τ).loc main_arg1))
          ⟨t.val * 128 + (y 0).val, by have := lt_of_lt_of_eq t.isLt N_0; have : (y 0).val < 128 := (y 0).isLt; omega⟩ (y 1)) (iblk m c 9 t) (iblk m c 8 t) (iblk m c 10 t) (iblk m c 11 t) y
      = Cert.SDownRefIdeal.downRef (fun y => Cert.SDownRefIdeal.act (m ((c : Thread nD τ).loc main_arg0)) (m ((c : Thread nD τ).loc main_arg1)) (y 0) (y 1)) (m ((c : Thread nD τ).loc main_arg2)) (m ((c : Thread nD τ).loc main_arg3))
          (m ((c : Thread nD τ).loc main_arg4)) (m ((c : Thread nD τ).loc main_arg5))
          (((cfg0.win 12).blk t).view.emb y) := by
  pointwise [k0_pay1, Cert.SDownRefIdeal.downRef]
  blk_point [iblk, V, at_point t]

/-- The whole result. -/
theorem result (c : Dev nD) : (dats m 0 c).arrAt 12 (cfgs 0).N = Cert.SDownRefIdeal.downRef (Cert.SDownRefIdeal.gated (Cert.SDownRefIdeal.taps
          (m ((c : Thread nD τ).loc main_arg0)) (m ((c : Thread nD τ).loc main_arg1)))) (m ((c : Thread nD τ).loc main_arg2)) (m ((c : Thread nD τ).loc main_arg3))
          (m ((c : Thread nD τ).loc main_arg4)) (m ((c : Thread nD τ).loc main_arg5)) := by
  have e : Cert.SDownRefIdeal.gated (Cert.SDownRefIdeal.taps (m ((c : Thread nD τ).loc main_arg0)) (m ((c : Thread nD τ).loc main_arg1)))
      = fun y => Cert.SDownRefIdeal.act (m ((c : Thread nD τ).loc main_arg0)) (m ((c : Thread nD τ).loc main_arg1)) (y 0) (y 1) := by
    funext y
    obtain ⟨r, j, rfl⟩ : ∃ (r : Fin 512) (j : Fin 2816), y = ix2 r j := ⟨y 0, y 1, by funext d; fin_cases d <;> rfl⟩
    exact Cert.SDownRefIdeal.gated_at _ _ r j
  rw [e]
  refine (dats m 0 c).arrAt_eq_of_covers 12 _ (by decide +kernel) fun t _ y => ?_
  blk_simp
  rw [after0_12]
  frame_out
  refine Eq.trans ?_ (tile m c t y)
  congr 1
  funext x
  obtain ⟨a, j, rfl⟩ : ∃ (a : Fin 128) (j : Fin 2816), x = ix2 a j := ⟨x 0, x 1, by funext d; fin_cases d <;> rfl⟩
  exact gate_tile m c t a j

end Cert.SDownIdeal.Val

end
-- ==== Proof.PairSDown.lean ====
/-
The conjuncts of the claim about SDown that are not frames of the kernel.
-/
module

public import proofs.«01_k».proof.Defs
public import proofs.«01_k».proof.Proof.Gen.SDown
public import proofs.«01_k».proof.Proof.Gen.SDownIdeal
public import proofs.«01_k».proof.Proof.Gen.SDownRefIdeal
public import proofs.«01_k».proof.Proof.ValSDown
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_SDownRefIdeal : Cert.quiescent_SDownRefIdeal (hSDownRefIdeal := Cert.SDownRefIdeal.Gen.facts) := by
  intro m g _
  exact (θ_run Cert.SDownRefIdeal.defs _ _).mono
    (fun r h => ⟨fun c => (h c).2, sem_eq_zero_of_no_sems (by decide) r.2⟩) (Cert.SDownRefIdeal.Value.run m g)

set_option maxHeartbeats 1600000 in
/-- The idealised kernel and the reference return the same array. -/
theorem equal_SDown : Cert.algebraic_SDownIdeal_SDownRefIdeal (hSDownIdeal := Cert.SDownIdeal.Gen.facts) (hSDownRefIdeal := Cert.SDownRefIdeal.Gen.facts) := by
  pair_intro
  · run_from Cert.SDownIdeal.Gen.run_main m g
  · run_from Cert.SDownRefIdeal.Value.run m' g'
    obtain ⟨h0, h1, h2, h3, h4, h5⟩ := hagree c
    refine (Cert.SDownRefIdeal.ref_result _ c).trans ?_
    rw [h0, h1, h2, h3, h4, h5]
    exact (Cert.SDownIdeal.Val.result m c).symm

end Cert.Proof

end
-- ==== Proof.RefPrep.lean ====
/-
The prompt group's keys and values in the arrays of all layers: at each point the kernel turns a tile of rows with two rolls and three
tables and stores it transposed into the layer's slot; the reference turns the first sixteen entries of each head by the angle of the
row's position and puts the whole transposed array between the other layers'.
-/
module

public import proofs.«01_k».proof.Proof.Gen.PrepIdeal.Value
public import proofs.«01_k».proof.Proof.Gen.PrepRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.PrepRefIdeal

open Cert.PrepRefIdeal Cert.PrepRefIdeal.Gen Cert.PrepRefIdeal.Value Idealize.ShloMosaic Idealize.ShloMosaic.TcCoe Idealize.SL.Sem

/-- The angle of each position and each of the eight frequencies. -/
def angle : FVec Ideal S4096x8 .f32 :=
  (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

/-- The keys, head by head. -/
def headsK (P : FVec Ideal S16384x5632 .f32) : FVec Ideal S4x4096x8x64 .f32 :=
  (shapeCast _ (extractStridedSlice S4x4096x512 ![0, 0, 512] (shapeCast _ P shapeCasts_S16384x5632_S4x4096x5632) slices_S4x4096x5632_S4x4096x512_0_0_512) shapeCasts_S4x4096x512_S4x4096x8x64)

/-- The rotation of the first sixteen entries of each head. -/
def turned (X : FVec Ideal S4x4096x8x64 .f32) : FVec Ideal S4x4096x8x64 .f32 :=
  (concatenate S4x4096x8x64 3 [⟨S4x4096x8x8, ((subf (mulf (extractStridedSlice S4x4096x8x8 ![0, 0, 0, 0] X slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 (Host.cos angle)))) (mulf (extractStridedSlice S4x4096x8x8 ![0, 0, 0, 8] X slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 (Host.sin angle))))))⟩, ⟨S4x4096x8x8, ((addf (mulf (extractStridedSlice S4x4096x8x8 ![0, 0, 0, 8] X slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 (Host.cos angle)))) (mulf (extractStridedSlice S4x4096x8x8 ![0, 0, 0, 0] X slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 (Host.sin angle))))))⟩, ⟨S4x4096x8x48, ((extractStridedSlice S4x4096x8x48 ![0, 0, 0, 16] X slices_S4x4096x8x64_S4x4096x8x48_0_0_0_16))⟩] concatenates_S4x4096x8x8_S4x4096x8x8_S4x4096x8x48_S4x4096x8x64_d3)

/-- An array put into the second slot of the array of all layers. -/
def slot (X : FVec Ideal S1x2048x4096 .f32) (K : FVec Ideal S4x2048x4096 .f32) : FVec Ideal S4x2048x4096 .f32 :=
  (concatenate S4x2048x4096 0 [⟨S1x2048x4096, ((extractStridedSlice S1x2048x4096 ![0, 0, 0] K slices_S4x2048x4096_S1x2048x4096_0_0_0))⟩, ⟨S1x2048x4096, X⟩, ⟨S2x2048x4096, ((extractStridedSlice S2x2048x4096 ![2, 0, 0] K slices_S4x2048x4096_S2x2048x4096_2_0_0))⟩] concatenates_S1x2048x4096_S1x2048x4096_S2x2048x4096_S4x2048x4096_d0)

/-- The turned keys, transposed. -/
def newK (P : FVec Ideal S16384x5632 .f32) : FVec Ideal S1x2048x4096 .f32 :=
  ((shapeCast _ (transpose S4x512x4096 [0, 2, 1] (shapeCast _ ((turned (headsK P))) shapeCasts_S4x4096x8x64_S4x4096x512) transposes_S4x4096x512_S4x512x4096_0_2_1) shapeCasts_S4x512x4096_S1x2048x4096))

/-- The values, transposed. -/
def newV (P : FVec Ideal S16384x5632 .f32) : FVec Ideal S1x2048x4096 .f32 :=
  ((shapeCast _ (transpose S4x512x4096 [0, 2, 1] (extractStridedSlice S4x4096x512 ![0, 0, 1024] (shapeCast _ P shapeCasts_S16384x5632_S4x4096x5632) slices_S4x4096x5632_S4x4096x512_0_0_1024) transposes_S4x4096x512_S4x512x4096_0_2_1) shapeCasts_S4x512x4096_S1x2048x4096))

/-- What the reference returns: the keys. -/
theorem ref_k (m : (ℓ : Loc nD τ sig) → Buf (Elt Ideal) ℓ) (c : Dev nD) : res_main_v44 m c
    = slot (newK (m ((c : Thread nD τ).loc main_arg0))) (m ((c : Thread nD τ).loc main_arg1)) := rfl

/-- The second slot holds the new array, the other slots what they held. -/
theorem slot_at (X : FVec Ideal S1x2048x4096 .f32) (K : FVec Ideal S4x2048x4096 .f32) (n : Fin 4) (a : Fin 2048) (b : Fin 4096) :
    slot X K (ix3 n a b) = if n.val = 1 then X (ix3 0 a b) else K (ix3 n a b) := by
  pointwise [slot]
  have hn : n.val = 0 ∨ n.val = 1 ∨ n.val = 2 ∨ n.val = 3 := by have := n.isLt; omega
  obtain ⟨n, hlt⟩ := n
  simp only at hn ⊢
  rcases hn with rfl | rfl | rfl | rfl <;> rfl

/-- The other layers are kept by the reference. -/
theorem kept (X : FVec Ideal S1x2048x4096 .f32) (K : FVec Ideal S4x2048x4096 .f32) (x : S4x2048x4096.Idx) (hx : (x 0).val ≠ 1) :
    K x = slot X K x := by
  obtain ⟨n, a, b, rfl⟩ : ∃ (n : Fin 4) (a : Fin 2048) (b : Fin 4096), x = ix3 n a b := ⟨x 0, x 1, x 2, by funext d; fin_cases d <;> rfl⟩
  exact ((slot_at X K n a b).trans (if_neg hx)).symm

end Cert.PrepRefIdeal

namespace Cert.PrepIdeal.Val

open Cert.PrepIdeal Cert.PrepIdeal.Gen Idealize.ShloMosaic Idealize.ShloMosaic.TcCoe Idealize.SL.Sem
open Idealize.ShloMosaic.Pipeline (Dat)

/-- The angles as the host computes them for the kernel, row by row. -/
def angle : FVec Ideal S4096x8 .f32 :=
  (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

/-- The three tables, each repeated for the eight heads: the cosines, and the sines of the two rolls. -/
def tabC : FVec Ideal S4096x512 .f32 :=
  shapeCast _ (broadcastInDim S1x4096x8x64 ![0, 1, 2, 3] bcast_S1x4096x1x64_S1x4096x8x64_0_1_2_3 (shapeCast _ (concatenate S4096x64 1 [⟨S4096x8, Host.cos angle⟩, ⟨S4096x8, Host.cos angle⟩, ⟨S4096x48, (broadcastInDim S4096x48 ![] bcast_S_S4096x48 (constant S_ .f32 0x3F800000#32))⟩] concatenates_S4096x8_S4096x8_S4096x48_S4096x64_d1) shapeCasts_S4096x64_S1x4096x1x64)) shapeCasts_S1x4096x8x64_S4096x512
@[inherit_doc tabC]
def tabL : FVec Ideal S4096x512 .f32 :=
  shapeCast _ (broadcastInDim S1x4096x8x64 ![0, 1, 2, 3] bcast_S1x4096x1x64_S1x4096x8x64_0_1_2_3 (shapeCast _ (concatenate S4096x64 1 [⟨S4096x8, Host.negf (Host.sin angle)⟩, ⟨S4096x8, (broadcastInDim S4096x8 ![] bcast_S_S4096x8 (constant S_ .f32 0x00000000#32))⟩, ⟨S4096x48, (broadcastInDim S4096x48 ![] bcast_S_S4096x48 (constant S_ .f32 0x00000000#32))⟩] concatenates_S4096x8_S4096x8_S4096x48_S4096x64_d1) shapeCasts_S4096x64_S1x4096x1x64)) shapeCasts_S1x4096x8x64_S4096x512
@[inherit_doc tabC]
def tabH : FVec Ideal S4096x512 .f32 :=
  shapeCast _ (broadcastInDim S1x4096x8x64 ![0, 1, 2, 3] bcast_S1x4096x1x64_S1x4096x8x64_0_1_2_3 (shapeCast _ (concatenate S4096x64 1 [⟨S4096x8, (broadcastInDim S4096x8 ![] bcast_S_S4096x8 (constant S_ .f32 0x00000000#32))⟩, ⟨S4096x8, Host.sin angle⟩, ⟨S4096x48, (broadcastInDim S4096x48 ![] bcast_S_S4096x48 (constant S_ .f32 0x00000000#32))⟩] concatenates_S4096x8_S4096x8_S4096x48_S4096x64_d1) shapeCasts_S4096x64_S1x4096x1x64)) shapeCasts_S1x4096x8x64_S4096x512

variable (m : (ℓ : Loc nD τ sig) → Buf (Elt Ideal) ℓ)

theorem V_v28 (c : Dev nD) : V m c main_v28 = tabC := rfl
theorem V_v31 (c : Dev nD) : V m c main_v31 = tabL := rfl
theorem V_v34 (c : Dev nD) : V m c main_v34 = tabH := rfl
theorem V_v35_0 (c : Dev nD) : V m c main_v35_0 = m ((c : Thread nD τ).loc main_arg1) := rfl
theorem V_v35_1 (c : Dev nD) : V m c main_v35_1 = m ((c : Thread nD τ).loc main_arg2) := rfl

/-- The host's angle of a row is the reference's angle of its position. -/
theorem angle_at (s : Fin 4096) (j : Fin 8) : angle (ix2 s j) = Cert.PrepRefIdeal.angle (ix2 s j) := by
  pointwise [angle, Cert.PrepRefIdeal.angle]

/-- The cosines of an entry of a head. -/
theorem tabC_at (s : Fin 4096) (h : Fin 8) (e : Fin 64) : tabC (ix2 s ⟨h.val * 64 + e.val, by omega⟩)
    = if h : e.val < 8 then Ideal.cos (angle (ix2 s ⟨e.val, h⟩)) else if h' : e.val - 8 < 8 then Ideal.cos (angle (ix2 s ⟨e.val - 8, h'⟩)) else 1 := by
  pointwise [tabC]

/-- The sines that go with the entry eight further on. -/
theorem tabL_at (s : Fin 4096) (h : Fin 8) (e : Fin 64) : tabL (ix2 s ⟨h.val * 64 + e.val, by omega⟩)
    = if h : e.val < 8 then -Ideal.sin (angle (ix2 s ⟨e.val, h⟩)) else 0 := by
  pointwise [tabL]
  split <;> simp

/-- The sines that go with the entry eight before. -/
theorem tabH_at (s : Fin 4096) (h : Fin 8) (e : Fin 64) : tabH (ix2 s ⟨h.val * 64 + e.val, by omega⟩)
    = if h : e.val < 8 then 0 else if h' : e.val - 8 < 8 then Ideal.sin (angle (ix2 s ⟨e.val - 8, h'⟩)) else 0 := by
  pointwise [tabH]

/-- The kernel's turn of one entry of a row at position `s`: the entry, the one eight further on and the one eight before, each times
its table. -/
def turn (X : Fin 512 → EReal) (s : Fin 4096) (h : Fin 8) (e : Fin 64) : EReal :=
  X ⟨h.val * 64 + e.val, by omega⟩ * tabC (ix2 s ⟨h.val * 64 + e.val, by omega⟩)
    + X ⟨(h.val * 64 + e.val + 512 - 504) % 512, by omega⟩ * tabL (ix2 s ⟨h.val * 64 + e.val, by omega⟩)
    + X ⟨(h.val * 64 + e.val + 512 - 8) % 512, by omega⟩ * tabH (ix2 s ⟨h.val * 64 + e.val, by omega⟩)

/-- The turn with the tables put in: the reference's rotation. -/
theorem turn_eq (X : Fin 512 → EReal) (s : Fin 4096) (h : Fin 8) (e : Fin 64) : turn X s h e
    = if h1 : e.val < 8 then
        X ⟨h.val * 64 + e.val, by omega⟩ * Ideal.cos (angle (ix2 s ⟨e.val, h1⟩)) - X ⟨h.val * 64 + (8 + e.val), by omega⟩ * Ideal.sin (angle (ix2 s ⟨e.val, h1⟩))
      else if h2 : e.val - 8 < 8 then
        X ⟨h.val * 64 + (8 + (e.val - 8)), by omega⟩ * Ideal.cos (angle (ix2 s ⟨e.val - 8, h2⟩)) + X ⟨h.val * 64 + (e.val - 8), by omega⟩ * Ideal.sin (angle (ix2 s ⟨e.val - 8, h2⟩))
      else X ⟨h.val * 64 + (16 + (e.val - 8 - 8)), by omega⟩ := by
  unfold turn
  rw [tabC_at, tabL_at, tabH_at]
  by_cases h1 : e.val < 8
  · have e1 : (h.val * 64 + e.val + 512 - 504) % 512 = h.val * 64 + (8 + e.val) := by omega
    simp only [dif_pos h1, e1, mul_zero, add_zero, mul_neg, sub_eq_add_neg]
  · by_cases h2 : e.val - 8 < 8
    · have e1 : (h.val * 64 + e.val + 512 - 8) % 512 = h.val * 64 + (e.val - 8) := by omega
      have e2 : 8 + (e.val - 8) = e.val := by omega
      simp only [dif_neg h1, dif_pos h2, e1, e2, mul_zero, add_zero]
    · have e2 : 16 + (e.val - 8 - 8) = e.val := by omega
      simp only [dif_neg h1, dif_neg h2, e2, mul_zero, add_zero, mul_one]

/-- Columns `o` to `o + 511` of one row of the projection. -/
def rowOf (P : FVec Ideal S16384x5632 .f32) (o : ℕ) (ho : o + 512 ≤ 5632) (r : Fin 16384) (k : Fin 512) : EReal :=
  P (ix2 r ⟨o + k.val, by omega⟩)

/-- The transposed array is the turned heads. -/
theorem new_at (P : FVec Ideal S16384x5632 .f32) (b : Fin 4) (s : Fin 4096) (h : Fin 8) (e : Fin 64) :
    Cert.PrepRefIdeal.newK P (ix3 0 ⟨b.val * 512 + (h.val * 64 + e.val), by omega⟩ s) = Cert.PrepRefIdeal.turned (Cert.PrepRefIdeal.headsK P) (ix4 b s h e) := by
  have e1 : (b.val * 512 + (h.val * 64 + e.val)) / 512 = b.val := by omega
  have e2 : (b.val * 512 + (h.val * 64 + e.val)) % 512 = h.val * 64 + e.val := by omega
  have e3 : (h.val * 64 + e.val) / 64 = h.val := by omega
  have e4 : (h.val * 64 + e.val) % 64 = e.val := by omega
  unfold Cert.PrepRefIdeal.newK
  generalize Cert.PrepRefIdeal.turned (Cert.PrepRefIdeal.headsK P) = X
  pointwise []

/-- An entry of a key. -/
theorem heads_at (P : FVec Ideal S16384x5632 .f32) (b : Fin 4) (s : Fin 4096) (h : Fin 8) (e : Fin 64) :
    Cert.PrepRefIdeal.headsK P (ix4 b s h e) = rowOf P 512 (by decide) ⟨b.val * 4096 + s.val, by omega⟩ ⟨h.val * 64 + e.val, by omega⟩ := by
  pointwise [Cert.PrepRefIdeal.headsK, rowOf]

/-- The rotation, entry by entry. -/
theorem turned_at (X : FVec Ideal Cert.PrepRefIdeal.S4x4096x8x64 .f32) (b : Fin 4) (s : Fin 4096) (h : Fin 8) (e : Fin 64) :
    Cert.PrepRefIdeal.turned X (ix4 b s h e) = if h1 : e.val < 8 then
        X (ix4 b s h ⟨e.val, by omega⟩) * Ideal.cos (angle (ix2 s ⟨e.val, h1⟩)) - X (ix4 b s h ⟨8 + e.val, by omega⟩) * Ideal.sin (angle (ix2 s ⟨e.val, h1⟩))
      else if h2 : e.val - 8 < 8 then
        X (ix4 b s h ⟨8 + (e.val - 8), by omega⟩) * Ideal.cos (angle (ix2 s ⟨e.val - 8, h2⟩)) + X (ix4 b s h ⟨e.val - 8, by omega⟩) * Ideal.sin (angle (ix2 s ⟨e.val - 8, h2⟩))
      else X (ix4 b s h ⟨16 + (e.val - 8 - 8), by omega⟩) := by
  simp only [angle_at]
  pointwise [Cert.PrepRefIdeal.turned]

/-- The reference's keys, entry by entry. -/
theorem refK_at (P : FVec Ideal S16384x5632 .f32) (b : Fin 4) (s : Fin 4096) (h : Fin 8) (e : Fin 64) :
    Cert.PrepRefIdeal.newK P (ix3 0 ⟨b.val * 512 + (h.val * 64 + e.val), by omega⟩ s) = turn (rowOf P 512 (by decide) ⟨b.val * 4096 + s.val, by omega⟩) s h e := by
  rw [turn_eq, new_at, turned_at]
  simp only [heads_at]

/-- The reference's values, entry by entry. -/
theorem refV_at (P : FVec Ideal S16384x5632 .f32) (b : Fin 4) (s : Fin 4096) (k : Fin 512) :
    Cert.PrepRefIdeal.newV P (ix3 0 ⟨b.val * 512 + k.val, by omega⟩ s) = rowOf P 1024 (by decide) ⟨b.val * 4096 + s.val, by omega⟩ k := by
  have e1 : (b.val * 512 + k.val) / 512 = b.val := by omega
  have e2 : (b.val * 512 + k.val) % 512 = k.val := by omega
  pointwise [Cert.PrepRefIdeal.newV, rowOf]

end Cert.PrepIdeal.Val

end
-- ==== Proof.ValPrep.lean ====
/-
What a point of the prompt group's preparation stores of the keys and of the values, and the two arrays it returns.
-/
module

public import proofs.«01_k».proof.Proof.RefPrep
public import Idealize.ShloMosaic.Lib.Pipeline.ValueKit
public import Idealize.ShloMosaic.Lib.Pointwise
public import Idealize.ShloMosaic.Lib.Claim

@[expose] public section

set_option maxRecDepth 16384

noncomputable section

namespace Cert.PrepIdeal.Val

open Cert.PrepIdeal Cert.PrepIdeal.Gen Idealize.ShloMosaic Idealize.ShloMosaic.TcCoe Idealize.SL.Sem
open Idealize.ShloMosaic.Pipeline (Dat)

variable (m : (ℓ : Loc nD τ sig) → Buf (Elt Ideal) ℓ)

/-- The blocks of every point: the rows of the tile, the tables at its positions, the layer's slot at its group and positions. -/
theorem at_point : ∀ t : Fin cfg0.N, win0_0.index t = ![t.val, 0] ∧ win0_1.index t = ![t.val % 16, 0] ∧ win0_2.index t = ![t.val % 16, 0] ∧ win0_3.index t = ![t.val % 16, 0]
    ∧ win0_4.index t = ![1, t.val / 16, t.val % 16] ∧ win0_5.index t = ![1, t.val / 16, t.val % 16] :=
  (by decide +kernel : ∀ t : Fin grid0.N, _)

theorem lt_64 (t : Fin cfg0.N) : t.val < 64 := t.isLt

/-- The position of a tile's row. -/
def pos (t : Fin cfg0.N) (r : Fin 256) : Fin 4096 := ⟨t.val % 16 * 256 + r.val, by omega⟩

/-- A row of the tile's projections. -/
theorem X0_at (c : Dev nD) (t : Fin cfg0.N) (r : Fin 256) (k : Fin 1536) :
    X0_0 m c t (ix2 r k) = (m ((c : Thread nD τ).loc main_arg0) : FVec Ideal S16384x5632 .f32) (ix2 ⟨t.val * 256 + r.val, by have := lt_64 t; omega⟩ ⟨k.val, by omega⟩) := by
  unfold X0_0 Pipeline.Window.fill
  rw [dif_pos (moved0_0 t _)]
  blk_point [iblk, V, at_point t]

theorem in_C (c : Dev nD) (t : Fin cfg0.N) (r : Fin 256) (k : Fin 512) : (iblk m c 1 t : Vec Ideal S256x512 .f32) (ix2 r k) = tabC (ix2 (pos t r) k) := by
  rw [← V_v28 m c]
  blk_point [iblk, at_point t, pos]
theorem in_L (c : Dev nD) (t : Fin cfg0.N) (r : Fin 256) (k : Fin 512) : (iblk m c 2 t : Vec Ideal S256x512 .f32) (ix2 r k) = tabL (ix2 (pos t r) k) := by
  rw [← V_v31 m c]
  blk_point [iblk, at_point t, pos]
theorem in_H (c : Dev nD) (t : Fin cfg0.N) (r : Fin 256) (k : Fin 512) : (iblk m c 3 t : Vec Ideal S256x512 .f32) (ix2 r k) = tabH (ix2 (pos t r) k) := by
  rw [← V_v34 m c]
  blk_point [iblk, at_point t, pos]

/-- What the kernel stores of the keys, entry by entry. -/
theorem pay9_at (C L H X : Vec Ideal S256x512 .f32) (r : Fin 256) (k : Fin 512) : k0_pay9 C L H X (ix3 0 k r)
    = X (ix2 r k) * C (ix2 r k) + X (ix2 r ⟨(k.val + 512 - 504) % 512, by omega⟩) * L (ix2 r k) + X (ix2 r ⟨(k.val + 512 - 8) % 512, by omega⟩) * H (ix2 r k) := by
  pointwise [k0_pay9, k0_pay8, k0_pay4, k0_pay5, k0_pay6]
theorem pay14_at (X : Vec Ideal S256x512 .f32) (r : Fin 256) (k : Fin 512) : k0_pay14 X (ix3 0 k r) = X (ix2 r k) := by
  pointwise [k0_pay14, k0_pay13]

set_option maxHeartbeats 2000000 in
/-- What a point leaves of the keys. -/
theorem tileK (c : Dev nD) (t : Fin cfg0.N) (h : Fin 8) (e : Fin 64) (r : Fin 256) : (outsAt0 m c t.val t.isLt).1 (ix3 0 ⟨h.val * 64 + e.val, by omega⟩ r)
    = turn (rowOf (m ((c : Thread nD τ).loc main_arg0)) 512 (by decide) ⟨t.val * 256 + r.val, by have := lt_64 t; omega⟩) (pos t r) h e := by
  have hk : ∀ X : Vec Ideal S256x512 .f32, (∀ k, X (ix2 r k) = rowOf (m ((c : Thread nD τ).loc main_arg0)) 512 (by decide) ⟨t.val * 256 + r.val, by have := lt_64 t; omega⟩ k) →
      k0_pay9 (iblk m c 1 t) (iblk m c 2 t) (iblk m c 3 t) X (ix3 0 ⟨h.val * 64 + e.val, by omega⟩ r)
        = turn (rowOf (m ((c : Thread nD τ).loc main_arg0)) 512 (by decide) ⟨t.val * 256 + r.val, by have := lt_64 t; omega⟩) (pos t r) h e := by
    intro X hX
    rw [pay9_at, in_C, in_L, in_H, hX, hX, hX]
    rfl
  by_cases ht : t.val % 16 = 0
  · rw [outsAt0_A m c t ht]
    frame_out
    exact hk _ fun k => (congrArg (X0_0 m c t) (by funext d; fin_cases d <;> apply Fin.ext <;> simp [View.ld, Rect.unit])).trans (X0_at m c t r ⟨512 + k.val, by omega⟩)
  · rw [outsAt0_B m c t ht]
    frame_out
    exact hk _ fun k => (congrArg (X0_0 m c t) (by funext d; fin_cases d <;> apply Fin.ext <;> simp [View.ld, Rect.unit])).trans (X0_at m c t r ⟨512 + k.val, by omega⟩)

set_option maxHeartbeats 2000000 in
/-- What a point leaves of the values. -/
theorem tileV (c : Dev nD) (t : Fin cfg0.N) (k : Fin 512) (r : Fin 256) : (outsAt0 m c t.val t.isLt).2.1 (ix3 0 k r)
    = rowOf (m ((c : Thread nD τ).loc main_arg0)) 1024 (by decide) ⟨t.val * 256 + r.val, by have := lt_64 t; omega⟩ k := by
  by_cases ht : t.val % 16 = 0
  · rw [outsAt0_A m c t ht]
    frame_out
    refine (pay14_at _ r k).trans ?_
    exact (congrArg (X0_0 m c t) (by funext d; fin_cases d <;> apply Fin.ext <;> simp [View.ld, Rect.unit])).trans (X0_at m c t r ⟨1024 + k.val, by omega⟩)
  · rw [outsAt0_B m c t ht]
    frame_out
    refine (pay14_at _ r k).trans ?_
    exact (congrArg (X0_0 m c t) (by funext d; fin_cases d <;> apply Fin.ext <;> simp [View.ld, Rect.unit])).trans (X0_at m c t r ⟨1024 + k.val, by omega⟩)

/-- The arrays the reference returns, of the kernel's arguments. -/
def keysArgs (c : Dev nD) : FVec Ideal S4x2048x4096 .f32 :=
  Cert.PrepRefIdeal.slot (Cert.PrepRefIdeal.newK (m ((c : Thread nD τ).loc main_arg0))) (m ((c : Thread nD τ).loc main_arg1))
@[inherit_doc keysArgs]
def valsArgs (c : Dev nD) : FVec Ideal S4x2048x4096 .f32 :=
  Cert.PrepRefIdeal.slot (Cert.PrepRefIdeal.newV (m ((c : Thread nD τ).loc main_arg0))) (m ((c : Thread nD τ).loc main_arg2))

/-- A tile's rows of the projection, by group and position. -/
theorem row_pos (t : Fin cfg0.N) (r : Fin 256) : t.val / 16 * 4096 + (pos t r).val = t.val * 256 + r.val := by
  show t.val / 16 * 4096 + (t.val % 16 * 256 + r.val) = _
  omega

/-- The keys a tile stores are the reference's at its place. -/
theorem keys_tile (c : Dev nD) (t : Fin cfg0.N) (y : S1x512x256.Idx) : (outsAt0 m c t.val t.isLt).1 y
    = keysArgs m c (ix3 1 ⟨t.val / 16 * 512 + (y 1).val, by have h : (y 1).val < 512 := (y 1).isLt; have := lt_64 t; omega⟩ (pos t (y 2))) := by
  obtain ⟨a, h, e, r, rfl⟩ : ∃ (a : Fin 1) (h : Fin 8) (e : Fin 64) (r : Fin 256), y = ix3 a ⟨h.val * 64 + e.val, by omega⟩ r := by
    have h1 : (y 1).val < 512 := (y 1).isLt
    refine ⟨y 0, ⟨(y 1).val / 64, by omega⟩, ⟨(y 1).val % 64, by omega⟩, y 2, ?_⟩
    funext d
    fin_cases d
    · rfl
    · exact Fin.ext (by show (y 1).val = (y 1).val / 64 * 64 + (y 1).val % 64; omega)
    · rfl
  obtain rfl : a = 0 := Subsingleton.elim _ _
  have hb : t.val / 16 < 4 := by have := lt_64 t; omega
  refine (tileK m c t h e r).trans ?_
  refine Eq.trans ?_ ((Cert.PrepRefIdeal.slot_at _ _ 1 _ (pos t r)).trans ((if_pos rfl).trans (refK_at _ ⟨t.val / 16, hb⟩ (pos t r) h e))).symm
  exact congrArg (fun q => turn (rowOf _ 512 _ q) _ _ _) (Fin.ext (row_pos t r).symm)

/-- The values a tile stores are the reference's at its place. -/
theorem vals_tile (c : Dev nD) (t : Fin cfg0.N) (y : S1x512x256.Idx) : (outsAt0 m c t.val t.isLt).2.1 y
    = valsArgs m c (ix3 1 ⟨t.val / 16 * 512 + (y 1).val, by have h : (y 1).val < 512 := (y 1).isLt; have := lt_64 t; omega⟩ (pos t (y 2))) := by
  obtain ⟨a, k, r, rfl⟩ : ∃ (a : Fin 1) (k : Fin 512) (r : Fin 256), y = ix3 a k r := ⟨y 0, y 1, y 2, by funext d; fin_cases d <;> rfl⟩
  obtain rfl : a = 0 := Subsingleton.elim _ _
  have hb : t.val / 16 < 4 := by have := lt_64 t; omega
  refine (tileV m c t k r).trans ?_
  refine Eq.trans ?_ ((Cert.PrepRefIdeal.slot_at _ _ 1 _ (pos t r)).trans ((if_pos rfl).trans (refV_at _ ⟨t.val / 16, hb⟩ (pos t r) k))).symm
  exact congrArg (fun q => rowOf _ 1024 _ q _) (Fin.ext (row_pos t r).symm)

/-- The keys. -/
theorem result_k (c : Dev nD) : (dats m 0 c).arrAt 4 (cfgs 0).N = keysArgs m c := by
  refine (dats m 0 c).arrAt_eq_of_coversWhere_of_agree 4 _ (fun β => β 0 = 1) (by decide +kernel) (fun t hf y => ?_) (fun j hj => ?_)
  · blk_simp
    rw [after0_4]
    refine (keys_tile m c t y).trans (congrArg (keysArgs m c) ?_)
    funext d
    fin_cases d <;> apply Fin.ext <;> blk_simp [at_point t] <;> rfl
  · have hj0 : (((cfg0.win 4).arr.view.emb j) 0).val ≠ 1 := by
      intro e
      apply hj
      rw [Pipeline.Window.cell_apply]
      exact (Nat.div_one _).trans e
    generalize (cfg0.win 4).arr.view.emb j = x at hj0
    rw [A_eq]
    refine (congrFun (V_v35_0 m c) x).trans ?_
    exact Cert.PrepRefIdeal.kept _ _ x hj0

/-- The values. -/
theorem result_v (c : Dev nD) : (dats m 0 c).arrAt 5 (cfgs 0).N = valsArgs m c := by
  refine (dats m 0 c).arrAt_eq_of_coversWhere_of_agree 5 _ (fun β => β 0 = 1) (by decide +kernel) (fun t hf y => ?_) (fun j hj => ?_)
  · blk_simp
    rw [after0_5]
    refine (vals_tile m c t y).trans (congrArg (valsArgs m c) ?_)
    funext d
    fin_cases d <;> apply Fin.ext <;> blk_simp [at_point t] <;> rfl
  · have hj0 : (((cfg0.win 5).arr.view.emb j) 0).val ≠ 1 := by
      intro e
      apply hj
      rw [Pipeline.Window.cell_apply]
      exact (Nat.div_one _).trans e
    generalize (cfg0.win 5).arr.view.emb j = x at hj0
    rw [A_eq]
    refine (congrFun (V_v35_1 m c) x).trans ?_
    exact Cert.PrepRefIdeal.kept _ _ x hj0

end Cert.PrepIdeal.Val

end
-- ==== Proof.PairPrep.lean ====
/-
The conjuncts of the claim about Prep that are not frames of the kernel.
-/
module

public import proofs.«01_k».proof.Defs
public import proofs.«01_k».proof.Proof.Gen.Prep
public import proofs.«01_k».proof.Proof.Gen.PrepIdeal
public import proofs.«01_k».proof.Proof.Gen.PrepRefIdeal
public import proofs.«01_k».proof.Proof.ValPrep
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_PrepRefIdeal : Cert.quiescent_PrepRefIdeal (hPrepRefIdeal := Cert.PrepRefIdeal.Gen.facts) := by
  intro m g _
  exact (θ_run Cert.PrepRefIdeal.defs _ _).mono
    (fun r h => ⟨fun c => (h c).2.2, sem_eq_zero_of_no_sems (by decide) r.2⟩) (Cert.PrepRefIdeal.Value.run m g)

set_option maxHeartbeats 1600000 in
/-- The idealised kernel and the reference return the same arrays of keys and of values. -/
theorem equal_Prep : Cert.algebraic_PrepIdeal_PrepRefIdeal (hPrepIdeal := Cert.PrepIdeal.Gen.facts) (hPrepRefIdeal := Cert.PrepRefIdeal.Gen.facts) := by
  pair_intro
  · run_from Cert.PrepIdeal.Gen.run_main m g
  · run_from Cert.PrepRefIdeal.Value.run m' g'
    · refine (Cert.PrepRefIdeal.ref_k _ c).trans ?_
      obtain ⟨h0, h1, h2⟩ := hagree c
      rw [h0, h1]
      exact (Cert.PrepIdeal.Val.result_k m c).symm
    · obtain ⟨h0, h1, h2⟩ := hagree c
      first | rw [h0, h2] | rw [h2] | skip
      exact (Cert.PrepIdeal.Val.result_v m c).symm

end Cert.Proof

end
-- ==== Proof.ValPMix.lean ====
/-
The prompt group's short convolution: at each point the kernel multiplies two column blocks, puts the two rows before the tile in front
of the product (zero at the first tile of a sequence) and adds three taps; the reference pads the whole product by two rows of zeros.
-/
module

public import proofs.«01_k».proof.Proof.Gen.PMixIdeal.Value
public import proofs.«01_k».proof.Proof.Gen.PMixRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.PMixRefIdeal

open Cert.PMixRefIdeal Cert.PMixRefIdeal.Gen Cert.PMixRefIdeal.Value Idealize.ShloMosaic Idealize.ShloMosaic.TcCoe Idealize.SL.Sem

/-- The product of the two column blocks behind two rows of zeros. -/
def padded (P : FVec Ideal S16384x5632 .f32) : FVec Ideal S4x4098x512 .f32 :=
  (concatenate S4x4098x512 1 [⟨S4x2x512, (broadcastInDim S4x2x512 ![] bcast_S_S4x2x512 (constant S_ .f32 0x00000000#32))⟩, ⟨S4x4096x512, (mulf (extractStridedSlice S4x4096x512 ![0, 0, 4608] (shapeCast _ P shapeCasts_S16384x5632_S4x4096x5632) slices_S4x4096x5632_S4x4096x512_0_0_4608) (extractStridedSlice S4x4096x512 ![0, 0, 5120] (shapeCast _ P shapeCasts_S16384x5632_S4x4096x5632) slices_S4x4096x5632_S4x4096x512_0_0_5120))⟩] concatenates_S4x2x512_S4x4096x512_S4x4098x512_d1)

/-- The gated convolution. -/
def rowsRef (P : FVec Ideal S16384x5632 .f32) (W : FVec Ideal S3x512 .f32) : FVec Ideal S16384x512 .bf16 :=
  truncf .bf16 (shapeCast _ (mulf (extractStridedSlice S4x4096x512 ![0, 0, 4096] (shapeCast _ P shapeCasts_S16384x5632_S4x4096x5632) slices_S4x4096x5632_S4x4096x512_0_0_4096) (addf (addf (addf (broadcastInDim S4x4096x512 ![] bcast_S_S4x4096x512 (constant S_ .f32 0x00000000#32)) (mulf (extractStridedSlice S4x4096x512 ![0, 0, 0] (padded P) slices_S4x4098x512_S4x4096x512_0_0_0) (broadcastInDim S4x4096x512 ![0, 1, 2] bcast_S1x1x512_S4x4096x512_0_1_2 (broadcastInDim S1x1x512 ![2] bcast_S512_S1x1x512_2 (shapeCast _ (extractStridedSlice S1x512 ![0, 0] W slices_S3x512_S1x512_0_0) shapeCasts_S1x512_S512))))) (mulf (extractStridedSlice S4x4096x512 ![0, 1, 0] (padded P) slices_S4x4098x512_S4x4096x512_0_1_0) (broadcastInDim S4x4096x512 ![0, 1, 2] bcast_S1x1x512_S4x4096x512_0_1_2 (broadcastInDim S1x1x512 ![2] bcast_S512_S1x1x512_2 (shapeCast _ (extractStridedSlice S1x512 ![1, 0] W slices_S3x512_S1x512_1_0) shapeCasts_S1x512_S512))))) (mulf (extractStridedSlice S4x4096x512 ![0, 2, 0] (padded P) slices_S4x4098x512_S4x4096x512_0_2_0) (broadcastInDim S4x4096x512 ![0, 1, 2] bcast_S1x1x512_S4x4096x512_0_1_2 (broadcastInDim S1x1x512 ![2] bcast_S512_S1x1x512_2 (shapeCast _ (extractStridedSlice S1x512 ![2, 0] W slices_S3x512_S1x512_2_0) shapeCasts_S1x512_S512)))))) shapeCasts_S4x4096x512_S16384x512) bitsLt_bf16_f32

/-- The last eight rows of the product. -/
def tailRef (P : FVec Ideal S16384x5632 .f32) : FVec Ideal S4x8x512 .f32 :=
  extractStridedSlice S4x8x512 ![0, 4090, 0] (padded P) slices_S4x4098x512_S4x8x512_0_4090_0

/-- One row of the product. -/
def prodRow (P : FVec Ideal S16384x5632 .f32) (R : Fin 16384) (k : Fin 512) : EReal :=
  P (ix2 R ⟨4608 + k.val, by omega⟩) * P (ix2 R ⟨5120 + k.val, by omega⟩)

/-- The row of the product `q` positions before `R`, zero before the start of the sequence. -/
def back (P : FVec Ideal S16384x5632 .f32) (q : ℕ) (R : Fin 16384) (k : Fin 512) : EReal :=
  if R.val % 4096 < q then 0 else prodRow P ⟨R.val - q, by omega⟩ k

/-- One entry of the gated convolution. -/
def rowAt (P : FVec Ideal S16384x5632 .f32) (W : FVec Ideal S3x512 .f32) (R : Fin 16384) (k : Fin 512) : EReal :=
  P (ix2 R ⟨4096 + k.val, by omega⟩) * (W (ix2 0 k) * back P 2 R k + W (ix2 1 k) * back P 1 R k + W (ix2 2 k) * prodRow P R k)

theorem padded_at (P : FVec Ideal S16384x5632 .f32) (b : Fin 4) (n : Fin 4098) (k : Fin 512) :
    padded P (ix3 b n k) = if h : n.val < 2 then 0 else prodRow P ⟨b.val * 4096 + (n.val - 2), by omega⟩ k := by
  pointwise [padded, prodRow]

theorem rowsRef_at (P : FVec Ideal S16384x5632 .f32) (W : FVec Ideal S3x512 .f32) (R : Fin 16384) (k : Fin 512) :
    rowsRef P W (ix2 R k) = rowAt P W R k := by
  have e1 : R.val / 4096 * 4096 + R.val % 4096 = R.val := by omega
  pointwise [rowsRef]
  simp only [padded_at]
  unfold rowAt back
  have z2 : ∀ a : ℕ, ¬ 2 + a < 2 := fun a => by omega
  have e3 : R.val / 4096 * 4096 + (2 + R.val % 4096 - 2) = R.val := by omega
  have hc : ∀ (q : ℕ) (hq : q ≤ 2) (n : ℕ) (hn : n = 2 - q + R.val % 4096), (if h : n < 2 then (0 : EReal) else prodRow P ⟨R.val / 4096 * 4096 + (n - 2), by have := R.isLt; omega⟩ k)
      = if R.val % 4096 < q then 0 else prodRow P ⟨R.val - q, by omega⟩ k := by
    intro q hq n hn
    by_cases h : R.val % 4096 < q
    · rw [dif_pos (by omega), if_pos h]
    · rw [dif_neg (by omega), if_neg h]
      exact congrArg (fun x => prodRow P x k) (Fin.ext (by show R.val / 4096 * 4096 + (n - 2) = R.val - q; omega))
  rw [hc 2 (by omega) (R.val % 4096) (by omega), hc 1 (by omega) (1 + R.val % 4096) (by omega)]
  simp only [dif_neg (z2 _), e3]
  rw [mul_comm (W (ix2 0 k)), mul_comm (W (ix2 1 k)), mul_comm (W (ix2 2 k))]

theorem tailRef_at (P : FVec Ideal S16384x5632 .f32) (b : Fin 4) (a : Fin 8) (k : Fin 512) :
    tailRef P (ix3 b a k) = prodRow P ⟨b.val * 4096 + (4088 + a.val), by omega⟩ k := by
  pointwise [tailRef]
  rw [padded_at, dif_neg (by show ¬ 4090 + a.val < 2; omega)]
  exact congrArg (fun x => prodRow P x k) (Fin.ext (by show b.val * 4096 + (4090 + a.val - 2) = b.val * 4096 + (4088 + a.val); omega))

end Cert.PMixRefIdeal

namespace Cert.PMixIdeal.Val

open Cert.PMixIdeal Cert.PMixIdeal.Gen Idealize.ShloMosaic Idealize.ShloMosaic.TcCoe Idealize.SL.Sem
open Idealize.ShloMosaic.Pipeline (Dat)
open Cert.PMixRefIdeal (prodRow back rowAt)

variable (m : (ℓ : Loc nD τ sig) → Buf (Elt Ideal) ℓ)

/-- The blocks of every point. -/
theorem at_point : ∀ t : Fin cfg0.N, win0_2.index t = ![t.val, 8] ∧ win0_3.index t = ![t.val, 9] ∧ win0_4.index t = ![t.val, 10]
    ∧ win0_5.index t = ![t.val * 64 - 1, 9] ∧ win0_6.index t = ![t.val * 64 - 1, 10] ∧ win0_9.index t = ![0, 0]
    ∧ win0_11.index t = ![t.val, 0] ∧ win0_12.index t = ![t.val / 8, 0, 0] :=
  (by decide +kernel : ∀ t : Fin grid0.N, _)

theorem lt_32 (t : Fin cfg0.N) : t.val < 32 := t.isLt

/-- The projections. -/
abbrev projArg (c : Dev nD) : FVec Ideal S16384x5632 .f32 := m ((c : Thread nD τ).loc main_arg0)

/-- The kernel's test for the first tile of a sequence. -/
theorem first_tile (t : Fin cfg0.N) : Scalar.cmpi .eq (BitVec.ofNat 32 (grid0.coords t 1).val) 0#32 = if t.val % 8 = 0 then 1#1 else 0#1 :=
  (by decide +kernel : ∀ t : Fin grid0.N, Scalar.cmpi .eq (BitVec.ofNat 32 (grid0.coords t 1).val) 0#32 = if t.val % 8 = 0 then 1#1 else 0#1) t

theorem in_db (c : Dev nD) (t : Fin cfg0.N) (r k : Fin 512) : (iblk m c 2 t : Vec Ideal S512x512 .f32) (ix2 r k)
    = projArg m c (ix2 ⟨t.val * 512 + r.val, by have := lt_32 t; omega⟩ ⟨4096 + k.val, by omega⟩) := by
  blk_point [iblk, V, at_point t, projArg]
theorem in_dc (c : Dev nD) (t : Fin cfg0.N) (r k : Fin 512) : (iblk m c 3 t : Vec Ideal S512x512 .f32) (ix2 r k)
    = projArg m c (ix2 ⟨t.val * 512 + r.val, by have := lt_32 t; omega⟩ ⟨4608 + k.val, by omega⟩) := by
  blk_point [iblk, V, at_point t, projArg]
theorem in_dh (c : Dev nD) (t : Fin cfg0.N) (r k : Fin 512) : (iblk m c 4 t : Vec Ideal S512x512 .f32) (ix2 r k)
    = projArg m c (ix2 ⟨t.val * 512 + r.val, by have := lt_32 t; omega⟩ ⟨5120 + k.val, by omega⟩) := by
  blk_point [iblk, V, at_point t, projArg]
theorem in_hc (c : Dev nD) (t : Fin cfg0.N) (a : Fin 8) (k : Fin 512) : (iblk m c 5 t : Vec Ideal S8x512 .f32) (ix2 a k)
    = projArg m c (ix2 ⟨(t.val * 64 - 1) * 8 + a.val, by have := lt_32 t; omega⟩ ⟨4608 + k.val, by omega⟩) := by
  blk_point [iblk, V, at_point t, projArg]
theorem in_hh (c : Dev nD) (t : Fin cfg0.N) (a : Fin 8) (k : Fin 512) : (iblk m c 6 t : Vec Ideal S8x512 .f32) (ix2 a k)
    = projArg m c (ix2 ⟨(t.val * 64 - 1) * 8 + a.val, by have := lt_32 t; omega⟩ ⟨5120 + k.val, by omega⟩) := by
  blk_point [iblk, V, at_point t, projArg]
theorem in_w (c : Dev nD) (t : Fin cfg0.N) : iblk m c 9 t = m ((c : Thread nD τ).loc main_arg3) := by
  blk_ext! [iblk, V, at_point t]

/-- The tile behind the eight rows before it, as the kernel writes the two pieces into its scratch. -/
theorem ext_at (Z : Vec Ideal S512x512 .f32) (H : Vec Ideal S8x512 .f32) (n : Fin 520) (k : Fin 512) :
    View.canon [(⟨Rect.unit (s := S520x512) ![8, 0] ![512, 512] inb_S520x512_S512x512_8_0, Z⟩ : View.Piece (Elt Ideal) S520x512 .f32),
      ⟨Rect.unit (s := S520x512) ![0, 0] ![8, 512] inb_S520x512_S8x512_0_0, H⟩] (ix2 n k)
      = if h : n.val < 8 then H (ix2 ⟨n.val, h⟩ k) else Z (ix2 ⟨n.val - 8, by omega⟩ k) := by
  by_cases h : n.val < 8
  · rw [dif_pos h, View.canon_cons_of_not_mem _ _ (Rect.not_mem_set_of_axis _ _ 0 8 512 rfl rfl rfl (Or.inl h))]
    rw [← Rect.emb_eq_of_coords (Rect.unit (s := S520x512) ![0, 0] ![8, 512] inb_S520x512_S8x512_0_0) (ix2 ⟨n.val, h⟩ k) (ix2 n k)
      (by intro d; fin_cases d <;> simp [Rect.unit])]
    exact View.canon_cons_emb _ _ _ _
  · rw [dif_neg h]
    rw [← Rect.emb_eq_of_coords (Rect.unit (s := S520x512) ![8, 0] ![512, 512] inb_S520x512_S512x512_8_0) (ix2 ⟨n.val - 8, by omega⟩ k) (ix2 n k)
      (by intro d; fin_cases d <;> simp [Rect.unit]; omega)]
    exact View.canon_cons_emb _ _ _ _

/-- A row of the product of the tile, or one of the rows before it. -/
theorem pay20_at (X Y : Vec Ideal S512x512 .f32) (r k : Fin 512) : k0_pay20 X Y (ix2 r k) = X (ix2 r k) * Y (ix2 r k) := by
  pointwise [k0_pay20]
theorem pay22_at (X Y : Vec Ideal S512x512 .f32) (r k : Fin 512) : k0_pay22 X Y (ix2 r k) = X (ix2 r k) * Y (ix2 r k) := by
  pointwise [k0_pay22, k0_pay20]
theorem pay24_at (X Y : Vec Ideal S512x512 .f32) (a : Fin 8) (k : Fin 512) : k0_pay24 X Y (ix3 0 a k) = X (ix2 ⟨504 + a.val, by omega⟩ k) * Y (ix2 ⟨504 + a.val, by omega⟩ k) := by
  pointwise [k0_pay24, k0_pay20]
theorem pay21_at (t : Fin cfg0.N) (X Y : Vec Ideal S8x512 .f32) (a : Fin 8) (k : Fin 512) :
    k0_pay21 (Scalar.cmpi CmpIPredicate.eq (BitVec.ofNat 32 (grid0.coords t 1).val) 0#32) X Y (ix2 a k) = if t.val % 8 = 0 then 0 else X (ix2 a k) * Y (ix2 a k) := by
  rw [first_tile]
  by_cases h : t.val % 8 = 0
  · rw [if_pos h, if_pos h]
    pointwise [k0_pay21]
  · rw [if_neg h, if_neg h]
    pointwise [k0_pay21]
theorem pay23_at (X Y : Vec Ideal S512x512 .f32) (W : Vec Ideal S3x512 .f32) (A B D : Vec Ideal S512x512 .f32) (r k : Fin 512) :
    k0_pay23 X Y W A B D (ix2 r k) = D (ix2 r k) * (W (ix2 0 k) * A (ix2 r k) + W (ix2 1 k) * B (ix2 r k) + W (ix2 2 k) * (X (ix2 r k) * Y (ix2 r k))) := by
  pointwise [k0_pay23, k0_pay20]

/-- The product of the tile behind the eight rows before it, `q` rows before row `r`. -/
theorem back_at (c : Dev nD) (t : Fin cfg0.N) (r k : Fin 512) (q : ℕ) (hq : q ≤ 2) (n : Fin 520) (hn : n.val = 8 - q + r.val) :
    View.canon [(⟨Rect.unit (s := S520x512) ![8, 0] ![512, 512] inb_S520x512_S512x512_8_0, k0_pay22 (iblk m c 3 t) (iblk m c 4 t)⟩ : View.Piece (Elt Ideal) S520x512 .f32),
      ⟨Rect.unit (s := S520x512) ![0, 0] ![8, 512] inb_S520x512_S8x512_0_0, k0_pay21 (Scalar.cmpi CmpIPredicate.eq (BitVec.ofNat 32 (grid0.coords t 1).val) 0#32) (iblk m c 5 t) (iblk m c 6 t)⟩] (ix2 n k)
      = back (projArg m c) q ⟨t.val * 512 + r.val, by have := lt_32 t; omega⟩ k := by
  have ht := lt_32 t
  rw [ext_at]
  unfold back
  by_cases h : n.val < 8
  · rw [dif_pos h, pay21_at]
    by_cases h0 : t.val % 8 = 0
    · rw [if_pos h0, if_pos (by show (t.val * 512 + r.val) % 4096 < q; omega)]
    · rw [if_neg h0, if_neg (by show ¬ (t.val * 512 + r.val) % 4096 < q; omega), in_hc, in_hh]
      exact congrArg (fun x => prodRow (projArg m c) x k) (Fin.ext (by show (t.val * 64 - 1) * 8 + n.val = t.val * 512 + r.val - q; omega))
  · rw [dif_neg h, pay22_at, if_neg (by show ¬ (t.val * 512 + r.val) % 4096 < q; omega), in_dc, in_dh]
    exact congrArg (fun x => prodRow (projArg m c) x k) (Fin.ext (by show t.val * 512 + (n.val - 8) = t.val * 512 + r.val - q; omega))

set_option maxHeartbeats 1600000 in
/-- What a point leaves of the gated convolution. -/
theorem rows_tile (c : Dev nD) (t : Fin cfg0.N) (r k : Fin 512) : (outsAt0 m c t).2.1 (ix2 r k)
    = rowAt (projArg m c) (m ((c : Thread nD τ).loc main_arg3)) ⟨t.val * 512 + r.val, by have := lt_32 t; omega⟩ k := by
  unfold outsAt0
  frame_out
  rw [pay23_at, View.readCov_eq_canon', View.readCov_eq_canon', in_w, in_db, in_dc, in_dh]
  have h6 : (Rect.unit (s := S520x512) ![6, 0] ![512, 512] inb_S520x512_S512x512_6_0).toLoadRect.idx (ix2 r k) = ix2 ⟨6 + r.val, by omega⟩ k := by
    funext d; fin_cases d <;> apply Fin.ext <;> simp [Rect.unit]
  have h7 : (Rect.unit (s := S520x512) ![7, 0] ![512, 512] inb_S520x512_S512x512_7_0).toLoadRect.idx (ix2 r k) = ix2 ⟨7 + r.val, by omega⟩ k := by
    funext d; fin_cases d <;> apply Fin.ext <;> simp [Rect.unit]
  simp only [h6, h7]
  rw [back_at m c t r k 2 (by omega) ⟨6 + r.val, by omega⟩ rfl, back_at m c t r k 1 (by omega) ⟨7 + r.val, by omega⟩ rfl]
  rfl

set_option maxHeartbeats 1600000 in
/-- What a point leaves of the last eight rows. -/
theorem tail_tile (c : Dev nD) (t : Fin cfg0.N) (a : Fin 8) (k : Fin 512) : (outsAt0 m c t).2.2 (ix3 0 a k)
    = prodRow (projArg m c) ⟨t.val * 512 + (504 + a.val), by have := lt_32 t; omega⟩ k := by
  unfold outsAt0
  frame_out
  refine (pay24_at _ _ a k).trans ?_
  rw [in_dc, in_dh]
  rfl

/-- The gated convolution. -/
theorem result_rows (c : Dev nD) : (dats m 0 c).arrAt 11 (cfgs 0).N = Cert.PMixRefIdeal.rowsRef (projArg m c) (m ((c : Thread nD τ).loc main_arg3)) := by
  refine (dats m 0 c).arrAt_eq_of_covers 11 _ (by decide +kernel) fun t _ y => ?_
  blk_simp
  rw [after0_11]
  obtain ⟨r, k, rfl⟩ : ∃ (r k : Fin 512), y = ix2 r k := ⟨y 0, y 1, by funext d; fin_cases d <;> rfl⟩
  refine (rows_tile m c t r k).trans ((Cert.PMixRefIdeal.rowsRef_at _ _ _ k).symm.trans (congrArg _ ?_))
  funext d
  fin_cases d <;> apply Fin.ext <;> blk_simp [at_point t] <;> rfl

/-- The last point of each sequence is the one whose last rows stay. -/
theorem flush_last : ∀ t : Fin cfg0.N, (cfg0.win 12).flush t = true → t.val % 8 = 7 :=
  (by decide +kernel : ∀ t : Fin grid0.N, _)

/-- The last eight rows of the product. -/
theorem result_tail (c : Dev nD) : (dats m 0 c).arrAt 12 (cfgs 0).N = Cert.PMixRefIdeal.tailRef (projArg m c) := by
  refine (dats m 0 c).arrAt_eq_of_covers 12 _ (by decide +kernel) fun t hf y => ?_
  blk_simp
  rw [after0_12]
  have h7 := flush_last t hf
  have ht := lt_32 t
  obtain ⟨b, a, k, rfl⟩ : ∃ (b : Fin 1) (a : Fin 8) (k : Fin 512), y = ix3 b a k := ⟨y 0, y 1, y 2, by funext d; fin_cases d <;> rfl⟩
  obtain rfl : b = 0 := Subsingleton.elim _ _
  refine (tail_tile m c t a k).trans ?_
  refine Eq.trans ?_ ((Cert.PMixRefIdeal.tailRef_at (projArg m c) ⟨t.val / 8, by omega⟩ a k).symm.trans (congrArg _ ?_))
  · exact congrArg (fun x => prodRow (projArg m c) x k) (Fin.ext (by show t.val * 512 + (504 + a.val) = t.val / 8 * 4096 + (4088 + a.val); omega))
  funext d
  fin_cases d <;> apply Fin.ext <;> blk_simp [at_point t] <;> rfl

end Cert.PMixIdeal.Val

end
-- ==== Proof.PairPMix.lean ====
/-
The conjuncts of the claim about PMix that are not frames of the kernel.
-/
module

public import proofs.«01_k».proof.Defs
public import proofs.«01_k».proof.Proof.Gen.PMix
public import proofs.«01_k».proof.Proof.Gen.PMixIdeal
public import proofs.«01_k».proof.Proof.Gen.PMixRefIdeal
public import proofs.«01_k».proof.Proof.ValPMix
public import Idealize.ShloMosaic.Lib.Claim

@[expose] public section

set_option maxRecDepth 16384

noncomputable section

namespace Cert.Proof

open Idealize.ShloMosaic Idealize.ShloMosaic.TcCoe Idealize.SL.Sem

set_option maxHeartbeats 1600000 in
/-- The reference runs, leaves its arguments and ends with every counter at zero. -/
theorem runs_PMixRefIdeal : Cert.quiescent_PMixRefIdeal (hPMixRefIdeal := Cert.PMixRefIdeal.Gen.facts) := by
  intro m g _
  exact (θ_run Cert.PMixRefIdeal.defs _ _).mono
    (fun r h => ⟨fun c => (h c).2.2, sem_eq_zero_of_no_sems (by decide) r.2⟩) (Cert.PMixRefIdeal.Value.run m g)

set_option maxHeartbeats 1600000 in
/-- The idealised kernel and the reference return the same gated convolution and the same last rows. -/
theorem equal_PMix : Cert.algebraic_PMixIdeal_PMixRefIdeal (hPMixIdeal := Cert.PMixIdeal.Gen.facts) (hPMixRefIdeal := Cert.PMixRefIdeal.Gen.facts) := by
  pair_intro
  · run_from Cert.PMixIdeal.Gen.run_main m g
  · run_from Cert.PMixRefIdeal.Value.run m' g'
    · exact (Cert.PMixIdeal.Val.result_rows m c).symm
    · exact (Cert.PMixIdeal.Val.result_tail m c).symm

end Cert.Proof

end
-- ==== Proof.MathHgrn.lean ====
/-
The gated recurrence over four steps for one head, on plain functions of the step and the channel: the decays, what each
step takes from the steps before it, what the recurrence gives and the state it leaves.
-/
module

public import Idealize.ShloMosaic.Lib.Pointwise

@[expose] public section

set_option maxRecDepth 16384

noncomputable section

namespace Cert.HgrnMath

open Idealize.ShloMosaic

/-- The forget gate: from its lower bound and its raw value. -/
def forget (l x : EReal) : EReal := l + (1 - l) * Ideal.div 1 (1 + Ideal.exp (-x))

/-- A value times its logistic function. -/
def swish (x : EReal) : EReal := x * Ideal.div 1 (1 + Ideal.exp (-x))

/-- The sum of the first steps, up to and with step `t`. -/
def upTo (g : Fin 4 → EReal) (t : Fin 4) : EReal := ∑ s : Fin 4, if s ≤ t then g s else 0

/-- The logarithm of the decay from the start to step `t`. -/
def decay (f : Fin 4 → Fin 128 → EReal) (l : Fin 128 → EReal) (t : Fin 4) (k : Fin 128) : EReal :=
  upTo (fun s => Ideal.log (forget (l k) (f s k))) t

/-- What step `t` takes from step `s`. -/
def score (q f : Fin 4 → Fin 128 → EReal) (l : Fin 128 → EReal) (t s : Fin 4) : EReal :=
  ∑ k : Fin 128, swish (q t k) * Ideal.exp (decay f l t k - decay f l s k) * (1 - forget (l k) (f s k))

/-- What the recurrence gives at step `t`. -/
def given (q f v : Fin 4 → Fin 128 → EReal) (l : Fin 128 → EReal) (S : Fin 128 → Fin 128 → EReal) (t : Fin 4) (j : Fin 128) : EReal :=
  (∑ s : Fin 4, (if s ≤ t then score q f l t s else 0) * v s j) + ∑ k : Fin 128, swish (q t k) * Ideal.exp (decay f l t k) * S k j

/-- The state the recurrence leaves. -/
def after (f v : Fin 4 → Fin 128 → EReal) (l : Fin 128 → EReal) (S : Fin 128 → Fin 128 → EReal) (k j : Fin 128) : EReal :=
  Ideal.exp (decay f l 3 k) * S k j + ∑ s : Fin 4, (1 - forget (l k) (f s k)) * Ideal.exp (decay f l 3 k - decay f l s k) * v s j

/-- A head's step over its root mean square, weighted and gated. -/
def rowOut (o : Fin 128 → EReal) (n g : EReal) (j : Fin 128) : EReal :=
  o j * Ideal.rsqrt (Ideal.div (∑ x : Fin 128, o x * o x) (Ideal.ofBits FTy.f32 0x43000000#32) + Ideal.ofBits FTy.f32 0x358637BD#32) * n * swish g

/-- The logistic function is a real number between zero and one. -/
theorem sigmoid_real (x : EReal) : ∃ s : ℝ, 0 ≤ s ∧ s ≤ 1 ∧ Ideal.div 1 (1 + Ideal.exp (-x)) = (s : EReal) := by
  show ∃ s : ℝ, 0 ≤ s ∧ s ≤ 1 ∧ Ideal.logistic x = (s : EReal)
  induction x using EReal.rec with
  | bot => exact ⟨0, le_rfl, zero_le_one, Ideal.logistic_bot⟩
  | top => exact ⟨1, zero_le_one, le_rfl, Ideal.logistic_top⟩
  | coe x =>
    have p : 0 < Real.exp (-x) := Real.exp_pos _
    exact ⟨(1 + Real.exp (-x))⁻¹, by positivity, inv_le_one_of_one_le₀ (by linarith), Ideal.logistic_coe x⟩

/-- The logarithm of the forget gate is not positive. -/
theorem log_forget_le (l x : EReal) (h0 : 0 ≤ l) (h1 : l ≤ 1) : Ideal.log (forget l x) ≤ 0 := by
  obtain ⟨s, s0, s1, e⟩ := sigmoid_real x
  rw [forget, e]
  lift l to ℝ using ⟨fun h => absurd (h ▸ h1) (not_le.mpr (EReal.coe_lt_top 1)), fun h => absurd (h ▸ h0) (not_le.mpr (EReal.bot_lt_coe 0))⟩
  have a0 : 0 ≤ l := by exact_mod_cast h0
  have a1 : l ≤ 1 := by exact_mod_cast h1
  have q : (l : EReal) + (1 - (l : EReal)) * (s : EReal) = ((l + (1 - l) * s : ℝ) : EReal) := by
    push_cast
    rfl
  rw [q, Ideal.log_coe]
  have b : l + (1 - l) * s ≤ 1 := by nlinarith
  split
  · exact bot_le
  · rename_i c
    have := Real.log_nonpos (le_of_lt (not_le.mp c)) b
    exact_mod_cast this

/-- A longer sum of values that are not positive is not greater. -/
theorem upTo_le (g : Fin 4 → EReal) (hg : ∀ s, g s ≤ 0) (s t : Fin 4) (h : s ≤ t) : upTo g t ≤ upTo g s := by
  unfold upTo
  refine Finset.sum_le_sum fun x _ => ?_
  by_cases q : x ≤ s
  · rw [if_pos q, if_pos (q.trans h)]
  · rw [if_neg q]
    by_cases r : x ≤ t
    · rw [if_pos r]; exact hg x
    · rw [if_neg r]

/-- From a step to a later one the decay is not positive, so capping it at zero changes nothing. -/
theorem decay_min (f : Fin 4 → Fin 128 → EReal) (l : Fin 128 → EReal) (hl : ∀ k, 0 ≤ l k ∧ l k ≤ 1) (s t : Fin 4) (h : s ≤ t) (k : Fin 128) :
    min (decay f l t k - decay f l s k) 0 = decay f l t k - decay f l s k := by
  refine min_eq_left ?_
  have e : decay f l t k ≤ decay f l s k := upTo_le _ (fun x => log_forget_le _ _ (hl k).1 (hl k).2) s t h
  exact (EReal.sub_le_sub e le_rfl).trans EReal.sub_self_le_zero

end Cert.HgrnMath

end
-- ==== Proof.TileHgrn.lean ====
/-
The gated recurrence of the sample's tokens: what the kernel computes for one row and one head, entry by entry.
-/
module

public import proofs.«01_k».proof.Proof.Gen.HgrnIdeal.Skeleton
public import proofs.«01_k».proof.Proof.MathHgrn
public import Idealize.ShloMosaic.Lib.Pipeline.ValueKit
public import Idealize.ShloMosaic.Lib.Pointwise

@[expose] public section

set_option maxRecDepth 16384

noncomputable section

namespace Cert.HgrnIdeal.Val

open Cert.HgrnIdeal Cert.HgrnIdeal.Gen Idealize.ShloMosaic Idealize.ShloMosaic.TcCoe Idealize.SL.Sem

/-- The forget gate of a head's rows. -/
def forget (l : FVec Ideal S1x128 .f32) (f : FVec Ideal S8x128 .f32) : FVec Ideal S8x128 .f32 :=
  addf (broadcastTo S8x128 l broadcasts_S1x128_S8x128) (mulf (broadcastTo S8x128 (subf (broadcast S1x128 (Scalar.ofBits .f32 0x3F800000#32)) l) broadcasts_S1x128_S8x128) (divf (broadcast S8x128 (Scalar.ofBits .f32 0x3F800000#32)) (addf (broadcast S8x128 (Scalar.ofBits .f32 0x3F800000#32)) (exp (subf (broadcast S8x128 (Scalar.ofBits .f32 0x00000000#32)) f)))))

/-- The running logarithm of the decay. -/
def decays (l : FVec Ideal S1x128 .f32) (f : FVec Ideal S8x128 .f32) : FVec Ideal S8x128 .f32 :=
  k0_pay9 (log (forget l f)) k0_pay8 (Scalar.ofBits .f32 0x3F800000#32) (Scalar.ofBits .f32 0x00000000#32)

/-- The number of each row. -/
abbrev rowNo : IVec S8x1 32 := iota .tc S8x1 32 [0] iota_S8x1_d0_w32

/-- One step's weight on the rows after it: entry by entry, summed over the channels. -/
def term (B Q K : FVec Ideal S8x128 .f32) (b k : FVec Ideal S1x128 .f32) : FVec Ideal S8x1 .f32 :=
  shapeCast S8x1 (multiReduction .add [1] S8 (mulf (mulf Q (broadcastTo S8x128 k broadcasts_S1x128_S8x128)) (exp (minimumf (subf B (broadcastTo S8x128 b broadcasts_S1x128_S8x128)) (broadcast S8x128 (Scalar.ofBits .f32 0x00000000#32))))) 0x00000000#32 reduces_S8x128_S8 (.inl rfl) rfl) shapeCasts_S8_S8x1

/-- The step's weight, nothing for the rows before it, times the step's value. -/
def part (n : BitVec 32) (x : FVec Ideal S8x1 .f32) (v : FVec Ideal S1x128 .f32) : FVec Ideal S8x128 .f32 :=
  mulf (broadcastTo S8x128 (select (cmpi .sge rowNo (broadcast S8x1 n)) x (broadcast S8x1 (Scalar.ofBits .f32 0x00000000#32))) broadcasts_S8x1_S8x128) (broadcastTo S8x128 v broadcasts_S1x128_S8x128)

/-- What the recurrence gives. -/
def given (q f v : FVec Ideal S8x128 .f32) (l : FVec Ideal S1x128 .f32) (S : FVec Ideal S128x128 .f32) : FVec Ideal S8x128 .f32 :=
  let B := decays l f
  let Q := k0_pay10 q
  let K := k0_pay11 (forget l f)
  addf (addf (addf (addf (addf (broadcast S8x128 (Scalar.ofBits .f32 0x00000000#32))
    (part 0#32 (term B Q K (extractStridedSlice S1x128 ![0, 0] B slices_S8x128_o0_0_S1x128) (extractStridedSlice S1x128 ![0, 0] K slices_S8x128_o0_0_S1x128)) (extractStridedSlice S1x128 ![0, 0] v slices_S8x128_o0_0_S1x128)))
    (part 1#32 (term B Q K (extractStridedSlice S1x128 ![1, 0] B slices_S8x128_o1_0_S1x128) (extractStridedSlice S1x128 ![1, 0] K slices_S8x128_o1_0_S1x128)) (extractStridedSlice S1x128 ![1, 0] v slices_S8x128_o1_0_S1x128)))
    (part 2#32 (term B Q K (extractStridedSlice S1x128 ![2, 0] B slices_S8x128_o2_0_S1x128) (extractStridedSlice S1x128 ![2, 0] K slices_S8x128_o2_0_S1x128)) (extractStridedSlice S1x128 ![2, 0] v slices_S8x128_o2_0_S1x128)))
    (part 3#32 (term B Q K (extractStridedSlice S1x128 ![3, 0] B slices_S8x128_o3_0_S1x128) (extractStridedSlice S1x128 ![3, 0] K slices_S8x128_o3_0_S1x128)) (extractStridedSlice S1x128 ![3, 0] v slices_S8x128_o3_0_S1x128)))
    (matmul dot_S8x128_S128x128_S8x128_1_1_0_0_n_n none (truncf .bf16 (mulf Q (exp B)) bitsLt_bf16_f32) (truncf .bf16 S bitsLt_bf16_f32) (constant S8x128 .f32 0x00000000#32))

/-- The rows a head writes. -/
def rowsOut (q f v g : FVec Ideal S8x128 .f32) (l n : FVec Ideal S1x128 .f32) (S : FVec Ideal S128x128 .f32) : FVec Ideal S1x8x128 .f32 :=
  k0_pay22 (given q f v l S) g n (rsqrt (addf (divf (shapeCast S8x1 (multiReduction .add [1] S8 (mulf (given q f v l S) (given q f v l S)) 0x00000000#32 reduces_S8x128_S8 (.inl rfl) rfl) shapeCasts_S8_S8x1) (broadcast S8x1 (Scalar.ofBits .f32 0x43000000#32))) (broadcast S8x1 (Scalar.ofBits .f32 0x358637BD#32))))

/-- The state a head writes. -/
def stateOut (f v : FVec Ideal S8x128 .f32) (l : FVec Ideal S1x128 .f32) (S : FVec Ideal S128x128 .f32) : FVec Ideal S1x1x1x128x128 .f32 :=
  k0_pay18 v S (decays l f) (k0_pay11 (forget l f)) rowNo

/-- The first rows, one for each token. -/
abbrev top (X : FVec Ideal S8x128 .f32) : Fin 4 → Fin 128 → EReal := fun t k => X (ix2 ⟨t.val, by omega⟩ k)
/-- The channels of a vector. -/
abbrev chan (l : FVec Ideal S1x128 .f32) : Fin 128 → EReal := fun k => l (ix2 0 k)
/-- The state, key first. -/
abbrev stat (S : FVec Ideal S128x128 .f32) : Fin 128 → Fin 128 → EReal := fun k j => S (ix2 j k)

/-- The running logarithm of the decay at a token's row. -/
theorem decays_at (l : FVec Ideal S1x128 .f32) (f : FVec Ideal S8x128 .f32) (i : Fin 8) (t : Fin 4) (hi : i.val = t.val) (k : Fin 128) :
    decays l f (ix2 i k) = HgrnMath.decay (top f) (chan l) t k := by
  pointwise [decays, k0_pay9, k0_pay8, forget]
  have c : ∀ (i : Fin 8) (x : Fin 8), IntOp.andi (IntOp.cmpi CmpIPredicate.sge (BitVec.ofNat 32 i.val) (BitVec.ofNat 32 x.val)) (IntOp.cmpi CmpIPredicate.slt (BitVec.ofNat 32 x.val) 4#32)
      = if x.val ≤ i.val ∧ x.val < 4 then 1#1 else 0#1 := by decide +kernel
  simp only [c, zero_sub]
  unfold HgrnMath.decay HgrnMath.upTo HgrnMath.forget
  rw [Fin.sum_univ_eight, Fin.sum_univ_four]
  obtain rfl : i = ⟨t.val, Nat.lt_trans t.isLt (by decide)⟩ := Fin.ext hi
  fin_cases t <;> simp [Scalar.select] <;> rfl

/-- The keys at a row. -/
theorem keys_at (l : FVec Ideal S1x128 .f32) (f : FVec Ideal S8x128 .f32) (i : Fin 8) (k : Fin 128) :
    k0_pay11 (forget l f) (ix2 i k) = 1 - HgrnMath.forget (l (ix2 0 k)) (f (ix2 i k)) := by
  pointwise [k0_pay11, forget, HgrnMath.forget]
  simp only [zero_sub]

/-- A step's weight at a row. -/
theorem term_at (B Q K : FVec Ideal S8x128 .f32) (b k : FVec Ideal S1x128 .f32) (i : Fin 8) :
    term B Q K b k (ix2 i 0) = ∑ x : Fin 128, Q (ix2 i x) * k (ix2 0 x) * Ideal.exp (min (B (ix2 i x) - b (ix2 0 x)) 0) := by
  pointwise [term]

/-- A step's part at a row. -/
theorem part_at (s t : Fin 4) (i : Fin 8) (hi : i.val = t.val) (x : FVec Ideal S8x1 .f32) (v : FVec Ideal S1x128 .f32) (j : Fin 128) :
    part (BitVec.ofNat 32 s.val) x v (ix2 i j) = (if s ≤ t then x (ix2 i 0) else 0) * v (ix2 0 j) := by
  pointwise [part]
  have c : ∀ (i : Fin 8) (s : Fin 4), IntOp.cmpi CmpIPredicate.sge (BitVec.ofNat 32 i.val) (BitVec.ofNat 32 s.val)
      = if s.val ≤ i.val then 1#1 else 0#1 := by decide +kernel
  rw [c]
  by_cases q : s ≤ t
  · rw [if_pos q, if_pos (by rw [hi]; exact q)]; rfl
  · rw [if_neg q, if_neg (by rw [hi]; exact q), zero_mul]; rfl

/-- A step's weight, of the rows of the arguments. -/
theorem score_at (q f : FVec Ideal S8x128 .f32) (l : FVec Ideal S1x128 .f32) (b k : FVec Ideal S1x128 .f32) (s t : Fin 4) (i : Fin 8) (hi : i.val = t.val)
    (hl : ∀ k, 0 ≤ l (ix2 0 k) ∧ l (ix2 0 k) ≤ 1)
    (hb : ∀ x, b (ix2 0 x) = decays l f (ix2 ⟨s.val, by omega⟩ x)) (hk : ∀ x, k (ix2 0 x) = k0_pay11 (forget l f) (ix2 ⟨s.val, by omega⟩ x)) (h : s ≤ t) :
    term (decays l f) (k0_pay10 q) (k0_pay11 (forget l f)) b k (ix2 i 0) = HgrnMath.score (top q) (top f) (chan l) t s := by
  rw [term_at]
  unfold HgrnMath.score
  refine Finset.sum_congr rfl fun x _ => ?_
  rw [hb, hk, decays_at l f i t hi, decays_at l f ⟨s.val, by omega⟩ s rfl, HgrnMath.decay_min _ _ hl s t h, keys_at]
  have e : k0_pay10 q (ix2 i x) = HgrnMath.swish (top q t x) := by
    obtain rfl : i = ⟨t.val, Nat.lt_trans t.isLt (by decide)⟩ := Fin.ext hi
    pointwise [k0_pay10, HgrnMath.swish]
    simp only [zero_sub]
  rw [e]
  ac_rfl

/-- What the recurrence gives at a token's row. -/
theorem given_at (q f v : FVec Ideal S8x128 .f32) (l : FVec Ideal S1x128 .f32) (S : FVec Ideal S128x128 .f32) (i : Fin 8) (t : Fin 4) (hi : i.val = t.val)
    (hl : ∀ k, 0 ≤ l (ix2 0 k) ∧ l (ix2 0 k) ≤ 1) (j : Fin 128) :
    given q f v l S (ix2 i j) = HgrnMath.given (top q) (top f) (top v) (chan l) (stat S) t j := by
  have p : ∀ (s : Fin 4) (b k w : FVec Ideal S1x128 .f32),
      (∀ x, b (ix2 0 x) = decays l f (ix2 ⟨s.val, by omega⟩ x)) → (∀ x, k (ix2 0 x) = k0_pay11 (forget l f) (ix2 ⟨s.val, by omega⟩ x)) → (∀ x, w (ix2 0 x) = top v s x) →
      part (BitVec.ofNat 32 s.val) (term (decays l f) (k0_pay10 q) (k0_pay11 (forget l f)) b k) w (ix2 i j)
        = (if s ≤ t then HgrnMath.score (top q) (top f) (chan l) t s else 0) * top v s j := by
    intro s b k w hb hk hw
    rw [part_at s t i hi, hw]
    by_cases c : s ≤ t
    · rw [if_pos c, if_pos c, score_at q f l b k s t i hi hl hb hk c]
    · rw [if_neg c, if_neg c]
  unfold given
  refine (show _ = ((((0 : EReal)
      + part (BitVec.ofNat 32 (0 : Fin 4).val) (term (decays l f) (k0_pay10 q) (k0_pay11 (forget l f)) (extractStridedSlice S1x128 ![0, 0] (decays l f) slices_S8x128_o0_0_S1x128) (extractStridedSlice S1x128 ![0, 0] (k0_pay11 (forget l f)) slices_S8x128_o0_0_S1x128)) (extractStridedSlice S1x128 ![0, 0] v slices_S8x128_o0_0_S1x128) (ix2 i j))
      + part (BitVec.ofNat 32 (1 : Fin 4).val) (term (decays l f) (k0_pay10 q) (k0_pay11 (forget l f)) (extractStridedSlice S1x128 ![1, 0] (decays l f) slices_S8x128_o1_0_S1x128) (extractStridedSlice S1x128 ![1, 0] (k0_pay11 (forget l f)) slices_S8x128_o1_0_S1x128)) (extractStridedSlice S1x128 ![1, 0] v slices_S8x128_o1_0_S1x128) (ix2 i j))
      + part (BitVec.ofNat 32 (2 : Fin 4).val) (term (decays l f) (k0_pay10 q) (k0_pay11 (forget l f)) (extractStridedSlice S1x128 ![2, 0] (decays l f) slices_S8x128_o2_0_S1x128) (extractStridedSlice S1x128 ![2, 0] (k0_pay11 (forget l f)) slices_S8x128_o2_0_S1x128)) (extractStridedSlice S1x128 ![2, 0] v slices_S8x128_o2_0_S1x128) (ix2 i j))
      + part (BitVec.ofNat 32 (3 : Fin 4).val) (term (decays l f) (k0_pay10 q) (k0_pay11 (forget l f)) (extractStridedSlice S1x128 ![3, 0] (decays l f) slices_S8x128_o3_0_S1x128) (extractStridedSlice S1x128 ![3, 0] (k0_pay11 (forget l f)) slices_S8x128_o3_0_S1x128)) (extractStridedSlice S1x128 ![3, 0] v slices_S8x128_o3_0_S1x128) (ix2 i j)
      + matmul dot_S8x128_S128x128_S8x128_1_1_0_0_n_n none (truncf .bf16 (mulf (k0_pay10 q) (exp (decays l f))) bitsLt_bf16_f32) (truncf .bf16 S bitsLt_bf16_f32) (constant S8x128 .f32 0x00000000#32) (ix2 i j) from ?_).trans ?_
  · pointwise
  · rw [p 0 _ _ _ (fun x => by pointwise) (fun x => by pointwise) (fun x => by pointwise; rfl), p 1 _ _ _ (fun x => by pointwise) (fun x => by pointwise) (fun x => by pointwise; rfl),
      p 2 _ _ _ (fun x => by pointwise) (fun x => by pointwise) (fun x => by pointwise; rfl), p 3 _ _ _ (fun x => by pointwise) (fun x => by pointwise) (fun x => by pointwise; rfl)]
    unfold HgrnMath.given
    rw [Fin.sum_univ_four, zero_add]
    congr 1
    obtain rfl : i = ⟨t.val, Nat.lt_trans t.isLt (by decide)⟩ := Fin.ext hi
    pointwise [k0_pay10]
    refine Finset.sum_congr rfl fun x _ => ?_
    rw [decays_at l f _ t rfl]
    simp only [zero_sub, HgrnMath.swish]

/-- The rows a head writes, at a token's row. -/
theorem rowsOut_at (q f v g : FVec Ideal S8x128 .f32) (l n : FVec Ideal S1x128 .f32) (S : FVec Ideal S128x128 .f32) (i : Fin 8) (t : Fin 4) (hi : i.val = t.val)
    (hl : ∀ k, 0 ≤ l (ix2 0 k) ∧ l (ix2 0 k) ≤ 1) (j : Fin 128) :
    rowsOut q f v g l n S (ix3 0 i j) = HgrnMath.rowOut (HgrnMath.given (top q) (top f) (top v) (chan l) (stat S) t) (n (ix2 0 j)) (top g t j) j := by
  pointwise [rowsOut, k0_pay22]
  simp only [given_at q f v l S i t hi hl, zero_sub, HgrnMath.rowOut, HgrnMath.swish]
  obtain rfl : i = ⟨t.val, Nat.lt_trans t.isLt (by decide)⟩ := Fin.ext hi
  rfl

/-- The state a head writes. -/
theorem stateOut_at (f v : FVec Ideal S8x128 .f32) (l : FVec Ideal S1x128 .f32) (S : FVec Ideal S128x128 .f32)
    (hl : ∀ k, 0 ≤ l (ix2 0 k) ∧ l (ix2 0 k) ≤ 1) (k j : Fin 128) :
    stateOut f v l S (ix5 0 0 0 k j) = HgrnMath.after (top f) (top v) (chan l) (stat S) k j := by
  pointwise [stateOut, k0_pay18]
  have c : ∀ (x : Fin 8), IntOp.cmpi CmpIPredicate.slt (BitVec.ofNat 32 x.val) 4#32
      = if x.val < 4 then 1#1 else 0#1 := by decide +kernel
  have e : ∀ s : Fin 4, v (ix2 ⟨s.val, by omega⟩ j) * (k0_pay11 (forget l f) (ix2 ⟨s.val, by omega⟩ k) * Ideal.exp (min (decays l f (ix2 3 k) - decays l f (ix2 ⟨s.val, by omega⟩ k)) 0))
      = (1 - HgrnMath.forget (chan l k) (top f s k)) * Ideal.exp (HgrnMath.decay (top f) (chan l) 3 k - HgrnMath.decay (top f) (chan l) s k) * top v s j := by
    intro s
    rw [decays_at l f 3 3 rfl, decays_at l f ⟨s.val, by omega⟩ s rfl, HgrnMath.decay_min _ _ hl s 3 (by omega), keys_at]
    exact mul_comm _ _
  unfold HgrnMath.after
  simp only [c]
  rw [← decays_at l f 3 3 rfl, Fin.sum_univ_eight, Fin.sum_univ_four]
  simp only [← decays_at l f 3 3 rfl] at e
  rw [← e 0, ← e 1, ← e 2, ← e 3, mul_comm (Ideal.exp _) (stat S k j)]
  simp [Scalar.select]

end Cert.HgrnIdeal.Val

end
-- ==== Proof.ValHgrn.lean ====
/-
The gated recurrence of the sample's tokens: the blocks the kernel writes at a grid point, of the blocks it reads.
-/
module

public import proofs.«01_k».proof.Proof.Gen.HgrnIdeal.Frame
public import proofs.«01_k».proof.Proof.TileHgrn
public import Idealize.ShloMosaic.Lib.Pipeline.ValueKit
public import Idealize.ShloMosaic.Lib.Pointwise
public import Idealize.ShloMosaic.Lib.Claim

@[expose] public section

set_option maxRecDepth 16384

noncomputable section

namespace Cert.HgrnIdeal.Val

open Cert.HgrnIdeal Cert.HgrnIdeal.Gen Idealize.ShloMosaic Idealize.ShloMosaic.TcCoe Idealize.SL.Sem
open Idealize.ShloMosaic.Pipeline (Dat)

/-- The lower bounds lie between zero and one. -/
def inUnit (L : Vec Ideal S1x512 .f32) : Prop := ∀ k, 0 ≤ L (ix2 0 k) ∧ L (ix2 0 k) ≤ 1

/-- One head's tokens of a block. -/
abbrev stepsB (X : Vec Ideal S4x8x512 .f32) (a h : Fin 4) : Fin 4 → Fin 128 → EReal :=
  fun t k => X (ix3 a ⟨t.val, Nat.lt_trans t.isLt (by decide)⟩ ⟨h.val * 128 + k.val, by omega⟩)
/-- One head's channels of a row. -/
abbrev chanB (X : Vec Ideal S1x512 .f32) (h : Fin 4) : Fin 128 → EReal :=
  fun k => X (ix2 0 ⟨h.val * 128 + k.val, by omega⟩)
/-- One head's state of a block. -/
abbrev stateB (X : Vec Ideal S1x4x4x128x128 .f32) (a h : Fin 4) : Fin 128 → Fin 128 → EReal :=
  fun k j => X (ix5 0 a h k j)

/-- What a block of rows holds for a token. -/
def rowB (Q F V G : Vec Ideal S4x8x512 .f32) (S : Vec Ideal S1x4x4x128x128 .f32) (L N : Vec Ideal S1x512 .f32) (a h t : Fin 4) (j : Fin 128) : EReal :=
  HgrnMath.rowOut (HgrnMath.given (stepsB Q a h) (stepsB F a h) (stepsB V a h) (chanB L h) (stateB S a h) t) (chanB N h j) (stepsB G a h t j) j

/-- What a block of states holds. -/
def stB (F V : Vec Ideal S4x8x512 .f32) (S : Vec Ideal S1x4x4x128x128 .f32) (L : Vec Ideal S1x512 .f32) (a h : Fin 4) (k j : Fin 128) : EReal :=
  HgrnMath.after (stepsB F a h) (stepsB V a h) (chanB L h) (stateB S a h) k j

/-- A head's rows, loaded. -/
theorem ld_rows (X : Vec Ideal S4x8x512 .f32) (a h : Fin 4) (o : Fin 3 → ℕ) (e : o = ![a.val, 0, h.val * 128]) (inb) (i : Fin 8) (k : Fin 128) :
    k0_pay3 (View.ld X (Rect.unit (s := S4x8x512) o ![1, 8, 128] inb)) (ix2 i k) = X (ix3 a i ⟨h.val * 128 + k.val, by omega⟩) := by
  subst e
  pointwise [k0_pay3]

/-- A head's state, loaded and turned. -/
theorem ld_state (X : Vec Ideal S1x4x4x128x128 .f32) (a h : Fin 4) (o : Fin 5 → ℕ) (e : o = ![0, a.val, h.val, 0, 0]) (inb) (j k : Fin 128) :
    k0_pay5 (View.ld X (Rect.unit (s := S1x4x4x128x128) o ![1, 1, 1, 128, 128] inb)) (ix2 j k) = X (ix5 0 a h k j) := by
  subst e
  pointwise [k0_pay5]

/-- A head's rows, of the block's. -/
theorem rows_piece (Q F V G : Vec Ideal S4x8x512 .f32) (S : Vec Ideal S1x4x4x128x128 .f32) (L N : Vec Ideal S1x512 .f32)
    (hL : inUnit L) (a h t : Fin 4) (j : Fin 128) (x : S1x8x128.Idx) (h1 : (x 1).val = t.val) (h2 : (x 2).val = j.val)
    (q f v g : FVec Ideal S8x128 .f32) (l n : FVec Ideal S1x128 .f32) (s : FVec Ideal S128x128 .f32)
    (hq : ∀ i k, q (ix2 i k) = Q (ix3 a i ⟨h.val * 128 + k.val, by omega⟩)) (hf : ∀ i k, f (ix2 i k) = F (ix3 a i ⟨h.val * 128 + k.val, by omega⟩))
    (hv : ∀ i k, v (ix2 i k) = V (ix3 a i ⟨h.val * 128 + k.val, by omega⟩)) (hg : ∀ i k, g (ix2 i k) = G (ix3 a i ⟨h.val * 128 + k.val, by omega⟩))
    (hl : ∀ k : Fin 128, l (ix2 0 k) = L (ix2 0 ⟨h.val * 128 + k.val, by omega⟩)) (hn : ∀ k : Fin 128, n (ix2 0 k) = N (ix2 0 ⟨h.val * 128 + k.val, by omega⟩))
    (hs : ∀ j k, s (ix2 j k) = S (ix5 0 a h k j)) :
    rowsOut q f v g l n s x = rowB Q F V G S L N a h t j := by
  obtain ⟨i, j', rfl⟩ : ∃ (i : Fin 8) (j : Fin 128), x = ix3 0 i j := ⟨x 1, x 2, by
    funext d
    fin_cases d
    · exact Fin.ext (Nat.lt_one_iff.mp (x 0).isLt)
    · rfl
    · rfl⟩
  obtain rfl : j = j' := Fin.ext h2.symm
  rw [rowsOut_at q f v g l n s i t h1 (fun k => by rw [hl]; exact hL _)]
  have eq : top q = stepsB Q a h := funext fun _ => funext fun _ => hq _ _
  have ef : top f = stepsB F a h := funext fun _ => funext fun _ => hf _ _
  have ev : top v = stepsB V a h := funext fun _ => funext fun _ => hv _ _
  have eg : top g = stepsB G a h := funext fun _ => funext fun _ => hg _ _
  have el : chan l = chanB L h := funext fun _ => hl _
  have es : stat s = stateB S a h := funext fun _ => funext fun _ => hs _ _
  rw [eq, ef, ev, eg, el, es, hn, rowB]

/-- A head's state, of the block's. -/
theorem state_piece (F V : Vec Ideal S4x8x512 .f32) (S : Vec Ideal S1x4x4x128x128 .f32) (L : Vec Ideal S1x512 .f32)
    (hL : inUnit L) (a h : Fin 4) (k j : Fin 128) (x : S1x1x1x128x128.Idx) (h1 : (x 3).val = k.val) (h2 : (x 4).val = j.val)
    (f v : FVec Ideal S8x128 .f32) (l : FVec Ideal S1x128 .f32) (s : FVec Ideal S128x128 .f32)
    (hf : ∀ i k, f (ix2 i k) = F (ix3 a i ⟨h.val * 128 + k.val, by omega⟩))
    (hv : ∀ i k, v (ix2 i k) = V (ix3 a i ⟨h.val * 128 + k.val, by omega⟩))
    (hl : ∀ k : Fin 128, l (ix2 0 k) = L (ix2 0 ⟨h.val * 128 + k.val, by omega⟩))
    (hs : ∀ j k, s (ix2 j k) = S (ix5 0 a h k j)) :
    stateOut f v l s x = stB F V S L a h k j := by
  obtain ⟨k', j', rfl⟩ : ∃ (k j : Fin 128), x = ix5 0 0 0 k j := ⟨x 3, x 4, by
    funext d
    fin_cases d
    · exact Fin.ext (Nat.lt_one_iff.mp (x 0).isLt)
    · exact Fin.ext (Nat.lt_one_iff.mp (x 1).isLt)
    · exact Fin.ext (Nat.lt_one_iff.mp (x 2).isLt)
    · rfl
    · rfl⟩
  obtain rfl : k = k' := Fin.ext h1.symm
  obtain rfl : j = j' := Fin.ext h2.symm
  rw [stateOut_at f v l s (fun k => by rw [hl]; exact hL _)]
  have ef : top f = stepsB F a h := funext fun _ => funext fun _ => hf _ _
  have ev : top v = stepsB V a h := funext fun _ => funext fun _ => hv _ _
  have el : chan l = chanB L h := funext fun _ => hl _
  have es : stat s = stateB S a h := funext fun _ => funext fun _ => hs _ _
  rw [ef, ev, el, es, stB]

variable (m : (ℓ : Loc nD τ sig) → Buf (Elt Ideal) ℓ)

set_option maxHeartbeats 2000000 in
/-- The block of rows at a token. -/
theorem rows_out (c : Dev nD) (t : Fin cfg0.N) (hL : inUnit (iblk m c 5 t))
    (a h r : Fin 4) (j : Fin 128) (y : S4x8x512.Idx) (y0 : (y 0).val = a.val) (y1 : (y 1).val = r.val) (y2 : (y 2).val = h.val * 128 + j.val) :
    (outsAt0 m c t).1 y = rowB (iblk m c 0 t) (iblk m c 1 t) (iblk m c 2 t) (iblk m c 3 t) (iblk m c 4 t) (iblk m c 5 t) (iblk m c 6 t) a h r j := by
  have q0 := a.isLt
  have q1 := h.isLt
  have q2 := j.isLt
  unfold outsAt0
  frame_out
  canon_tiles y hh
  case piece0 =>
    obtain rfl : a = 3 := Fin.ext (by show a.val = 3; omega)
    obtain rfl : h = 3 := Fin.ext (by show h.val = 3; omega)
    refine (congrFun (show _ = rowsOut (k0_pay3 (View.ld (iblk m c 0 t) (Rect.unit ![3, 0, 384] ![1, 8, 128] inb_S4x8x512_S1x8x128_3_0_384))) (k0_pay3 (View.ld (iblk m c 1 t) (Rect.unit ![3, 0, 384] ![1, 8, 128] inb_S4x8x512_S1x8x128_3_0_384))) (k0_pay3 (View.ld (iblk m c 2 t) (Rect.unit ![3, 0, 384] ![1, 8, 128] inb_S4x8x512_S1x8x128_3_0_384))) (k0_pay3 (View.ld (iblk m c 3 t) (Rect.unit ![3, 0, 384] ![1, 8, 128] inb_S4x8x512_S1x8x128_3_0_384))) (extractStridedSlice S1x128 ![0, 384] (k0_pay1 (iblk m c 5 t)) slices_S1x512_o0_384_S1x128) (extractStridedSlice S1x128 ![0, 384] (k0_pay2 (iblk m c 6 t)) slices_S1x512_o0_384_S1x128) (k0_pay5 (View.ld (iblk m c 4 t) (Rect.unit ![0, 3, 3, 0, 0] ![1, 1, 1, 128, 128] inb_S1x4x4x128x128_S1x1x1x128x128_0_3_3_0_0))) from rfl) y).trans ?_
    exact rows_piece _ _ _ _ _ _ _ hL 3 3 r j y (by omega) (by omega) _ _ _ _ _ _ _ (ld_rows _ 3 3 _ rfl _) (ld_rows _ 3 3 _ rfl _) (ld_rows _ 3 3 _ rfl _) (ld_rows _ 3 3 _ rfl _) (fun k => by pointwise [k0_pay1]) (fun k => by pointwise [k0_pay2]) (ld_state _ 3 3 _ rfl _)
  case piece1 =>
    obtain rfl : a = 3 := Fin.ext (by show a.val = 3; omega)
    obtain rfl : h = 2 := Fin.ext (by show h.val = 2; omega)
    refine (congrFun (show _ = rowsOut (k0_pay3 (View.ld (iblk m c 0 t) (Rect.unit ![3, 0, 256] ![1, 8, 128] inb_S4x8x512_S1x8x128_3_0_256))) (k0_pay3 (View.ld (iblk m c 1 t) (Rect.unit ![3, 0, 256] ![1, 8, 128] inb_S4x8x512_S1x8x128_3_0_256))) (k0_pay3 (View.ld (iblk m c 2 t) (Rect.unit ![3, 0, 256] ![1, 8, 128] inb_S4x8x512_S1x8x128_3_0_256))) (k0_pay3 (View.ld (iblk m c 3 t) (Rect.unit ![3, 0, 256] ![1, 8, 128] inb_S4x8x512_S1x8x128_3_0_256))) (extractStridedSlice S1x128 ![0, 256] (k0_pay1 (iblk m c 5 t)) slices_S1x512_o0_256_S1x128) (extractStridedSlice S1x128 ![0, 256] (k0_pay2 (iblk m c 6 t)) slices_S1x512_o0_256_S1x128) (k0_pay5 (View.ld (iblk m c 4 t) (Rect.unit ![0, 3, 2, 0, 0] ![1, 1, 1, 128, 128] inb_S1x4x4x128x128_S1x1x1x128x128_0_3_2_0_0))) from rfl) y).trans ?_
    exact rows_piece _ _ _ _ _ _ _ hL 3 2 r j y (by omega) (by omega) _ _ _ _ _ _ _ (ld_rows _ 3 2 _ rfl _) (ld_rows _ 3 2 _ rfl _) (ld_rows _ 3 2 _ rfl _) (ld_rows _ 3 2 _ rfl _) (fun k => by pointwise [k0_pay1]) (fun k => by pointwise [k0_pay2]) (ld_state _ 3 2 _ rfl _)
  case piece2 =>
    obtain rfl : a = 3 := Fin.ext (by show a.val = 3; omega)
    obtain rfl : h = 1 := Fin.ext (by show h.val = 1; omega)
    refine (congrFun (show _ = rowsOut (k0_pay3 (View.ld (iblk m c 0 t) (Rect.unit ![3, 0, 128] ![1, 8, 128] inb_S4x8x512_S1x8x128_3_0_128))) (k0_pay3 (View.ld (iblk m c 1 t) (Rect.unit ![3, 0, 128] ![1, 8, 128] inb_S4x8x512_S1x8x128_3_0_128))) (k0_pay3 (View.ld (iblk m c 2 t) (Rect.unit ![3, 0, 128] ![1, 8, 128] inb_S4x8x512_S1x8x128_3_0_128))) (k0_pay3 (View.ld (iblk m c 3 t) (Rect.unit ![3, 0, 128] ![1, 8, 128] inb_S4x8x512_S1x8x128_3_0_128))) (extractStridedSlice S1x128 ![0, 128] (k0_pay1 (iblk m c 5 t)) slices_S1x512_o0_128_S1x128) (extractStridedSlice S1x128 ![0, 128] (k0_pay2 (iblk m c 6 t)) slices_S1x512_o0_128_S1x128) (k0_pay5 (View.ld (iblk m c 4 t) (Rect.unit ![0, 3, 1, 0, 0] ![1, 1, 1, 128, 128] inb_S1x4x4x128x128_S1x1x1x128x128_0_3_1_0_0))) from rfl) y).trans ?_
    exact rows_piece _ _ _ _ _ _ _ hL 3 1 r j y (by omega) (by omega) _ _ _ _ _ _ _ (ld_rows _ 3 1 _ rfl _) (ld_rows _ 3 1 _ rfl _) (ld_rows _ 3 1 _ rfl _) (ld_rows _ 3 1 _ rfl _) (fun k => by pointwise [k0_pay1]) (fun k => by pointwise [k0_pay2]) (ld_state _ 3 1 _ rfl _)
  case piece3 =>
    obtain rfl : a = 3 := Fin.ext (by show a.val = 3; omega)
    obtain rfl : h = 0 := Fin.ext (by show h.val = 0; omega)
    refine (congrFun (show _ = rowsOut (k0_pay3 (View.ld (iblk m c 0 t) (Rect.unit ![3, 0, 0] ![1, 8, 128] inb_S4x8x512_S1x8x128_3_0_0))) (k0_pay3 (View.ld (iblk m c 1 t) (Rect.unit ![3, 0, 0] ![1, 8, 128] inb_S4x8x512_S1x8x128_3_0_0))) (k0_pay3 (View.ld (iblk m c 2 t) (Rect.unit ![3, 0, 0] ![1, 8, 128] inb_S4x8x512_S1x8x128_3_0_0))) (k0_pay3 (View.ld (iblk m c 3 t) (Rect.unit ![3, 0, 0] ![1, 8, 128] inb_S4x8x512_S1x8x128_3_0_0))) (extractStridedSlice S1x128 ![0, 0] (k0_pay1 (iblk m c 5 t)) slices_S1x512_o0_0_S1x128) (extractStridedSlice S1x128 ![0, 0] (k0_pay2 (iblk m c 6 t)) slices_S1x512_o0_0_S1x128) (k0_pay5 (View.ld (iblk m c 4 t) (Rect.unit ![0, 3, 0, 0, 0] ![1, 1, 1, 128, 128] inb_S1x4x4x128x128_S1x1x1x128x128_0_3_0_0_0))) from rfl) y).trans ?_
    exact rows_piece _ _ _ _ _ _ _ hL 3 0 r j y (by omega) (by omega) _ _ _ _ _ _ _ (ld_rows _ 3 0 _ rfl _) (ld_rows _ 3 0 _ rfl _) (ld_rows _ 3 0 _ rfl _) (ld_rows _ 3 0 _ rfl _) (fun k => by pointwise [k0_pay1]) (fun k => by pointwise [k0_pay2]) (ld_state _ 3 0 _ rfl _)
  case piece4 =>
    obtain rfl : a = 2 := Fin.ext (by show a.val = 2; omega)
    obtain rfl : h = 3 := Fin.ext (by show h.val = 3; omega)
    refine (congrFun (show _ = rowsOut (k0_pay3 (View.ld (iblk m c 0 t) (Rect.unit ![2, 0, 384] ![1, 8, 128] inb_S4x8x512_S1x8x128_2_0_384))) (k0_pay3 (View.ld (iblk m c 1 t) (Rect.unit ![2, 0, 384] ![1, 8, 128] inb_S4x8x512_S1x8x128_2_0_384))) (k0_pay3 (View.ld (iblk m c 2 t) (Rect.unit ![2, 0, 384] ![1, 8, 128] inb_S4x8x512_S1x8x128_2_0_384))) (k0_pay3 (View.ld (iblk m c 3 t) (Rect.unit ![2, 0, 384] ![1, 8, 128] inb_S4x8x512_S1x8x128_2_0_384))) (extractStridedSlice S1x128 ![0, 384] (k0_pay1 (iblk m c 5 t)) slices_S1x512_o0_384_S1x128) (extractStridedSlice S1x128 ![0, 384] (k0_pay2 (iblk m c 6 t)) slices_S1x512_o0_384_S1x128) (k0_pay5 (View.ld (iblk m c 4 t) (Rect.unit ![0, 2, 3, 0, 0] ![1, 1, 1, 128, 128] inb_S1x4x4x128x128_S1x1x1x128x128_0_2_3_0_0))) from rfl) y).trans ?_
    exact rows_piece _ _ _ _ _ _ _ hL 2 3 r j y (by omega) (by omega) _ _ _ _ _ _ _ (ld_rows _ 2 3 _ rfl _) (ld_rows _ 2 3 _ rfl _) (ld_rows _ 2 3 _ rfl _) (ld_rows _ 2 3 _ rfl _) (fun k => by pointwise [k0_pay1]) (fun k => by pointwise [k0_pay2]) (ld_state _ 2 3 _ rfl _)
  case piece5 =>
    obtain rfl : a = 2 := Fin.ext (by show a.val = 2; omega)
    obtain rfl : h = 2 := Fin.ext (by show h.val = 2; omega)
    refine (congrFun (show _ = rowsOut (k0_pay3 (View.ld (iblk m c 0 t) (Rect.unit ![2, 0, 256] ![1, 8, 128] inb_S4x8x512_S1x8x128_2_0_256))) (k0_pay3 (View.ld (iblk m c 1 t) (Rect.unit ![2, 0, 256] ![1, 8, 128] inb_S4x8x512_S1x8x128_2_0_256))) (k0_pay3 (View.ld (iblk m c 2 t) (Rect.unit ![2, 0, 256] ![1, 8, 128] inb_S4x8x512_S1x8x128_2_0_256))) (k0_pay3 (View.ld (iblk m c 3 t) (Rect.unit ![2, 0, 256] ![1, 8, 128] inb_S4x8x512_S1x8x128_2_0_256))) (extractStridedSlice S1x128 ![0, 256] (k0_pay1 (iblk m c 5 t)) slices_S1x512_o0_256_S1x128) (extractStridedSlice S1x128 ![0, 256] (k0_pay2 (iblk m c 6 t)) slices_S1x512_o0_256_S1x128) (k0_pay5 (View.ld (iblk m c 4 t) (Rect.unit ![0, 2, 2, 0, 0] ![1, 1, 1, 128, 128] inb_S1x4x4x128x128_S1x1x1x128x128_0_2_2_0_0))) from rfl) y).trans ?_
    exact rows_piece _ _ _ _ _ _ _ hL 2 2 r j y (by omega) (by omega) _ _ _ _ _ _ _ (ld_rows _ 2 2 _ rfl _) (ld_rows _ 2 2 _ rfl _) (ld_rows _ 2 2 _ rfl _) (ld_rows _ 2 2 _ rfl _) (fun k => by pointwise [k0_pay1]) (fun k => by pointwise [k0_pay2]) (ld_state _ 2 2 _ rfl _)
  case piece6 =>
    obtain rfl : a = 2 := Fin.ext (by show a.val = 2; omega)
    obtain rfl : h = 1 := Fin.ext (by show h.val = 1; omega)
    refine (congrFun (show _ = rowsOut (k0_pay3 (View.ld (iblk m c 0 t) (Rect.unit ![2, 0, 128] ![1, 8, 128] inb_S4x8x512_S1x8x128_2_0_128))) (k0_pay3 (View.ld (iblk m c 1 t) (Rect.unit ![2, 0, 128] ![1, 8, 128] inb_S4x8x512_S1x8x128_2_0_128))) (k0_pay3 (View.ld (iblk m c 2 t) (Rect.unit ![2, 0, 128] ![1, 8, 128] inb_S4x8x512_S1x8x128_2_0_128))) (k0_pay3 (View.ld (iblk m c 3 t) (Rect.unit ![2, 0, 128] ![1, 8, 128] inb_S4x8x512_S1x8x128_2_0_128))) (extractStridedSlice S1x128 ![0, 128] (k0_pay1 (iblk m c 5 t)) slices_S1x512_o0_128_S1x128) (extractStridedSlice S1x128 ![0, 128] (k0_pay2 (iblk m c 6 t)) slices_S1x512_o0_128_S1x128) (k0_pay5 (View.ld (iblk m c 4 t) (Rect.unit ![0, 2, 1, 0, 0] ![1, 1, 1, 128, 128] inb_S1x4x4x128x128_S1x1x1x128x128_0_2_1_0_0))) from rfl) y).trans ?_
    exact rows_piece _ _ _ _ _ _ _ hL 2 1 r j y (by omega) (by omega) _ _ _ _ _ _ _ (ld_rows _ 2 1 _ rfl _) (ld_rows _ 2 1 _ rfl _) (ld_rows _ 2 1 _ rfl _) (ld_rows _ 2 1 _ rfl _) (fun k => by pointwise [k0_pay1]) (fun k => by pointwise [k0_pay2]) (ld_state _ 2 1 _ rfl _)
  case piece7 =>
    obtain rfl : a = 2 := Fin.ext (by show a.val = 2; omega)
    obtain rfl : h = 0 := Fin.ext (by show h.val = 0; omega)
    refine (congrFun (show _ = rowsOut (k0_pay3 (View.ld (iblk m c 0 t) (Rect.unit ![2, 0, 0] ![1, 8, 128] inb_S4x8x512_S1x8x128_2_0_0))) (k0_pay3 (View.ld (iblk m c 1 t) (Rect.unit ![2, 0, 0] ![1, 8, 128] inb_S4x8x512_S1x8x128_2_0_0))) (k0_pay3 (View.ld (iblk m c 2 t) (Rect.unit ![2, 0, 0] ![1, 8, 128] inb_S4x8x512_S1x8x128_2_0_0))) (k0_pay3 (View.ld (iblk m c 3 t) (Rect.unit ![2, 0, 0] ![1, 8, 128] inb_S4x8x512_S1x8x128_2_0_0))) (extractStridedSlice S1x128 ![0, 0] (k0_pay1 (iblk m c 5 t)) slices_S1x512_o0_0_S1x128) (extractStridedSlice S1x128 ![0, 0] (k0_pay2 (iblk m c 6 t)) slices_S1x512_o0_0_S1x128) (k0_pay5 (View.ld (iblk m c 4 t) (Rect.unit ![0, 2, 0, 0, 0] ![1, 1, 1, 128, 128] inb_S1x4x4x128x128_S1x1x1x128x128_0_2_0_0_0))) from rfl) y).trans ?_
    exact rows_piece _ _ _ _ _ _ _ hL 2 0 r j y (by omega) (by omega) _ _ _ _ _ _ _ (ld_rows _ 2 0 _ rfl _) (ld_rows _ 2 0 _ rfl _) (ld_rows _ 2 0 _ rfl _) (ld_rows _ 2 0 _ rfl _) (fun k => by pointwise [k0_pay1]) (fun k => by pointwise [k0_pay2]) (ld_state _ 2 0 _ rfl _)
  case piece8 =>
    obtain rfl : a = 1 := Fin.ext (by show a.val = 1; omega)
    obtain rfl : h = 3 := Fin.ext (by show h.val = 3; omega)
    refine (congrFun (show _ = rowsOut (k0_pay3 (View.ld (iblk m c 0 t) (Rect.unit ![1, 0, 384] ![1, 8, 128] inb_S4x8x512_S1x8x128_1_0_384))) (k0_pay3 (View.ld (iblk m c 1 t) (Rect.unit ![1, 0, 384] ![1, 8, 128] inb_S4x8x512_S1x8x128_1_0_384))) (k0_pay3 (View.ld (iblk m c 2 t) (Rect.unit ![1, 0, 384] ![1, 8, 128] inb_S4x8x512_S1x8x128_1_0_384))) (k0_pay3 (View.ld (iblk m c 3 t) (Rect.unit ![1, 0, 384] ![1, 8, 128] inb_S4x8x512_S1x8x128_1_0_384))) (extractStridedSlice S1x128 ![0, 384] (k0_pay1 (iblk m c 5 t)) slices_S1x512_o0_384_S1x128) (extractStridedSlice S1x128 ![0, 384] (k0_pay2 (iblk m c 6 t)) slices_S1x512_o0_384_S1x128) (k0_pay5 (View.ld (iblk m c 4 t) (Rect.unit ![0, 1, 3, 0, 0] ![1, 1, 1, 128, 128] inb_S1x4x4x128x128_S1x1x1x128x128_0_1_3_0_0))) from rfl) y).trans ?_
    exact rows_piece _ _ _ _ _ _ _ hL 1 3 r j y (by omega) (by omega) _ _ _ _ _ _ _ (ld_rows _ 1 3 _ rfl _) (ld_rows _ 1 3 _ rfl _) (ld_rows _ 1 3 _ rfl _) (ld_rows _ 1 3 _ rfl _) (fun k => by pointwise [k0_pay1]) (fun k => by pointwise [k0_pay2]) (ld_state _ 1 3 _ rfl _)
  case piece9 =>
    obtain rfl : a = 1 := Fin.ext (by show a.val = 1; omega)
    obtain rfl : h = 2 := Fin.ext (by show h.val = 2; omega)
    refine (congrFun (show _ = rowsOut (k0_pay3 (View.ld (iblk m c 0 t) (Rect.unit ![1, 0, 256] ![1, 8, 128] inb_S4x8x512_S1x8x128_1_0_256))) (k0_pay3 (View.ld (iblk m c 1 t) (Rect.unit ![1, 0, 256] ![1, 8, 128] inb_S4x8x512_S1x8x128_1_0_256))) (k0_pay3 (View.ld (iblk m c 2 t) (Rect.unit ![1, 0, 256] ![1, 8, 128] inb_S4x8x512_S1x8x128_1_0_256))) (k0_pay3 (View.ld (iblk m c 3 t) (Rect.unit ![1, 0, 256] ![1, 8, 128] inb_S4x8x512_S1x8x128_1_0_256))) (extractStridedSlice S1x128 ![0, 256] (k0_pay1 (iblk m c 5 t)) slices_S1x512_o0_256_S1x128) (extractStridedSlice S1x128 ![0, 256] (k0_pay2 (iblk m c 6 t)) slices_S1x512_o0_256_S1x128) (k0_pay5 (View.ld (iblk m c 4 t) (Rect.unit ![0, 1, 2, 0, 0] ![1, 1, 1, 128, 128] inb_S1x4x4x128x128_S1x1x1x128x128_0_1_2_0_0))) from rfl) y).trans ?_
    exact rows_piece _ _ _ _ _ _ _ hL 1 2 r j y (by omega) (by omega) _ _ _ _ _ _ _ (ld_rows _ 1 2 _ rfl _) (ld_rows _ 1 2 _ rfl _) (ld_rows _ 1 2 _ rfl _) (ld_rows _ 1 2 _ rfl _) (fun k => by pointwise [k0_pay1]) (fun k => by pointwise [k0_pay2]) (ld_state _ 1 2 _ rfl _)
  case piece10 =>
    obtain rfl : a = 1 := Fin.ext (by show a.val = 1; omega)
    obtain rfl : h = 1 := Fin.ext (by show h.val = 1; omega)
    refine (congrFun (show _ = rowsOut (k0_pay3 (View.ld (iblk m c 0 t) (Rect.unit ![1, 0, 128] ![1, 8, 128] inb_S4x8x512_S1x8x128_1_0_128))) (k0_pay3 (View.ld (iblk m c 1 t) (Rect.unit ![1, 0, 128] ![1, 8, 128] inb_S4x8x512_S1x8x128_1_0_128))) (k0_pay3 (View.ld (iblk m c 2 t) (Rect.unit ![1, 0, 128] ![1, 8, 128] inb_S4x8x512_S1x8x128_1_0_128))) (k0_pay3 (View.ld (iblk m c 3 t) (Rect.unit ![1, 0, 128] ![1, 8, 128] inb_S4x8x512_S1x8x128_1_0_128))) (extractStridedSlice S1x128 ![0, 128] (k0_pay1 (iblk m c 5 t)) slices_S1x512_o0_128_S1x128) (extractStridedSlice S1x128 ![0, 128] (k0_pay2 (iblk m c 6 t)) slices_S1x512_o0_128_S1x128) (k0_pay5 (View.ld (iblk m c 4 t) (Rect.unit ![0, 1, 1, 0, 0] ![1, 1, 1, 128, 128] inb_S1x4x4x128x128_S1x1x1x128x128_0_1_1_0_0))) from rfl) y).trans ?_
    exact rows_piece _ _ _ _ _ _ _ hL 1 1 r j y (by omega) (by omega) _ _ _ _ _ _ _ (ld_rows _ 1 1 _ rfl _) (ld_rows _ 1 1 _ rfl _) (ld_rows _ 1 1 _ rfl _) (ld_rows _ 1 1 _ rfl _) (fun k => by pointwise [k0_pay1]) (fun k => by pointwise [k0_pay2]) (ld_state _ 1 1 _ rfl _)
  case piece11 =>
    obtain rfl : a = 1 := Fin.ext (by show a.val = 1; omega)
    obtain rfl : h = 0 := Fin.ext (by show h.val = 0; omega)
    refine (congrFun (show _ = rowsOut (k0_pay3 (View.ld (iblk m c 0 t) (Rect.unit ![1, 0, 0] ![1, 8, 128] inb_S4x8x512_S1x8x128_1_0_0))) (k0_pay3 (View.ld (iblk m c 1 t) (Rect.unit ![1, 0, 0] ![1, 8, 128] inb_S4x8x512_S1x8x128_1_0_0))) (k0_pay3 (View.ld (iblk m c 2 t) (Rect.unit ![1, 0, 0] ![1, 8, 128] inb_S4x8x512_S1x8x128_1_0_0))) (k0_pay3 (View.ld (iblk m c 3 t) (Rect.unit ![1, 0, 0] ![1, 8, 128] inb_S4x8x512_S1x8x128_1_0_0))) (extractStridedSlice S1x128 ![0, 0] (k0_pay1 (iblk m c 5 t)) slices_S1x512_o0_0_S1x128) (extractStridedSlice S1x128 ![0, 0] (k0_pay2 (iblk m c 6 t)) slices_S1x512_o0_0_S1x128) (k0_pay5 (View.ld (iblk m c 4 t) (Rect.unit ![0, 1, 0, 0, 0] ![1, 1, 1, 128, 128] inb_S1x4x4x128x128_S1x1x1x128x128_0_1_0_0_0))) from rfl) y).trans ?_
    exact rows_piece _ _ _ _ _ _ _ hL 1 0 r j y (by omega) (by omega) _ _ _ _ _ _ _ (ld_rows _ 1 0 _ rfl _) (ld_rows _ 1 0 _ rfl _) (ld_rows _ 1 0 _ rfl _) (ld_rows _ 1 0 _ rfl _) (fun k => by pointwise [k0_pay1]) (fun k => by pointwise [k0_pay2]) (ld_state _ 1 0 _ rfl _)
  case piece12 =>
    obtain rfl : a = 0 := Fin.ext (by show a.val = 0; omega)
    obtain rfl : h = 3 := Fin.ext (by show h.val = 3; omega)
    refine (congrFun (show _ = rowsOut (k0_pay3 (View.ld (iblk m c 0 t) (Rect.unit ![0, 0, 384] ![1, 8, 128] inb_S4x8x512_S1x8x128_0_0_384))) (k0_pay3 (View.ld (iblk m c 1 t) (Rect.unit ![0, 0, 384] ![1, 8, 128] inb_S4x8x512_S1x8x128_0_0_384))) (k0_pay3 (View.ld (iblk m c 2 t) (Rect.unit ![0, 0, 384] ![1, 8, 128] inb_S4x8x512_S1x8x128_0_0_384))) (k0_pay3 (View.ld (iblk m c 3 t) (Rect.unit ![0, 0, 384] ![1, 8, 128] inb_S4x8x512_S1x8x128_0_0_384))) (extractStridedSlice S1x128 ![0, 384] (k0_pay1 (iblk m c 5 t)) slices_S1x512_o0_384_S1x128) (extractStridedSlice S1x128 ![0, 384] (k0_pay2 (iblk m c 6 t)) slices_S1x512_o0_384_S1x128) (k0_pay5 (View.ld (iblk m c 4 t) (Rect.unit ![0, 0, 3, 0, 0] ![1, 1, 1, 128, 128] inb_S1x4x4x128x128_S1x1x1x128x128_0_0_3_0_0))) from rfl) y).trans ?_
    exact rows_piece _ _ _ _ _ _ _ hL 0 3 r j y (by omega) (by omega) _ _ _ _ _ _ _ (ld_rows _ 0 3 _ rfl _) (ld_rows _ 0 3 _ rfl _) (ld_rows _ 0 3 _ rfl _) (ld_rows _ 0 3 _ rfl _) (fun k => by pointwise [k0_pay1]) (fun k => by pointwise [k0_pay2]) (ld_state _ 0 3 _ rfl _)
  case piece13 =>
    obtain rfl : a = 0 := Fin.ext (by show a.val = 0; omega)
    obtain rfl : h = 2 := Fin.ext (by show h.val = 2; omega)
    refine (congrFun (show _ = rowsOut (k0_pay3 (View.ld (iblk m c 0 t) (Rect.unit ![0, 0, 256] ![1, 8, 128] inb_S4x8x512_S1x8x128_0_0_256))) (k0_pay3 (View.ld (iblk m c 1 t) (Rect.unit ![0, 0, 256] ![1, 8, 128] inb_S4x8x512_S1x8x128_0_0_256))) (k0_pay3 (View.ld (iblk m c 2 t) (Rect.unit ![0, 0, 256] ![1, 8, 128] inb_S4x8x512_S1x8x128_0_0_256))) (k0_pay3 (View.ld (iblk m c 3 t) (Rect.unit ![0, 0, 256] ![1, 8, 128] inb_S4x8x512_S1x8x128_0_0_256))) (extractStridedSlice S1x128 ![0, 256] (k0_pay1 (iblk m c 5 t)) slices_S1x512_o0_256_S1x128) (extractStridedSlice S1x128 ![0, 256] (k0_pay2 (iblk m c 6 t)) slices_S1x512_o0_256_S1x128) (k0_pay5 (View.ld (iblk m c 4 t) (Rect.unit ![0, 0, 2, 0, 0] ![1, 1, 1, 128, 128] inb_S1x4x4x128x128_S1x1x1x128x128_0_0_2_0_0))) from rfl) y).trans ?_
    exact rows_piece _ _ _ _ _ _ _ hL 0 2 r j y (by omega) (by omega) _ _ _ _ _ _ _ (ld_rows _ 0 2 _ rfl _) (ld_rows _ 0 2 _ rfl _) (ld_rows _ 0 2 _ rfl _) (ld_rows _ 0 2 _ rfl _) (fun k => by pointwise [k0_pay1]) (fun k => by pointwise [k0_pay2]) (ld_state _ 0 2 _ rfl _)
  case piece14 =>
    obtain rfl : a = 0 := Fin.ext (by show a.val = 0; omega)
    obtain rfl : h = 1 := Fin.ext (by show h.val = 1; omega)
    refine (congrFun (show _ = rowsOut (k0_pay3 (View.ld (iblk m c 0 t) (Rect.unit ![0, 0, 128] ![1, 8, 128] inb_S4x8x512_S1x8x128_0_0_128))) (k0_pay3 (View.ld (iblk m c 1 t) (Rect.unit ![0, 0, 128] ![1, 8, 128] inb_S4x8x512_S1x8x128_0_0_128))) (k0_pay3 (View.ld (iblk m c 2 t) (Rect.unit ![0, 0, 128] ![1, 8, 128] inb_S4x8x512_S1x8x128_0_0_128))) (k0_pay3 (View.ld (iblk m c 3 t) (Rect.unit ![0, 0, 128] ![1, 8, 128] inb_S4x8x512_S1x8x128_0_0_128))) (extractStridedSlice S1x128 ![0, 128] (k0_pay1 (iblk m c 5 t)) slices_S1x512_o0_128_S1x128) (extractStridedSlice S1x128 ![0, 128] (k0_pay2 (iblk m c 6 t)) slices_S1x512_o0_128_S1x128) (k0_pay5 (View.ld (iblk m c 4 t) (Rect.unit ![0, 0, 1, 0, 0] ![1, 1, 1, 128, 128] inb_S1x4x4x128x128_S1x1x1x128x128_0_0_1_0_0))) from rfl) y).trans ?_
    exact rows_piece _ _ _ _ _ _ _ hL 0 1 r j y (by omega) (by omega) _ _ _ _ _ _ _ (ld_rows _ 0 1 _ rfl _) (ld_rows _ 0 1 _ rfl _) (ld_rows _ 0 1 _ rfl _) (ld_rows _ 0 1 _ rfl _) (fun k => by pointwise [k0_pay1]) (fun k => by pointwise [k0_pay2]) (ld_state _ 0 1 _ rfl _)
  case piece15 =>
    obtain rfl : a = 0 := Fin.ext (by show a.val = 0; omega)
    obtain rfl : h = 0 := Fin.ext (by show h.val = 0; omega)
    refine (congrFun (show _ = rowsOut (k0_pay3 (View.ld (iblk m c 0 t) (Rect.unit ![0, 0, 0] ![1, 8, 128] inb_S4x8x512_S1x8x128_0_0_0))) (k0_pay3 (View.ld (iblk m c 1 t) (Rect.unit ![0, 0, 0] ![1, 8, 128] inb_S4x8x512_S1x8x128_0_0_0))) (k0_pay3 (View.ld (iblk m c 2 t) (Rect.unit ![0, 0, 0] ![1, 8, 128] inb_S4x8x512_S1x8x128_0_0_0))) (k0_pay3 (View.ld (iblk m c 3 t) (Rect.unit ![0, 0, 0] ![1, 8, 128] inb_S4x8x512_S1x8x128_0_0_0))) (extractStridedSlice S1x128 ![0, 0] (k0_pay1 (iblk m c 5 t)) slices_S1x512_o0_0_S1x128) (extractStridedSlice S1x128 ![0, 0] (k0_pay2 (iblk m c 6 t)) slices_S1x512_o0_0_S1x128) (k0_pay5 (View.ld (iblk m c 4 t) (Rect.unit ![0, 0, 0, 0, 0] ![1, 1, 1, 128, 128] inb_S1x4x4x128x128_S1x1x1x128x128_0_0_0_0_0))) from rfl) y).trans ?_
    exact rows_piece _ _ _ _ _ _ _ hL 0 0 r j y (by omega) (by omega) _ _ _ _ _ _ _ (ld_rows _ 0 0 _ rfl _) (ld_rows _ 0 0 _ rfl _) (ld_rows _ 0 0 _ rfl _) (ld_rows _ 0 0 _ rfl _) (fun k => by pointwise [k0_pay1]) (fun k => by pointwise [k0_pay2]) (ld_state _ 0 0 _ rfl _)

set_option maxHeartbeats 2000000 in
/-- The block of states. -/
theorem states_out (c : Dev nD) (t : Fin cfg0.N) (hL : inUnit (iblk m c 5 t))
    (a h : Fin 4) (k j : Fin 128) (y : S1x4x4x128x128.Idx) (y1 : (y 1).val = a.val) (y2 : (y 2).val = h.val) (y3 : (y 3).val = k.val) (y4 : (y 4).val = j.val) :
    (outsAt0 m c t).2 y = stB (iblk m c 1 t) (iblk m c 2 t) (iblk m c 4 t) (iblk m c 5 t) a h k j := by
  unfold outsAt0
  frame_out
  canon_tiles y hh
  case piece0 =>
    obtain rfl : a = 3 := Fin.ext (by show a.val = 3; omega)
    obtain rfl : h = 3 := Fin.ext (by show h.val = 3; omega)
    refine (congrFun (show _ = stateOut (k0_pay3 (View.ld (iblk m c 1 t) (Rect.unit ![3, 0, 384] ![1, 8, 128] inb_S4x8x512_S1x8x128_3_0_384))) (k0_pay3 (View.ld (iblk m c 2 t) (Rect.unit ![3, 0, 384] ![1, 8, 128] inb_S4x8x512_S1x8x128_3_0_384))) (extractStridedSlice S1x128 ![0, 384] (k0_pay1 (iblk m c 5 t)) slices_S1x512_o0_384_S1x128) (k0_pay5 (View.ld (iblk m c 4 t) (Rect.unit ![0, 3, 3, 0, 0] ![1, 1, 1, 128, 128] inb_S1x4x4x128x128_S1x1x1x128x128_0_3_3_0_0))) from rfl) y).trans ?_
    exact state_piece _ _ _ _ hL 3 3 k j y (by omega) (by omega) _ _ _ _ (ld_rows _ 3 3 _ rfl _) (ld_rows _ 3 3 _ rfl _) (fun k => by pointwise [k0_pay1]) (ld_state _ 3 3 _ rfl _)
  case piece1 =>
    obtain rfl : a = 3 := Fin.ext (by show a.val = 3; omega)
    obtain rfl : h = 2 := Fin.ext (by show h.val = 2; omega)
    refine (congrFun (show _ = stateOut (k0_pay3 (View.ld (iblk m c 1 t) (Rect.unit ![3, 0, 256] ![1, 8, 128] inb_S4x8x512_S1x8x128_3_0_256))) (k0_pay3 (View.ld (iblk m c 2 t) (Rect.unit ![3, 0, 256] ![1, 8, 128] inb_S4x8x512_S1x8x128_3_0_256))) (extractStridedSlice S1x128 ![0, 256] (k0_pay1 (iblk m c 5 t)) slices_S1x512_o0_256_S1x128) (k0_pay5 (View.ld (iblk m c 4 t) (Rect.unit ![0, 3, 2, 0, 0] ![1, 1, 1, 128, 128] inb_S1x4x4x128x128_S1x1x1x128x128_0_3_2_0_0))) from rfl) y).trans ?_
    exact state_piece _ _ _ _ hL 3 2 k j y (by omega) (by omega) _ _ _ _ (ld_rows _ 3 2 _ rfl _) (ld_rows _ 3 2 _ rfl _) (fun k => by pointwise [k0_pay1]) (ld_state _ 3 2 _ rfl _)
  case piece2 =>
    obtain rfl : a = 3 := Fin.ext (by show a.val = 3; omega)
    obtain rfl : h = 1 := Fin.ext (by show h.val = 1; omega)
    refine (congrFun (show _ = stateOut (k0_pay3 (View.ld (iblk m c 1 t) (Rect.unit ![3, 0, 128] ![1, 8, 128] inb_S4x8x512_S1x8x128_3_0_128))) (k0_pay3 (View.ld (iblk m c 2 t) (Rect.unit ![3, 0, 128] ![1, 8, 128] inb_S4x8x512_S1x8x128_3_0_128))) (extractStridedSlice S1x128 ![0, 128] (k0_pay1 (iblk m c 5 t)) slices_S1x512_o0_128_S1x128) (k0_pay5 (View.ld (iblk m c 4 t) (Rect.unit ![0, 3, 1, 0, 0] ![1, 1, 1, 128, 128] inb_S1x4x4x128x128_S1x1x1x128x128_0_3_1_0_0))) from rfl) y).trans ?_
    exact state_piece _ _ _ _ hL 3 1 k j y (by omega) (by omega) _ _ _ _ (ld_rows _ 3 1 _ rfl _) (ld_rows _ 3 1 _ rfl _) (fun k => by pointwise [k0_pay1]) (ld_state _ 3 1 _ rfl _)
  case piece3 =>
    obtain rfl : a = 3 := Fin.ext (by show a.val = 3; omega)
    obtain rfl : h = 0 := Fin.ext (by show h.val = 0; omega)
    refine (congrFun (show _ = stateOut (k0_pay3 (View.ld (iblk m c 1 t) (Rect.unit ![3, 0, 0] ![1, 8, 128] inb_S4x8x512_S1x8x128_3_0_0))) (k0_pay3 (View.ld (iblk m c 2 t) (Rect.unit ![3, 0, 0] ![1, 8, 128] inb_S4x8x512_S1x8x128_3_0_0))) (extractStridedSlice S1x128 ![0, 0] (k0_pay1 (iblk m c 5 t)) slices_S1x512_o0_0_S1x128) (k0_pay5 (View.ld (iblk m c 4 t) (Rect.unit ![0, 3, 0, 0, 0] ![1, 1, 1, 128, 128] inb_S1x4x4x128x128_S1x1x1x128x128_0_3_0_0_0))) from rfl) y).trans ?_
    exact state_piece _ _ _ _ hL 3 0 k j y (by omega) (by omega) _ _ _ _ (ld_rows _ 3 0 _ rfl _) (ld_rows _ 3 0 _ rfl _) (fun k => by pointwise [k0_pay1]) (ld_state _ 3 0 _ rfl _)
  case piece4 =>
    obtain rfl : a = 2 := Fin.ext (by show a.val = 2; omega)
    obtain rfl : h = 3 := Fin.ext (by show h.val = 3; omega)
    refine (congrFun (show _ = stateOut (k0_pay3 (View.ld (iblk m c 1 t) (Rect.unit ![2, 0, 384] ![1, 8, 128] inb_S4x8x512_S1x8x128_2_0_384))) (k0_pay3 (View.ld (iblk m c 2 t) (Rect.unit ![2, 0, 384] ![1, 8, 128] inb_S4x8x512_S1x8x128_2_0_384))) (extractStridedSlice S1x128 ![0, 384] (k0_pay1 (iblk m c 5 t)) slices_S1x512_o0_384_S1x128) (k0_pay5 (View.ld (iblk m c 4 t) (Rect.unit ![0, 2, 3, 0, 0] ![1, 1, 1, 128, 128] inb_S1x4x4x128x128_S1x1x1x128x128_0_2_3_0_0))) from rfl) y).trans ?_
    exact state_piece _ _ _ _ hL 2 3 k j y (by omega) (by omega) _ _ _ _ (ld_rows _ 2 3 _ rfl _) (ld_rows _ 2 3 _ rfl _) (fun k => by pointwise [k0_pay1]) (ld_state _ 2 3 _ rfl _)
  case piece5 =>
    obtain rfl : a = 2 := Fin.ext (by show a.val = 2; omega)
    obtain rfl : h = 2 := Fin.ext (by show h.val = 2; omega)
    refine (congrFun (show _ = stateOut (k0_pay3 (View.ld (iblk m c 1 t) (Rect.unit ![2, 0, 256] ![1, 8, 128] inb_S4x8x512_S1x8x128_2_0_256))) (k0_pay3 (View.ld (iblk m c 2 t) (Rect.unit ![2, 0, 256] ![1, 8, 128] inb_S4x8x512_S1x8x128_2_0_256))) (extractStridedSlice S1x128 ![0, 256] (k0_pay1 (iblk m c 5 t)) slices_S1x512_o0_256_S1x128) (k0_pay5 (View.ld (iblk m c 4 t) (Rect.unit ![0, 2, 2, 0, 0] ![1, 1, 1, 128, 128] inb_S1x4x4x128x128_S1x1x1x128x128_0_2_2_0_0))) from rfl) y).trans ?_
    exact state_piece _ _ _ _ hL 2 2 k j y (by omega) (by omega) _ _ _ _ (ld_rows _ 2 2 _ rfl _) (ld_rows _ 2 2 _ rfl _) (fun k => by pointwise [k0_pay1]) (ld_state _ 2 2 _ rfl _)
  case piece6 =>
    obtain rfl : a = 2 := Fin.ext (by show a.val = 2; omega)
    obtain rfl : h = 1 := Fin.ext (by show h.val = 1; omega)
    refine (congrFun (show _ = stateOut (k0_pay3 (View.ld (iblk m c 1 t) (Rect.unit ![2, 0, 128] ![1, 8, 128] inb_S4x8x512_S1x8x128_2_0_128))) (k0_pay3 (View.ld (iblk m c 2 t) (Rect.unit ![2, 0, 128] ![1, 8, 128] inb_S4x8x512_S1x8x128_2_0_128))) (extractStridedSlice S1x128 ![0, 128] (k0_pay1 (iblk m c 5 t)) slices_S1x512_o0_128_S1x128) (k0_pay5 (View.ld (iblk m c 4 t) (Rect.unit ![0, 2, 1, 0, 0] ![1, 1, 1, 128, 128] inb_S1x4x4x128x128_S1x1x1x128x128_0_2_1_0_0))) from rfl) y).trans ?_
    exact state_piece _ _ _ _ hL 2 1 k j y (by omega) (by omega) _ _ _ _ (ld_rows _ 2 1 _ rfl _) (ld_rows _ 2 1 _ rfl _) (fun k => by pointwise [k0_pay1]) (ld_state _ 2 1 _ rfl _)
  case piece7 =>
    obtain rfl : a = 2 := Fin.ext (by show a.val = 2; omega)
    obtain rfl : h = 0 := Fin.ext (by show h.val = 0; omega)
    refine (congrFun (show _ = stateOut (k0_pay3 (View.ld (iblk m c 1 t) (Rect.unit ![2, 0, 0] ![1, 8, 128] inb_S4x8x512_S1x8x128_2_0_0))) (k0_pay3 (View.ld (iblk m c 2 t) (Rect.unit ![2, 0, 0] ![1, 8, 128] inb_S4x8x512_S1x8x128_2_0_0))) (extractStridedSlice S1x128 ![0, 0] (k0_pay1 (iblk m c 5 t)) slices_S1x512_o0_0_S1x128) (k0_pay5 (View.ld (iblk m c 4 t) (Rect.unit ![0, 2, 0, 0, 0] ![1, 1, 1, 128, 128] inb_S1x4x4x128x128_S1x1x1x128x128_0_2_0_0_0))) from rfl) y).trans ?_
    exact state_piece _ _ _ _ hL 2 0 k j y (by omega) (by omega) _ _ _ _ (ld_rows _ 2 0 _ rfl _) (ld_rows _ 2 0 _ rfl _) (fun k => by pointwise [k0_pay1]) (ld_state _ 2 0 _ rfl _)
  case piece8 =>
    obtain rfl : a = 1 := Fin.ext (by show a.val = 1; omega)
    obtain rfl : h = 3 := Fin.ext (by show h.val = 3; omega)
    refine (congrFun (show _ = stateOut (k0_pay3 (View.ld (iblk m c 1 t) (Rect.unit ![1, 0, 384] ![1, 8, 128] inb_S4x8x512_S1x8x128_1_0_384))) (k0_pay3 (View.ld (iblk m c 2 t) (Rect.unit ![1, 0, 384] ![1, 8, 128] inb_S4x8x512_S1x8x128_1_0_384))) (extractStridedSlice S1x128 ![0, 384] (k0_pay1 (iblk m c 5 t)) slices_S1x512_o0_384_S1x128) (k0_pay5 (View.ld (iblk m c 4 t) (Rect.unit ![0, 1, 3, 0, 0] ![1, 1, 1, 128, 128] inb_S1x4x4x128x128_S1x1x1x128x128_0_1_3_0_0))) from rfl) y).trans ?_
    exact state_piece _ _ _ _ hL 1 3 k j y (by omega) (by omega) _ _ _ _ (ld_rows _ 1 3 _ rfl _) (ld_rows _ 1 3 _ rfl _) (fun k => by pointwise [k0_pay1]) (ld_state _ 1 3 _ rfl _)
  case piece9 =>
    obtain rfl : a = 1 := Fin.ext (by show a.val = 1; omega)
    obtain rfl : h = 2 := Fin.ext (by show h.val = 2; omega)
    refine (congrFun (show _ = stateOut (k0_pay3 (View.ld (iblk m c 1 t) (Rect.unit ![1, 0, 256] ![1, 8, 128] inb_S4x8x512_S1x8x128_1_0_256))) (k0_pay3 (View.ld (iblk m c 2 t) (Rect.unit ![1, 0, 256] ![1, 8, 128] inb_S4x8x512_S1x8x128_1_0_256))) (extractStridedSlice S1x128 ![0, 256] (k0_pay1 (iblk m c 5 t)) slices_S1x512_o0_256_S1x128) (k0_pay5 (View.ld (iblk m c 4 t) (Rect.unit ![0, 1, 2, 0, 0] ![1, 1, 1, 128, 128] inb_S1x4x4x128x128_S1x1x1x128x128_0_1_2_0_0))) from rfl) y).trans ?_
    exact state_piece _ _ _ _ hL 1 2 k j y (by omega) (by omega) _ _ _ _ (ld_rows _ 1 2 _ rfl _) (ld_rows _ 1 2 _ rfl _) (fun k => by pointwise [k0_pay1]) (ld_state _ 1 2 _ rfl _)
  case piece10 =>
    obtain rfl : a = 1 := Fin.ext (by show a.val = 1; omega)
    obtain rfl : h = 1 := Fin.ext (by show h.val = 1; omega)
    refine (congrFun (show _ = stateOut (k0_pay3 (View.ld (iblk m c 1 t) (Rect.unit ![1, 0, 128] ![1, 8, 128] inb_S4x8x512_S1x8x128_1_0_128))) (k0_pay3 (View.ld (iblk m c 2 t) (Rect.unit ![1, 0, 128] ![1, 8, 128] inb_S4x8x512_S1x8x128_1_0_128))) (extractStridedSlice S1x128 ![0, 128] (k0_pay1 (iblk m c 5 t)) slices_S1x512_o0_128_S1x128) (k0_pay5 (View.ld (iblk m c 4 t) (Rect.unit ![0, 1, 1, 0, 0] ![1, 1, 1, 128, 128] inb_S1x4x4x128x128_S1x1x1x128x128_0_1_1_0_0))) from rfl) y).trans ?_
    exact state_piece _ _ _ _ hL 1 1 k j y (by omega) (by omega) _ _ _ _ (ld_rows _ 1 1 _ rfl _) (ld_rows _ 1 1 _ rfl _) (fun k => by pointwise [k0_pay1]) (ld_state _ 1 1 _ rfl _)
  case piece11 =>
    obtain rfl : a = 1 := Fin.ext (by show a.val = 1; omega)
    obtain rfl : h = 0 := Fin.ext (by show h.val = 0; omega)
    refine (congrFun (show _ = stateOut (k0_pay3 (View.ld (iblk m c 1 t) (Rect.unit ![1, 0, 0] ![1, 8, 128] inb_S4x8x512_S1x8x128_1_0_0))) (k0_pay3 (View.ld (iblk m c 2 t) (Rect.unit ![1, 0, 0] ![1, 8, 128] inb_S4x8x512_S1x8x128_1_0_0))) (extractStridedSlice S1x128 ![0, 0] (k0_pay1 (iblk m c 5 t)) slices_S1x512_o0_0_S1x128) (k0_pay5 (View.ld (iblk m c 4 t) (Rect.unit ![0, 1, 0, 0, 0] ![1, 1, 1, 128, 128] inb_S1x4x4x128x128_S1x1x1x128x128_0_1_0_0_0))) from rfl) y).trans ?_
    exact state_piece _ _ _ _ hL 1 0 k j y (by omega) (by omega) _ _ _ _ (ld_rows _ 1 0 _ rfl _) (ld_rows _ 1 0 _ rfl _) (fun k => by pointwise [k0_pay1]) (ld_state _ 1 0 _ rfl _)
  case piece12 =>
    obtain rfl : a = 0 := Fin.ext (by show a.val = 0; omega)
    obtain rfl : h = 3 := Fin.ext (by show h.val = 3; omega)
    refine (congrFun (show _ = stateOut (k0_pay3 (View.ld (iblk m c 1 t) (Rect.unit ![0, 0, 384] ![1, 8, 128] inb_S4x8x512_S1x8x128_0_0_384))) (k0_pay3 (View.ld (iblk m c 2 t) (Rect.unit ![0, 0, 384] ![1, 8, 128] inb_S4x8x512_S1x8x128_0_0_384))) (extractStridedSlice S1x128 ![0, 384] (k0_pay1 (iblk m c 5 t)) slices_S1x512_o0_384_S1x128) (k0_pay5 (View.ld (iblk m c 4 t) (Rect.unit ![0, 0, 3, 0, 0] ![1, 1, 1, 128, 128] inb_S1x4x4x128x128_S1x1x1x128x128_0_0_3_0_0))) from rfl) y).trans ?_
    exact state_piece _ _ _ _ hL 0 3 k j y (by omega) (by omega) _ _ _ _ (ld_rows _ 0 3 _ rfl _) (ld_rows _ 0 3 _ rfl _) (fun k => by pointwise [k0_pay1]) (ld_state _ 0 3 _ rfl _)
  case piece13 =>
    obtain rfl : a = 0 := Fin.ext (by show a.val = 0; omega)
    obtain rfl : h = 2 := Fin.ext (by show h.val = 2; omega)
    refine (congrFun (show _ = stateOut (k0_pay3 (View.ld (iblk m c 1 t) (Rect.unit ![0, 0, 256] ![1, 8, 128] inb_S4x8x512_S1x8x128_0_0_256))) (k0_pay3 (View.ld (iblk m c 2 t) (Rect.unit ![0, 0, 256] ![1, 8, 128] inb_S4x8x512_S1x8x128_0_0_256))) (extractStridedSlice S1x128 ![0, 256] (k0_pay1 (iblk m c 5 t)) slices_S1x512_o0_256_S1x128) (k0_pay5 (View.ld (iblk m c 4 t) (Rect.unit ![0, 0, 2, 0, 0] ![1, 1, 1, 128, 128] inb_S1x4x4x128x128_S1x1x1x128x128_0_0_2_0_0))) from rfl) y).trans ?_
    exact state_piece _ _ _ _ hL 0 2 k j y (by omega) (by omega) _ _ _ _ (ld_rows _ 0 2 _ rfl _) (ld_rows _ 0 2 _ rfl _) (fun k => by pointwise [k0_pay1]) (ld_state _ 0 2 _ rfl _)
  case piece14 =>
    obtain rfl : a = 0 := Fin.ext (by show a.val = 0; omega)
    obtain rfl : h = 1 := Fin.ext (by show h.val = 1; omega)
    refine (congrFun (show _ = stateOut (k0_pay3 (View.ld (iblk m c 1 t) (Rect.unit ![0, 0, 128] ![1, 8, 128] inb_S4x8x512_S1x8x128_0_0_128))) (k0_pay3 (View.ld (iblk m c 2 t) (Rect.unit ![0, 0, 128] ![1, 8, 128] inb_S4x8x512_S1x8x128_0_0_128))) (extractStridedSlice S1x128 ![0, 128] (k0_pay1 (iblk m c 5 t)) slices_S1x512_o0_128_S1x128) (k0_pay5 (View.ld (iblk m c 4 t) (Rect.unit ![0, 0, 1, 0, 0] ![1, 1, 1, 128, 128] inb_S1x4x4x128x128_S1x1x1x128x128_0_0_1_0_0))) from rfl) y).trans ?_
    exact state_piece _ _ _ _ hL 0 1 k j y (by omega) (by omega) _ _ _ _ (ld_rows _ 0 1 _ rfl _) (ld_rows _ 0 1 _ rfl _) (fun k => by pointwise [k0_pay1]) (ld_state _ 0 1 _ rfl _)
  case piece15 =>
    obtain rfl : a = 0 := Fin.ext (by show a.val = 0; omega)
    obtain rfl : h = 0 := Fin.ext (by show h.val = 0; omega)
    refine (congrFun (show _ = stateOut (k0_pay3 (View.ld (iblk m c 1 t) (Rect.unit ![0, 0, 0] ![1, 8, 128] inb_S4x8x512_S1x8x128_0_0_0))) (k0_pay3 (View.ld (iblk m c 2 t) (Rect.unit ![0, 0, 0] ![1, 8, 128] inb_S4x8x512_S1x8x128_0_0_0))) (extractStridedSlice S1x128 ![0, 0] (k0_pay1 (iblk m c 5 t)) slices_S1x512_o0_0_S1x128) (k0_pay5 (View.ld (iblk m c 4 t) (Rect.unit ![0, 0, 0, 0, 0] ![1, 1, 1, 128, 128] inb_S1x4x4x128x128_S1x1x1x128x128_0_0_0_0_0))) from rfl) y).trans ?_
    exact state_piece _ _ _ _ hL 0 0 k j y (by omega) (by omega) _ _ _ _ (ld_rows _ 0 0 _ rfl _) (ld_rows _ 0 0 _ rfl _) (fun k => by pointwise [k0_pay1]) (ld_state _ 0 0 _ rfl _)

end Cert.HgrnIdeal.Val

end
-- ==== Proof.RefHgrn.lean ====
/-
The gated recurrence of the sample's tokens: the reference's rows and states, entry by entry.
-/
module

public import proofs.«01_k».proof.Proof.Gen.HgrnRefIdeal
public import proofs.«01_k».proof.Proof.MathHgrn
public import Idealize.ShloMosaic.Lib.Pipeline.ValueKit
public import Idealize.ShloMosaic.Lib.Pointwise

@[expose] public section

set_option maxRecDepth 16384

noncomputable section

namespace Cert.HgrnRefIdeal

open Cert.HgrnRefIdeal.Gen Idealize.ShloMosaic Idealize.ShloMosaic.TcCoe Idealize.SL.Sem

/-- The forget gate. -/
def forget (X : FVec Ideal S128x4x512 .f32) (L : FVec Ideal S512 .f32) : FVec Ideal S128x4x512 .f32 :=
  addf (broadcastInDim S128x4x512 ![0, 1, 2] bcast_S1x1x512_S128x4x512_0_1_2 (broadcastInDim S1x1x512 ![2] bcast_S512_S1x1x512_2 L)) (mulf (broadcastInDim S128x4x512 ![0, 1, 2] bcast_S1x1x512_S128x4x512_0_1_2 (broadcastInDim S1x1x512 ![2] bcast_S512_S1x1x512_2 (subf (broadcastInDim S512 ![] bcast_S_S512 (constant S_ .f32 0x3F800000#32)) L))) (Host.divf (broadcastInDim S128x4x512 ![] bcast_S_S128x4x512 (constant S_ .f32 0x3F800000#32)) (addf (broadcastInDim S128x4x512 ![] bcast_S_S128x4x512 (constant S_ .f32 0x3F800000#32)) (Host.exp (Host.negf X)))))

/-- By head. -/
def heads (X : FVec Ideal S128x4x512 .f32) : FVec Ideal S128x4x4x128 .f32 :=
  transpose S128x4x4x128 [0, 2, 1, 3] (shapeCast _ X shapeCasts_S128x4x512_S128x4x4x128) transposes_S128x4x4x128_S128x4x4x128_0_2_1_3

/-- The running sum. -/
def running (X : FVec Ideal S128x4x4x128 .f32) : FVec Ideal S128x4x4x128 .f32 :=
  Host.reduceWindowAdd ![1, 1, 4, 1] ![1, 1, 1, 1] ![0, 0, 3, 0] ![0, 0, 0, 0] X (broadcastInDim S_ ![] bcast_S_S_ (constant S_ .f32 0x00000000#32)) reduceWindows_S128x4x4x128_S128x4x4x128_w1s1p0_0_w1s1p0_0_w4s1p3_0_w1s1p0_0 h_S_

/-- Where each of the four window positions lies. -/
theorem window_pos : ∀ n : Fin (⟨4, ![1, 1, 4, 1]⟩ : Shape).numel, ∀ a : Fin 4,
    ((⟨4, ![1, 1, 4, 1]⟩ : Shape).rowMajor.symm n a).val = if a = 2 then n.val else 0 := by decide +kernel

theorem running_at (X : FVec Ideal S128x4x4x128 .f32)  (a : Fin 128) (h t : Fin 4) (j : Fin 128) :
  running X (ix4 a h t j) = ∑ s : Fin 4, if s ≤ t then X (ix4 a h s j) else 0 := by
  show Host.reduceWindow (· + ·) ![1, 1, 4, 1] ![1, 1, 1, 1] ![0, 0, 3, 0] ![0, 0, 0, 0] X (broadcastInDim S_ ![] bcast_S_S_ (constant S_ .f32 0x00000000#32)) reduceWindows_S128x4x4x128_S128x4x4x128_w1s1p0_0_w1s1p0_0_w4s1p3_0_w1s1p0_0 h_S_ (ix4 a h t j) = _
  have z : (broadcastInDim S_ ![] bcast_S_S_ (constant S_ .f32 0x00000000#32) : FVec Ideal S_ .f32) (Shape.Idx.first h_S_) = 0 := by
    pointwise []
  unfold Host.reduceWindow
  simp only [z, window_pos]
  have e : ∀ n : Fin (⟨4, ![1, 1, 4, 1]⟩ : Shape).numel, (if q : ∀ b : Fin 4,
                (![0, 0, 3, 0] b ≤ ((ix4 a h t j : S128x4x4x128.Idx) b).val * ![1, 1, 1, 1] b + if b = 2 then n.val else 0) ∧
                  (((ix4 a h t j : S128x4x4x128.Idx) b).val * ![1, 1, 1, 1] b + if b = 2 then n.val else 0) -
                      ![0, 0, 3, 0] b <
                    ![128, 4, 4, 128] b then
            X fun b =>
              ⟨(((ix4 a h t j : S128x4x4x128.Idx) b).val * ![1, 1, 1, 1] b + if b = 2 then n.val else 0) - ![0, 0, 3, 0] b, (q b).2⟩
          else 0) = if q : 3 ≤ t.val + n.val ∧ t.val + n.val - 3 < 4 then X (ix4 a h ⟨t.val + n.val - 3, q.2⟩ j) else 0 := by
    intro n
    by_cases q : 3 ≤ t.val + n.val ∧ t.val + n.val - 3 < 4
    · rw [dif_pos q, dif_pos]
      · congr 1
        funext b
        fin_cases b <;> apply Fin.ext <;> simp <;> rfl
      · intro b
        fin_cases b
        · simpa using a.isLt
        · simpa using h.isLt
        · simpa using q
        · simpa using j.isLt
    · rw [dif_neg q, dif_neg]
      intro c
      exact q (by simpa using c 2)
  have l : List.finRange (⟨4, ![1, 1, 4, 1]⟩ : Shape).numel = [⟨0, by decide +kernel⟩, ⟨1, by decide +kernel⟩, ⟨2, by decide +kernel⟩, ⟨3, by decide +kernel⟩] := by decide +kernel
  rw [l]
  simp only [List.foldl_cons, List.foldl_nil]
  refine (congrArg₂ (· + ·) (congrArg₂ (· + ·) (congrArg₂ (· + ·) (congrArg (0 + ·) (e ⟨0, by decide +kernel⟩)) (e ⟨1, by decide +kernel⟩)) (e ⟨2, by decide +kernel⟩)) (e ⟨3, by decide +kernel⟩)).trans ?_
  rw [Fin.sum_univ_four]
  fin_cases t <;> simp <;> rfl

/-- One step's query weight: the raw value times its logistic function. -/
def siluHeads (X : FVec Ideal S128x4x4x128 .f32) : FVec Ideal S128x4x4x128 .f32 :=
  mulf X (Host.divf (broadcastInDim S128x4x4x128 ![] bcast_S_S128x4x4x128 (constant S_ .f32 0x3F800000#32)) (addf (broadcastInDim S128x4x4x128 ![] bcast_S_S128x4x4x128 (constant S_ .f32 0x3F800000#32)) (Host.exp (Host.negf X))))

/-- The keys: one less the forget gate. -/
def keys (X : FVec Ideal S128x4x512 .f32) : FVec Ideal S128x4x512 .f32 :=
  subf (broadcastInDim S128x4x512 ![] bcast_S_S128x4x512 (constant S_ .f32 0x3F800000#32)) X

/-- What each step takes from each step before it. -/
def scores (Q B K : FVec Ideal S128x4x4x128 .f32) : FVec Ideal S128x4x4x4 .f32 :=
  Host.reduceAdd (mulf (mulf (broadcastInDim S128x4x4x4x128 ![0, 1, 2, 3, 4] bcast_S128x4x4x1x128_S128x4x4x4x128_0_1_2_3_4 (broadcastInDim S128x4x4x1x128 ![0, 1, 2, 4] bcast_S128x4x4x128_S128x4x4x1x128_0_1_2_4 Q)) (Host.exp (select (broadcastInDim S128x4x4x4x128 ![2, 3, 4] bcast_S4x4x1_S128x4x4x4x128_2_3_4 (broadcastInDim S4x4x1 ![0, 1] bcast_S4x4_S4x4x1_0_1 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1))))) (subf (broadcastInDim S128x4x4x4x128 ![0, 1, 2, 3, 4] bcast_S128x4x4x1x128_S128x4x4x4x128_0_1_2_3_4 (broadcastInDim S128x4x4x1x128 ![0, 1, 2, 4] bcast_S128x4x4x128_S128x4x4x1x128_0_1_2_4 B)) (broadcastInDim S128x4x4x4x128 ![0, 1, 2, 3, 4] bcast_S128x4x1x4x128_S128x4x4x4x128_0_1_2_3_4 (broadcastInDim S128x4x1x4x128 ![0, 1, 3, 4] bcast_S128x4x4x128_S128x4x1x4x128_0_1_3_4 B))) (broadcastInDim S128x4x4x4x128 ![] bcast_S_S128x4x4x4x128 (id (constant S_ .f32 0xFF800000#32)))))) (broadcastInDim S128x4x4x4x128 ![0, 1, 2, 3, 4] bcast_S128x4x1x4x128_S128x4x4x4x128_0_1_2_3_4 (broadcastInDim S128x4x1x4x128 ![0, 1, 3, 4] bcast_S128x4x4x128_S128x4x1x4x128_0_1_3_4 K))) (constant S_ .f32 0x00000000#32) reducesTo_S128x4x4x4x128_S128x4x4x4_d4 h_S_

/-- The layer's states before the call. -/
def before (S : FVec Ideal S4x128x4x128x128 .f32) : FVec Ideal S128x4x128x128 .f32 :=
  shapeCast _ (extractStridedSlice S1x128x4x128x128 ![1, 0, 0, 0, 0] S slices_S4x128x4x128x128_S1x128x4x128x128_1_0_0_0_0) shapeCasts_S1x128x4x128x128_S128x4x128x128

/-- What the recurrence gives at each step. -/
def given (Q B K V : FVec Ideal S128x4x4x128 .f32) (S : FVec Ideal S128x4x128x128 .f32) : FVec Ideal S128x4x4x128 .f32 :=
  transpose S128x4x4x128 [0, 2, 1, 3] (addf (Host.dotGeneral dot_S128x4x4x4_S128x4x4x128_S128x4x4x128_3_2_2_3_01_01 none (scores Q B K) V) (Host.dotGeneral dot_S128x4x4x128_S128x4x128x128_S128x4x4x128_3_2_2_3_01_01 none (mulf Q (Host.exp B)) S)) transposes_S128x4x4x128_S128x4x4x128_0_2_1_3

/-- The state after the last step. -/
def after (B K V : FVec Ideal S128x4x4x128 .f32) (S : FVec Ideal S128x4x128x128 .f32) : FVec Ideal S128x4x128x128 .f32 :=
  addf (mulf (broadcastInDim S128x4x128x128 ![0, 1, 2, 3] bcast_S128x4x128x1_S128x4x128x128_0_1_2_3 (broadcastInDim S128x4x128x1 ![0, 1, 2] bcast_S128x4x128_S128x4x128x1_0_1_2 (Host.exp (shapeCast _ (extractStridedSlice S128x4x1x128 ![0, 0, 3, 0] B slices_S128x4x4x128_S128x4x1x128_0_0_3_0) shapeCasts_S128x4x1x128_S128x4x128)))) S) (Host.dotGeneral dot_S128x4x4x128_S128x4x4x128_S128x4x128x128_2_2_3_3_01_01 none (mulf K (Host.exp (subf (broadcastInDim S128x4x4x128 ![0, 1, 2, 3] bcast_S128x4x1x128_S128x4x4x128_0_1_2_3 (extractStridedSlice S128x4x1x128 ![0, 0, 3, 0] B slices_S128x4x4x128_S128x4x1x128_0_0_3_0)) B))) V)

/-- Each head's step divided by its root mean square. -/
def normed (O : FVec Ideal S128x4x4x128 .f32) : FVec Ideal S128x4x4x128 .f32 :=
  mulf O (broadcastInDim S128x4x4x128 ![0, 1, 2, 3] bcast_S128x4x4x1_S128x4x4x128_0_1_2_3 (Host.rsqrt (addf (Host.divf (broadcastInDim S128x4x4x1 ![0, 1, 2] bcast_S128x4x4_S128x4x4x1_0_1_2 (Host.reduceAdd (mulf O O) (constant S_ .f32 0x00000000#32) reducesTo_S128x4x4x128_S128x4x4_d3 h_S_)) (broadcastInDim S128x4x4x1 ![] bcast_S_S128x4x4x1 (constant S_ .f32 0x43000000#32))) (broadcastInDim S128x4x4x1 ![] bcast_S_S128x4x4x1 (constant S_ .f32 0x358637BD#32)))))

/-- Weighted and gated, the rows of padding added. -/
def gatedRows (O : FVec Ideal S128x4x4x128 .f32) (G : FVec Ideal S128x4x512 .f32) (N : FVec Ideal S512 .f32) : FVec Ideal S128x8x512 .f32 :=
  pad S128x8x512 ![0, 0, 0] ![0, 4, 0] ![0, 0, 0] (mulf (mulf (shapeCast _ O shapeCasts_S128x4x4x128_S128x4x512) (broadcastInDim S128x4x512 ![0, 1, 2] bcast_S1x1x512_S128x4x512_0_1_2 (broadcastInDim S1x1x512 ![2] bcast_S512_S1x1x512_2 N))) (mulf G (Host.divf (broadcastInDim S128x4x512 ![] bcast_S_S128x4x512 (constant S_ .f32 0x3F800000#32)) (addf (broadcastInDim S128x4x512 ![] bcast_S_S128x4x512 (constant S_ .f32 0x3F800000#32)) (Host.exp (Host.negf G)))))) (sitofp .f32 (constantI S_ 32 0#32)) pads_S128x4x512_S128x8x512_000_040_000 h_S_

/-- The states, the layer's own slot set. -/
def slots (C : FVec Ideal S4x128x4x128x128 .f32) (A : FVec Ideal S128x4x128x128 .f32) : FVec Ideal S4x128x4x128x128 .f32 :=
  concatenate S4x128x4x128x128 0 [⟨S1x128x4x128x128, ((extractStridedSlice S1x128x4x128x128 ![0, 0, 0, 0, 0] C slices_S4x128x4x128x128_S1x128x4x128x128_0_0_0_0_0) : FVec Ideal S1x128x4x128x128 .f32)⟩, ⟨S1x128x4x128x128, ((broadcastInDim S1x128x4x128x128 ![1, 2, 3, 4] bcast_S128x4x128x128_S1x128x4x128x128_1_2_3_4 A) : FVec Ideal S1x128x4x128x128 .f32)⟩, ⟨S2x128x4x128x128, ((extractStridedSlice S2x128x4x128x128 ![2, 0, 0, 0, 0] C slices_S4x128x4x128x128_S2x128x4x128x128_2_0_0_0_0) : FVec Ideal S2x128x4x128x128 .f32)⟩] concatenates_S1x128x4x128x128_S1x128x4x128x128_S2x128x4x128x128_S4x128x4x128x128_d0

/-- The running logarithm of the decay, by head. -/
def decays (F : FVec Ideal S128x4x512 .f32) (L : FVec Ideal S512 .f32) : FVec Ideal S128x4x4x128 .f32 :=
  running (heads (Host.log (forget F L)))

/-- What the recurrence gives, of the arguments. -/
def givenOf (Q F V : FVec Ideal S128x4x512 .f32) (S : FVec Ideal S4x128x4x128x128 .f32) (L : FVec Ideal S512 .f32) : FVec Ideal S128x4x4x128 .f32 :=
  given (siluHeads (heads Q)) (decays F L) (heads (keys (forget F L))) (heads V) (before S)

/-- The rows the reference returns. -/
def rowsRef (Q F V G : FVec Ideal S128x4x512 .f32) (S : FVec Ideal S4x128x4x128x128 .f32) (L N : FVec Ideal S512 .f32) : FVec Ideal S128x8x512 .f32 :=
  gatedRows (normed (givenOf Q F V S L)) G N

/-- The states the reference returns. -/
def statesRef (F V : FVec Ideal S128x4x512 .f32) (S C : FVec Ideal S4x128x4x128x128 .f32) (L : FVec Ideal S512 .f32) : FVec Ideal S4x128x4x128x128 .f32 :=
  slots C (after (decays F L) (heads (keys (forget F L))) (heads V) (before S))

/-- One head's steps of an array. -/
abbrev stepsOf (X : FVec Ideal S128x4x512 .f32) (a : Fin 128) (h : Fin 4) : Fin 4 → Fin 128 → EReal :=
  fun t k => X (ix3 a t ⟨h.val * 128 + k.val, by omega⟩)
/-- One head's channels of a vector. -/
abbrev chanOf (X : FVec Ideal S512 .f32) (h : Fin 4) : Fin 128 → EReal :=
  fun k => X (ix1 ⟨h.val * 128 + k.val, by omega⟩)
/-- One head's state of the layer. -/
abbrev stateOf (X : FVec Ideal S4x128x4x128x128 .f32) (a : Fin 128) (h : Fin 4) : Fin 128 → Fin 128 → EReal :=
  fun k j => X (ix5 1 a h k j)

/-- The decays at an index. -/
theorem decays_at (F : FVec Ideal S128x4x512 .f32) (L : FVec Ideal S512 .f32) (a : Fin 128) (h t : Fin 4) (k : Fin 128) :
    decays F L (ix4 a h t k) = HgrnMath.decay (stepsOf F a h) (chanOf L h) t k := by
  unfold decays
  rw [running_at]
  unfold HgrnMath.decay HgrnMath.upTo
  refine Finset.sum_congr rfl fun s _ => ?_
  congr 1
  pointwise [heads, forget, HgrnMath.forget]

/-- The keys at an index. -/
theorem keys_at (F : FVec Ideal S128x4x512 .f32) (L : FVec Ideal S512 .f32) (a : Fin 128) (h t : Fin 4) (k : Fin 128) :
    heads (keys (forget F L)) (ix4 a h t k) = 1 - HgrnMath.forget (chanOf L h k) (stepsOf F a h t k) := by
  pointwise [heads, keys, forget, HgrnMath.forget]

/-- The query weights at an index. -/
theorem swish_at (Q : FVec Ideal S128x4x512 .f32) (a : Fin 128) (h t : Fin 4) (k : Fin 128) :
    siluHeads (heads Q) (ix4 a h t k) = HgrnMath.swish (stepsOf Q a h t k) := by
  pointwise [heads, siluHeads, HgrnMath.swish]

/-- A head's step of an array. -/
theorem heads_at (X : FVec Ideal S128x4x512 .f32) (a : Fin 128) (h t : Fin 4) (k : Fin 128) : heads X (ix4 a h t k) = stepsOf X a h t k := by
  pointwise [heads]

/-- The scores at an index. -/
theorem scores_at (Q B K : FVec Ideal S128x4x4x128 .f32) (a : Fin 128) (h t s : Fin 4) :
    scores Q B K (ix4 a h t s)
      = if s ≤ t then ∑ k : Fin 128, Q (ix4 a h t k) * Ideal.exp (B (ix4 a h t k) - B (ix4 a h s k)) * K (ix4 a h s k) else 0 := by
  pointwise [scores]
  refine Eq.trans (b := ∑ k : Fin 128, if s ≤ t then Q (ix4 a h t k) * Ideal.exp (B (ix4 a h t k) - B (ix4 a h s k)) * K (ix4 a h s k) else 0) (Finset.sum_congr rfl fun k _ => ?_) ?_
  · have c : IntOp.cmpi CmpIPredicate.sge (IntOp.addi (BitVec.ofNat 32 t.val) 0#32) (BitVec.ofNat 32 s.val) = if s ≤ t then 1#1 else 0#1 := by
      revert t s; decide +kernel
    rw [c]
    by_cases q : s ≤ t
    · rw [if_pos q, if_pos q]; rfl
    · rw [if_neg q, if_neg q]
      have e : Scalar.select (Scalar.select (0#1 : BitVec 1) (1#1 : BitVec 1) 0#1) (B (ix4 a h t k) - B (ix4 a h s k)) (id (constant S_ FTy.f32 4286578688#32 : FVec Ideal S_ .f32) ix0) = (⊥ : EReal) := by
        show (Ideal.ofBits FTy.f32 4286578688#32 : EReal) = ⊥
        simp [Ideal.ofBits, Ideal.ieee]
      rw [e, Ideal.exp_bot, mul_zero, zero_mul]
  · by_cases q : s ≤ t
    · simp only [if_pos q]
    · simp only [if_neg q, Finset.sum_const_zero]

/-- The recurrence at an index. -/
theorem given_at (Q F V : FVec Ideal S128x4x512 .f32) (S : FVec Ideal S4x128x4x128x128 .f32) (L : FVec Ideal S512 .f32) (a : Fin 128) (t h : Fin 4) (j : Fin 128) :
    givenOf Q F V S L (ix4 a t h j) = HgrnMath.given (stepsOf Q a h) (stepsOf F a h) (stepsOf V a h) (chanOf L h) (stateOf S a h) t j := by
  pointwise [givenOf, given, scores_at, decays_at, keys_at, swish_at, before, HgrnMath.given, HgrnMath.score]
  simp only [heads_at]

/-- The state left at an index. -/
theorem after_at (F V : FVec Ideal S128x4x512 .f32) (S : FVec Ideal S4x128x4x128x128 .f32) (L : FVec Ideal S512 .f32) (a : Fin 128) (h : Fin 4) (k j : Fin 128) :
    after (decays F L) (heads (keys (forget F L))) (heads V) (before S) (ix4 a h k j) = HgrnMath.after (stepsOf F a h) (stepsOf V a h) (chanOf L h) (stateOf S a h) k j := by
  pointwise [after, decays_at, keys_at, before, HgrnMath.after]
  simp only [heads_at]

/-- The rows at an index of a token. -/
theorem rows_at (Q F V G : FVec Ideal S128x4x512 .f32) (S : FVec Ideal S4x128x4x128x128 .f32) (L N : FVec Ideal S512 .f32) (a : Fin 128) (t : Fin 4) (i : Fin 8) (h : Fin 4) (j : Fin 128) (hi : i.val = t.val) :
    rowsRef Q F V G S L N (ix3 a i ⟨h.val * 128 + j.val, by omega⟩)
      = HgrnMath.rowOut (HgrnMath.given (stepsOf Q a h) (stepsOf F a h) (stepsOf V a h) (chanOf L h) (stateOf S a h) t) (chanOf N h j) (stepsOf G a h t j) j := by
  pointwise [rowsRef, gatedRows, normed, given_at]
  rw [dif_pos ⟨by omega, by omega⟩]
  have e : (⟨i.val, by omega⟩ : Fin 4) = t := Fin.ext hi
  simp only [e, HgrnMath.rowOut, HgrnMath.swish]

/-- The states at an index. -/
theorem states_at (F V : FVec Ideal S128x4x512 .f32) (S C : FVec Ideal S4x128x4x128x128 .f32) (L : FVec Ideal S512 .f32) (n : Fin 4) (a : Fin 128) (h : Fin 4) (k j : Fin 128) :
    statesRef F V S C L (ix5 n a h k j) = if n.val = 1 then HgrnMath.after (stepsOf F a h) (stepsOf V a h) (chanOf L h) (stateOf S a h) k j else C (ix5 n a h k j) := by
  pointwise [statesRef, slots, after_at]
  by_cases q0 : n.val = 0
  · rw [dif_pos (by omega), if_neg (by omega)]
  · rw [dif_neg (by omega)]
    by_cases q1 : n.val = 1
    · rw [dif_pos (by omega), if_pos q1]
    · rw [dif_neg (by omega), if_neg q1]
      congr 2
      exact Fin.ext (by show 2 + (n.val - 1 - 1) = n.val; omega)

end Cert.HgrnRefIdeal

end
-- ==== Proof.ArrHgrn.lean ====
/-
The gated recurrence of the sample's tokens: the two arrays the kernel leaves, against the reference's.
-/
module

public import proofs.«01_k».proof.Defs
public import proofs.«01_k».proof.Proof.ValHgrn
public import proofs.«01_k».proof.Proof.RefHgrn
public import Idealize.ShloMosaic.Lib.ReduceAll

@[expose] public section

set_option maxRecDepth 16384

noncomputable section

namespace Cert.Pre_lb_range

open Idealize.ShloMosaic

/-- The shape relations of the bound on the lower bounds. -/
theorem facts : Facts := ⟨by decide, by decide, by decide⟩

end Cert.Pre_lb_range

namespace Cert.On_new_rows

open Idealize.ShloMosaic

/-- The shape relations of the mask of the tokens' rows. -/
theorem facts : Facts := ⟨by decide, by decide⟩

end Cert.On_new_rows

namespace Cert.HgrnIdeal.Val

open Cert.HgrnIdeal Cert.HgrnIdeal.Gen Idealize.ShloMosaic Idealize.ShloMosaic.TcCoe Idealize.SL.Sem
open Idealize.ShloMosaic.Pipeline (Dat)

variable (m : (ℓ : Loc nD τ sig) → Buf (Elt Ideal) ℓ)

/-- The lower bounds, argument of the call. -/
abbrev lbArg (c : Dev nD) : FVec Ideal S512 .f32 := m ((c : Thread nD τ).loc main_arg6)

/-- A bit made of a truth value is one only for true. -/
theorem of_ofBool {b : Bool} (h : BitVec.ofBool b = 1#1) : b = true := by
  cases b
  · exact absurd h (by decide)
  · rfl

/-- The bound says of every channel that its lower bound lies between zero and one. -/
theorem lb_of_pre (h : Cert.Pre_HgrnIdeal_lb_range (hPre_lb_range := Cert.Pre_lb_range.facts) m) (c : Dev nD) (k : Fin 512) :
    0 ≤ lbArg m c (ix1 k) ∧ lbArg m c (ix1 k) ≤ 1 := by
  have e := congrFun (h c) ix0
  have q := Host.reduce_andi_all _ _ _ _ _ e (ix1 k)
  have q' := IntOp.andi_eq_one.mp q
  constructor
  · have := q'.1
    pointwise at this
    exact of_decide_eq_true (of_ofBool this)
  · have := q'.2
    pointwise at this
    exact of_decide_eq_true (of_ofBool this)

/-- Which block each window is at, at every grid point. -/
theorem at_point : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![1, t.val, 0, 0, 0] ∧ win0_5.index t = ![0, 0] ∧ win0_6.index t = ![0, 0] ∧ win0_7.index t = ![t.val, 0, 0] ∧ win0_8.index t = ![1, t.val, 0, 0, 0] :=
  (by decide +kernel : ∀ t : Fin grid0.N, _)

/-- An array of the tokens' rows with the rows of padding. -/
abbrev padded (X : FVec Ideal S128x4x512 .f32) : FVec Ideal S128x8x512 .f32 :=
  pad S128x8x512 ![0, 0, 0] ![0, 4, 0] ![0, 0, 0] X (sitofp .f32 (constantI S_ 32 0#32)) pads_S128x4x512_S128x8x512_000_040_000 h_S_

theorem V_v0 (c : Dev nD) : V m c main_v0 = padded (m ((c : Thread nD τ).loc main_arg0)) := by
  entry_read
  try rfl

theorem V_v1 (c : Dev nD) : V m c main_v1 = padded (m ((c : Thread nD τ).loc main_arg1)) := by
  entry_read
  try rfl

theorem V_v2 (c : Dev nD) : V m c main_v2 = padded (m ((c : Thread nD τ).loc main_arg2)) := by
  entry_read
  try rfl

theorem V_v3 (c : Dev nD) : V m c main_v3 = padded (m ((c : Thread nD τ).loc main_arg3)) := by
  entry_read
  try rfl

theorem V_v4 (c : Dev nD) : V m c main_v4 = broadcastInDim S1x512 ![1] bcast_S512_S1x512_1 (m ((c : Thread nD τ).loc main_arg6) : FVec Ideal S512 .f32) := by
  entry_read
  try rfl

theorem V_v5 (c : Dev nD) : V m c main_v5 = broadcastInDim S1x512 ![1] bcast_S512_S1x512_1 (m ((c : Thread nD τ).loc main_arg7) : FVec Ideal S512 .f32) := by
  entry_read
  try rfl

theorem V_v6_1 (c : Dev nD) : V m c main_v6_1 = m ((c : Thread nD τ).loc main_arg5) := by
  entry_read
  try rfl

theorem padded_at (X : FVec Ideal S128x4x512 .f32) (A : Fin 128) (i : Fin 8) (s : Fin 4) (hi : i.val = s.val) (k : Fin 512) : padded X (ix3 A i k) = X (ix3 A s k) := by
  pointwise
  rw [dif_pos (by omega)]
  exact congrArg (fun z : Fin 4 => X (ix3 A z k)) (Fin.ext hi)

theorem in0 (c : Dev nD) (t : Fin cfg0.N) (a : Fin 4) (i : Fin 8) (s : Fin 4) (hi : i.val = s.val) (k : Fin 512) (A : Fin 128) (hA : A.val = t.val * 4 + a.val) :
    (iblk m c 0 t : Vec Ideal S4x8x512 .f32) (ix3 a i k) = (m ((c : Thread nD τ).loc main_arg0) : FVec Ideal S128x4x512 .f32) (ix3 A s k) := by
  refine Eq.trans ?_ (padded_at _ A i s hi k)
  rw [← V_v0 m c]
  blk_point [iblk, at_point t]

theorem in1 (c : Dev nD) (t : Fin cfg0.N) (a : Fin 4) (i : Fin 8) (s : Fin 4) (hi : i.val = s.val) (k : Fin 512) (A : Fin 128) (hA : A.val = t.val * 4 + a.val) :
    (iblk m c 1 t : Vec Ideal S4x8x512 .f32) (ix3 a i k) = (m ((c : Thread nD τ).loc main_arg1) : FVec Ideal S128x4x512 .f32) (ix3 A s k) := by
  refine Eq.trans ?_ (padded_at _ A i s hi k)
  rw [← V_v1 m c]
  blk_point [iblk, at_point t]

theorem in2 (c : Dev nD) (t : Fin cfg0.N) (a : Fin 4) (i : Fin 8) (s : Fin 4) (hi : i.val = s.val) (k : Fin 512) (A : Fin 128) (hA : A.val = t.val * 4 + a.val) :
    (iblk m c 2 t : Vec Ideal S4x8x512 .f32) (ix3 a i k) = (m ((c : Thread nD τ).loc main_arg2) : FVec Ideal S128x4x512 .f32) (ix3 A s k) := by
  refine Eq.trans ?_ (padded_at _ A i s hi k)
  rw [← V_v2 m c]
  blk_point [iblk, at_point t]

theorem in3 (c : Dev nD) (t : Fin cfg0.N) (a : Fin 4) (i : Fin 8) (s : Fin 4) (hi : i.val = s.val) (k : Fin 512) (A : Fin 128) (hA : A.val = t.val * 4 + a.val) :
    (iblk m c 3 t : Vec Ideal S4x8x512 .f32) (ix3 a i k) = (m ((c : Thread nD τ).loc main_arg3) : FVec Ideal S128x4x512 .f32) (ix3 A s k) := by
  refine Eq.trans ?_ (padded_at _ A i s hi k)
  rw [← V_v3 m c]
  blk_point [iblk, at_point t]

theorem in5 (c : Dev nD) (t : Fin cfg0.N) (k : Fin 512) :
    (iblk m c 5 t : Vec Ideal S1x512 .f32) (ix2 0 k) = (m ((c : Thread nD τ).loc main_arg6) : FVec Ideal S512 .f32) (ix1 k) := by
  refine Eq.trans (b := broadcastInDim S1x512 ![1] bcast_S512_S1x512_1 (m ((c : Thread nD τ).loc main_arg6) : FVec Ideal S512 .f32) (ix2 0 k)) ?_ (by pointwise)
  rw [← V_v4 m c]
  blk_point [iblk, at_point t]

theorem in6 (c : Dev nD) (t : Fin cfg0.N) (k : Fin 512) :
    (iblk m c 6 t : Vec Ideal S1x512 .f32) (ix2 0 k) = (m ((c : Thread nD τ).loc main_arg7) : FVec Ideal S512 .f32) (ix1 k) := by
  refine Eq.trans (b := broadcastInDim S1x512 ![1] bcast_S512_S1x512_1 (m ((c : Thread nD τ).loc main_arg7) : FVec Ideal S512 .f32) (ix2 0 k)) ?_ (by pointwise)
  rw [← V_v5 m c]
  blk_point [iblk, at_point t]

theorem in4 (c : Dev nD) (t : Fin cfg0.N) (a h : Fin 4) (k j : Fin 128) (A : Fin 128) (hA : A.val = t.val * 4 + a.val) :
    (iblk m c 4 t : Vec Ideal S1x4x4x128x128 .f32) (ix5 0 a h k j) = (m ((c : Thread nD τ).loc main_arg4) : FVec Ideal S4x128x4x128x128 .f32) (ix5 1 A h k j) := by
  blk_point [iblk, V, at_point t]

/-- The reference's rows, of the arguments. -/
abbrev rowsArgs (c : Dev nD) : FVec Ideal S128x8x512 .f32 :=
  Cert.HgrnRefIdeal.rowsRef (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg7))

/-- The reference's states, of the arguments. -/
abbrev statesArgs (c : Dev nD) : FVec Ideal S4x128x4x128x128 .f32 :=
  Cert.HgrnRefIdeal.statesRef (m ((c : Thread nD τ).loc main_arg1)) (m ((c : Thread nD τ).loc main_arg2))
    (m ((c : Thread nD τ).loc main_arg4)) (m ((c : Thread nD τ).loc main_arg5)) (m ((c : Thread nD τ).loc main_arg6))

/-- Between zero and one, in the block every point reads. -/
theorem unit_of (c : Dev nD) (t : Fin cfg0.N) (h : ∀ k : Fin 512, 0 ≤ lbArg m c (ix1 k) ∧ lbArg m c (ix1 k) ≤ 1) : inUnit (iblk m c 5 t) := by
  intro k
  have e := in5 m c t k
  rw [e]
  exact h k

/-- The rows at a token. -/
theorem rows_eq (c : Dev nD) (t : Fin cfg0.N) (hL : ∀ k : Fin 512, 0 ≤ lbArg m c (ix1 k) ∧ lbArg m c (ix1 k) ≤ 1) (y : S4x8x512.Idx)
    (A : Fin 128) (i : Fin 8) (J : Fin 512) (r : Fin 4) (hA : A.val = t.val * 4 + (y 0).val) (hi : i.val = (y 1).val) (hJ : J.val = (y 2).val) (hr : i.val = r.val) :
    (outsAt0 m c t).1 y = rowsArgs m c (ix3 A i J) := by
  obtain ⟨h, j, e⟩ : ∃ (h : Fin 4) (j : Fin 128), J.val = h.val * 128 + j.val := ⟨⟨J.val / 128, by omega⟩, ⟨J.val % 128, by omega⟩, by show J.val = J.val / 128 * 128 + J.val % 128; omega⟩
  rw [show J = ⟨h.val * 128 + j.val, by omega⟩ from Fin.ext e]
  have e0 : stepsB (iblk m c 0 t) (y 0) h = Cert.HgrnRefIdeal.stepsOf (m ((c : Thread nD τ).loc main_arg0)) A h := funext fun s => funext fun k => in0 m c t (y 0) _ s rfl _ A hA
  have e1 : stepsB (iblk m c 1 t) (y 0) h = Cert.HgrnRefIdeal.stepsOf (m ((c : Thread nD τ).loc main_arg1)) A h := funext fun s => funext fun k => in1 m c t (y 0) _ s rfl _ A hA
  have e2 : stepsB (iblk m c 2 t) (y 0) h = Cert.HgrnRefIdeal.stepsOf (m ((c : Thread nD τ).loc main_arg2)) A h := funext fun s => funext fun k => in2 m c t (y 0) _ s rfl _ A hA
  have e3 : stepsB (iblk m c 3 t) (y 0) h = Cert.HgrnRefIdeal.stepsOf (m ((c : Thread nD τ).loc main_arg3)) A h := funext fun s => funext fun k => in3 m c t (y 0) _ s rfl _ A hA
  have e4 : stateB (iblk m c 4 t) (y 0) h = Cert.HgrnRefIdeal.stateOf (m ((c : Thread nD τ).loc main_arg4)) A h := funext fun k => funext fun j => in4 m c t (y 0) h k j A hA
  have e5 : chanB (iblk m c 5 t) h = Cert.HgrnRefIdeal.chanOf (m ((c : Thread nD τ).loc main_arg6)) h := funext fun k => in5 m c t _
  have e6 : chanB (iblk m c 6 t) h = Cert.HgrnRefIdeal.chanOf (m ((c : Thread nD τ).loc main_arg7)) h := funext fun k => in6 m c t _
  refine (rows_out m c t (unit_of m c t hL) (y 0) h r j y rfl (hi.symm.trans hr) (hJ.symm.trans e)).trans ?_
  refine Eq.trans ?_ (Cert.HgrnRefIdeal.rows_at _ _ _ _ _ _ _ A r i h j hr).symm
  unfold rowB
  rw [e0, e1, e2, e3, e4, e5, e6]

/-- The states of the layer's slot. -/
theorem states_eq (c : Dev nD) (t : Fin cfg0.N) (hL : ∀ k : Fin 512, 0 ≤ lbArg m c (ix1 k) ∧ lbArg m c (ix1 k) ≤ 1) (y : S1x4x4x128x128.Idx)
    (A : Fin 128) (h : Fin 4) (k j : Fin 128) (hA : A.val = t.val * 4 + (y 1).val) (hh : h.val = (y 2).val) (hk : k.val = (y 3).val) (hj : j.val = (y 4).val) :
    (outsAt0 m c t).2 y = statesArgs m c (ix5 1 A h k j) := by
  have e1 : stepsB (iblk m c 1 t) (y 1) h = Cert.HgrnRefIdeal.stepsOf (m ((c : Thread nD τ).loc main_arg1)) A h := funext fun s => funext fun k => in1 m c t (y 1) _ s rfl _ A hA
  have e2 : stepsB (iblk m c 2 t) (y 1) h = Cert.HgrnRefIdeal.stepsOf (m ((c : Thread nD τ).loc main_arg2)) A h := funext fun s => funext fun k => in2 m c t (y 1) _ s rfl _ A hA
  have e4 : stateB (iblk m c 4 t) (y 1) h = Cert.HgrnRefIdeal.stateOf (m ((c : Thread nD τ).loc main_arg4)) A h := funext fun k => funext fun j => in4 m c t (y 1) h k j A hA
  have e5 : chanB (iblk m c 5 t) h = Cert.HgrnRefIdeal.chanOf (m ((c : Thread nD τ).loc main_arg6)) h := funext fun k => in5 m c t _
  refine (states_out m c t (unit_of m c t hL) (y 1) h k j y rfl hh.symm hk.symm hj.symm).trans ?_
  refine Eq.trans ?_ (Cert.HgrnRefIdeal.states_at _ _ _ _ _ 1 A h k j).symm
  unfold stB
  rw [e1, e2, e4, e5]
  exact (if_pos rfl).symm

/-- The rows, at the tokens. -/
theorem result_rows (c : Dev nD) (hL : ∀ k : Fin 512, 0 ≤ lbArg m c (ix1 k) ∧ lbArg m c (ix1 k) ≤ 1) (i : S128x8x512.Idx) :
    (i 1).val < 4 → (dats m 0 c).arrAt 7 (cfgs 0).N i = rowsArgs m c i := by
  refine (dats m 0 c).arrAt_forall_of_covers 7 (fun i v => (i 1).val < 4 → v = rowsArgs m c i) (by decide +kernel) (fun t hf y => ?_) i
  blk_simp
  rw [after0_7]
  intro hy
  have hy1 : (y 1).val < 4 := by
    have := congrFun (at_point t).2.2.2.2.2.2.2.1 1
    rw [this] at hy
    simpa using hy
  have hy0 : (y 0).val < 4 := (y 0).isLt
  have ht : t.val < 32 := t.isLt
  refine (rows_eq m c t hL y ⟨t.val * 4 + (y 0).val, by omega⟩ (y 1) (y 2) ⟨(y 1).val, hy1⟩ rfl rfl rfl rfl).trans (congrArg (rowsArgs m c) ?_)
  funext d
  fin_cases d <;> apply Fin.ext <;> blk_simp [at_point t] <;> rfl

/-- The other layers' states are kept. -/
theorem kept_state (F V : FVec Ideal S128x4x512 .f32) (S C : FVec Ideal S4x128x4x128x128 .f32) (L : FVec Ideal S512 .f32)
    (x : S4x128x4x128x128.Idx) (hx : (x 0).val ≠ 1) : C x = Cert.HgrnRefIdeal.statesRef F V S C L x := by
  obtain ⟨n, a, h, k, j, rfl⟩ : ∃ (n : Fin 4) (a : Fin 128) (h : Fin 4) (k j : Fin 128), x = ix5 n a h k j :=
    ⟨x 0, x 1, x 2, x 3, x 4, by funext d; fin_cases d <;> rfl⟩
  exact ((Cert.HgrnRefIdeal.states_at F V S C L n a h k j).trans (if_neg hx)).symm

/-- The states. -/
theorem result_states (c : Dev nD) (hL : ∀ k : Fin 512, 0 ≤ lbArg m c (ix1 k) ∧ lbArg m c (ix1 k) ≤ 1) :
    (dats m 0 c).arrAt 8 (cfgs 0).N = statesArgs m c := by
  refine (dats m 0 c).arrAt_eq_of_coversWhere_of_agree 8 _ (fun β => β 0 = 1) (by decide +kernel) (fun t hf y => ?_) (fun j hj => ?_)
  · blk_simp
    rw [after0_8]
    have hy0 : (y 0).val < 1 := (y 0).isLt
    have hy1 : (y 1).val < 4 := (y 1).isLt
    have ht : t.val < 32 := t.isLt
    refine (states_eq m c t hL y ⟨t.val * 4 + (y 1).val, by omega⟩ (y 2) (y 3) (y 4) rfl rfl rfl rfl).trans (congrArg (statesArgs m c) ?_)
    funext d
    fin_cases d <;> apply Fin.ext <;> blk_simp [at_point t] <;> rfl
  · have hj0 : (((cfg0.win 8).arr.view.emb j) 0).val ≠ 1 := by
      intro e
      apply hj
      rw [Pipeline.Window.cell_apply]
      exact (Nat.div_one _).trans e
    generalize (cfg0.win 8).arr.view.emb j = x at hj0
    rw [A_eq]
    refine (congrFun (V_v6_1 m c) x).trans ?_
    exact kept_state _ _ _ _ _ x hj0

end Cert.HgrnIdeal.Val

end
-- ==== Proof.PairHgrn.lean ====
/-
The conjuncts of the claim about Hgrn that are not frames of the kernel.
-/
module

public import proofs.«01_k».proof.Defs
public import proofs.«01_k».proof.Proof.Gen.HgrnRefIdeal
public import proofs.«01_k».proof.Proof.Gen.HgrnRefIdeal.Run
public import proofs.«01_k».proof.Proof.ArrHgrn
public import Idealize.ShloMosaic.Lib.Claim

@[expose] public section

set_option maxRecDepth 16384

noncomputable section

namespace Cert.HgrnRefIdeal

open Cert.HgrnRefIdeal Cert.HgrnRefIdeal.Gen Cert.HgrnRefIdeal.Value Idealize.ShloMosaic Idealize.ShloMosaic.TcCoe

variable (m : (ℓ : Loc nD τ sig) → Buf (Elt Ideal) ℓ)

/-- The reference's rows, by the names of its arguments. -/
theorem ref_rows (c : Dev nD) : res_main_v84 m c = rowsRef (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6)) (m ((c : Thread nD τ).loc main_arg7)) := rfl

/-- The reference's states, by the names of its arguments. -/
theorem ref_states (c : Dev nD) : res_main_v83 m c = statesRef (m ((c : Thread nD τ).loc main_arg1)) (m ((c : Thread nD τ).loc main_arg2)) (m ((c : Thread nD τ).loc main_arg4))
    (m ((c : Thread nD τ).loc main_arg5)) (m ((c : Thread nD τ).loc main_arg6)) := rfl

end Cert.HgrnRefIdeal

namespace Cert.Proof

open Idealize.ShloMosaic Idealize.ShloMosaic.TcCoe Idealize.SL.Sem

set_option maxHeartbeats 1600000 in
/-- The reference runs, leaves its arguments and ends with every counter at zero. -/
theorem runs_HgrnRefIdeal : Cert.quiescent_HgrnRefIdeal (hHgrnRefIdeal := Cert.HgrnRefIdeal.Gen.facts) := by
  intro m g _
  exact (θ_run Cert.HgrnRefIdeal.defs _ _).mono
    (fun r h => ⟨fun c => (h c).2.2, sem_eq_zero_of_no_sems (by decide) r.2⟩) (Cert.HgrnRefIdeal.Value.run m g)

/-- The mask is set only on the rows of the tokens. -/
theorem new_row : ∀ z : Fin 8, IntOp.cmpi .slt (BitVec.ofNat 32 z.val) 4#32 = 1#1 → z.val < 4 := by decide

set_option maxHeartbeats 1600000 in
/-- Where the lower bounds lie between zero and one, the idealised kernel and the reference return the same rows at the tokens, and the same states. -/
theorem equal_Hgrn : Cert.algebraic_HgrnIdeal_HgrnRefIdeal_on_new_rows_pre_lb_range (hHgrnIdeal := Cert.HgrnIdeal.Gen.facts) (hHgrnRefIdeal := Cert.HgrnRefIdeal.Gen.facts)
    (hPre_lb_range := Cert.Pre_lb_range.facts) (hOn_new_rows := Cert.On_new_rows.facts) := by
  intro m g m' g' pre same
  have bound := fun c k => Cert.HgrnIdeal.Val.lb_of_pre m pre c k
  refine ⟨fun c => Cert.HgrnIdeal.Val.rowsArgs m c, fun c => Cert.HgrnIdeal.Val.statesArgs m c, ?_, ?_⟩
  · refine (θ_run Cert.HgrnIdeal.defs _ _).mono (fun r h c => ?_) (θ_run_and (Cert.HgrnIdeal.Gen.run_main m g) (Cert.HgrnIdeal.Gen.unchanged m g))
    refine ⟨fun i hi => ?_, fun i _ => ?_, h.2 c⟩
    · exact (congrFun ((h.1 c).1 7) i).trans (Cert.HgrnIdeal.Val.result_rows m c (bound c) i (new_row (i 1) hi))
    · exact congrFun (((h.1 c).1 8).trans (Cert.HgrnIdeal.Val.result_states m c (bound c))) i
  · refine (θ_run Cert.HgrnRefIdeal.defs _ _).mono (fun r h c => ?_) (Cert.HgrnRefIdeal.Value.run m' g')
    obtain ⟨e0, e1, e2, e3, e4, e5, e6, e7⟩ := same c
    refine ⟨fun i _ => ?_, fun i _ => ?_, (h c).2.2⟩
    · refine congrFun ((h c).1.trans ((Cert.HgrnRefIdeal.ref_rows m' c).trans ?_)) i
      rw [e0, e1, e2, e3, e4, e6, e7]
    · refine congrFun ((h c).2.1.trans ((Cert.HgrnRefIdeal.ref_states m' c).trans ?_)) i
      rw [e1, e2, e4, e5, e6]

end Cert.Proof

end
-- ==== Proof.lean ====
/-
The whole claim: the frames of every program, and for each call that the idealised kernel and the reference return the same arrays.
-/
module

public import proofs.«01_k».proof.Defs
public import proofs.«01_k».proof.Proof.Gen.Proj
public import proofs.«01_k».proof.Proof.Gen.ProjIdeal
public import proofs.«01_k».proof.Proof.Gen.ProjRefIdeal
public import proofs.«01_k».proof.Proof.Gen.Gate
public import proofs.«01_k».proof.Proof.Gen.GateIdeal
public import proofs.«01_k».proof.Proof.Gen.GateRefIdeal
public import proofs.«01_k».proof.Proof.Gen.Merge
public import proofs.«01_k».proof.Proof.Gen.MergeIdeal
public import proofs.«01_k».proof.Proof.Gen.MergeRefIdeal
public import proofs.«01_k».proof.Proof.Gen.FfnUp
public import proofs.«01_k».proof.Proof.Gen.FfnUpIdeal
public import proofs.«01_k».proof.Proof.Gen.FfnUpRefIdeal
public import proofs.«01_k».proof.Proof.Gen.FfnDown
public import proofs.«01_k».proof.Proof.Gen.FfnDownIdeal
public import proofs.«01_k».proof.Proof.Gen.FfnDownRefIdeal
public import proofs.«01_k».proof.Proof.Gen.SProj
public import proofs.«01_k».proof.Proof.Gen.SProjIdeal
public import proofs.«01_k».proof.Proof.Gen.SProjRefIdeal
public import proofs.«01_k».proof.Proof.Gen.SRope
public import proofs.«01_k».proof.Proof.Gen.SRopeIdeal
public import proofs.«01_k».proof.Proof.Gen.SRopeRefIdeal
public import proofs.«01_k».proof.Proof.Gen.SMix
public import proofs.«01_k».proof.Proof.Gen.SMixIdeal
public import proofs.«01_k».proof.Proof.Gen.SMixRefIdeal
public import proofs.«01_k».proof.Proof.Gen.SUp
public import proofs.«01_k».proof.Proof.Gen.SUpIdeal
public import proofs.«01_k».proof.Proof.Gen.SUpRefIdeal
public import proofs.«01_k».proof.Proof.Gen.SDown
public import proofs.«01_k».proof.Proof.Gen.SDownIdeal
public import proofs.«01_k».proof.Proof.Gen.SDownRefIdeal
public import proofs.«01_k».proof.Proof.Gen.Prep
public import proofs.«01_k».proof.Proof.Gen.PrepIdeal
public import proofs.«01_k».proof.Proof.Gen.PrepRefIdeal
public import proofs.«01_k».proof.Proof.Gen.PMix
public import proofs.«01_k».proof.Proof.Gen.PMixIdeal
public import proofs.«01_k».proof.Proof.Gen.PMixRefIdeal
public import proofs.«01_k».proof.Proof.Gen.Hgrn
public import proofs.«01_k».proof.Proof.Gen.HgrnIdeal
public import proofs.«01_k».proof.Proof.Gen.HgrnRefIdeal
public import proofs.«01_k».proof.Proof.Gen.Proj.Frame
public import proofs.«01_k».proof.Proof.Gen.ProjIdeal.Frame
public import proofs.«01_k».proof.Proof.PairProj
public import proofs.«01_k».proof.Proof.Gen.Gate.Frame
public import proofs.«01_k».proof.Proof.Gen.GateIdeal.Frame
public import proofs.«01_k».proof.Proof.PairGate
public import proofs.«01_k».proof.Proof.Gen.Merge.Frame
public import proofs.«01_k».proof.Proof.Gen.MergeIdeal.Frame
public import proofs.«01_k».proof.Proof.PairMerge
public import proofs.«01_k».proof.Proof.Gen.FfnUp.Frame
public import proofs.«01_k».proof.Proof.Gen.FfnUpIdeal.Frame
public import proofs.«01_k».proof.Proof.PairFfnUp
public import proofs.«01_k».proof.Proof.Gen.FfnDown.Frame
public import proofs.«01_k».proof.Proof.Gen.FfnDownIdeal.Frame
public import proofs.«01_k».proof.Proof.PairFfnDown
public import proofs.«01_k».proof.Proof.Gen.SProj.Frame
public import proofs.«01_k».proof.Proof.Gen.SProjIdeal.Frame
public import proofs.«01_k».proof.Proof.PairSProj
public import proofs.«01_k».proof.Proof.Gen.SRope.Frame
public import proofs.«01_k».proof.Proof.Gen.SRopeIdeal.Frame
public import proofs.«01_k».proof.Proof.PairSRope
public import proofs.«01_k».proof.Proof.Gen.SMix.Frame
public import proofs.«01_k».proof.Proof.Gen.SMixIdeal.Frame
public import proofs.«01_k».proof.Proof.PairSMix
public import proofs.«01_k».proof.Proof.Gen.SUp.Frame
public import proofs.«01_k».proof.Proof.Gen.SUpIdeal.Frame
public import proofs.«01_k».proof.Proof.PairSUp
public import proofs.«01_k».proof.Proof.Gen.SDown.Frame
public import proofs.«01_k».proof.Proof.Gen.SDownIdeal.Frame
public import proofs.«01_k».proof.Proof.PairSDown
public import proofs.«01_k».proof.Proof.Gen.Prep.Frame
public import proofs.«01_k».proof.Proof.Gen.PrepIdeal.Frame
public import proofs.«01_k».proof.Proof.PairPrep
public import proofs.«01_k».proof.Proof.Gen.PMix.Frame
public import proofs.«01_k».proof.Proof.Gen.PMixIdeal.Frame
public import proofs.«01_k».proof.Proof.PairPMix
public import proofs.«01_k».proof.Proof.Gen.Hgrn.Frame
public import proofs.«01_k».proof.Proof.Gen.HgrnIdeal.Frame
public import proofs.«01_k».proof.Proof.PairHgrn
public import Idealize.ShloMosaic.Adequacy
public import Idealize.ShloMosaic.Init

@[expose] public section

noncomputable section

namespace Cert.Proof

open Idealize.ShloMosaic Idealize.SL.Sem

/-- Every conjunct, in the order the claim states them. -/
theorem claim : Cert.Claim :=
  ⟨Cert.Proj.Gen.facts, Cert.ProjIdeal.Gen.facts, Cert.ProjRefIdeal.Gen.facts, Cert.Gate.Gen.facts, Cert.GateIdeal.Gen.facts, Cert.GateRefIdeal.Gen.facts, Cert.Merge.Gen.facts, Cert.MergeIdeal.Gen.facts, Cert.MergeRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.SProj.Gen.facts, Cert.SProjIdeal.Gen.facts, Cert.SProjRefIdeal.Gen.facts, Cert.SRope.Gen.facts, Cert.SRopeIdeal.Gen.facts, Cert.SRopeRefIdeal.Gen.facts, Cert.SMix.Gen.facts, Cert.SMixIdeal.Gen.facts, Cert.SMixRefIdeal.Gen.facts, Cert.SUp.Gen.facts, Cert.SUpIdeal.Gen.facts, Cert.SUpRefIdeal.Gen.facts, Cert.SDown.Gen.facts, Cert.SDownIdeal.Gen.facts, Cert.SDownRefIdeal.Gen.facts, Cert.Prep.Gen.facts, Cert.PrepIdeal.Gen.facts, Cert.PrepRefIdeal.Gen.facts, Cert.PMix.Gen.facts, Cert.PMixIdeal.Gen.facts, Cert.PMixRefIdeal.Gen.facts, Cert.Hgrn.Gen.facts, Cert.HgrnIdeal.Gen.facts, Cert.HgrnRefIdeal.Gen.facts, Cert.Pre_lb_range.facts, Cert.On_new_rows.facts,
    (fun m ρ _ => Cert.Proj.Gen.frame m ρ),
    (fun m ρ _ => Cert.ProjIdeal.Gen.frame m ρ),
    runs_ProjRefIdeal,
    (fun m ρ _ => Cert.Gate.Gen.frame m ρ),
    (fun m ρ _ => Cert.GateIdeal.Gen.frame m ρ),
    runs_GateRefIdeal,
    (fun m ρ _ => Cert.Merge.Gen.frame m ρ),
    (fun m ρ _ => Cert.MergeIdeal.Gen.frame m ρ),
    runs_MergeRefIdeal,
    (fun m ρ _ => Cert.FfnUp.Gen.frame m ρ),
    (fun m ρ _ => Cert.FfnUpIdeal.Gen.frame m ρ),
    runs_FfnUpRefIdeal,
    (fun m ρ _ => Cert.FfnDown.Gen.frame m ρ),
    (fun m ρ _ => Cert.FfnDownIdeal.Gen.frame m ρ),
    runs_FfnDownRefIdeal,
    (fun m ρ _ => Cert.SProj.Gen.frame m ρ),
    (fun m ρ _ => Cert.SProjIdeal.Gen.frame m ρ),
    runs_SProjRefIdeal,
    (fun m ρ _ => Cert.SRope.Gen.frame m ρ),
    (fun m ρ _ => Cert.SRopeIdeal.Gen.frame m ρ),
    runs_SRopeRefIdeal,
    (fun m ρ _ => Cert.SMix.Gen.frame m ρ),
    (fun m ρ _ => Cert.SMixIdeal.Gen.frame m ρ),
    runs_SMixRefIdeal,
    (fun m ρ _ => Cert.SUp.Gen.frame m ρ),
    (fun m ρ _ => Cert.SUpIdeal.Gen.frame m ρ),
    runs_SUpRefIdeal,
    (fun m ρ _ => Cert.SDown.Gen.frame m ρ),
    (fun m ρ _ => Cert.SDownIdeal.Gen.frame m ρ),
    runs_SDownRefIdeal,
    (fun m ρ _ => Cert.Prep.Gen.frame m ρ),
    (fun m ρ _ => Cert.PrepIdeal.Gen.frame m ρ),
    runs_PrepRefIdeal,
    (fun m ρ _ => Cert.PMix.Gen.frame m ρ),
    (fun m ρ _ => Cert.PMixIdeal.Gen.frame m ρ),
    runs_PMixRefIdeal,
    (fun m ρ _ => Cert.Hgrn.Gen.frame m ρ),
    (fun m ρ _ => Cert.HgrnIdeal.Gen.frame m ρ),
    (fun m ρ _ => Cert.HgrnIdeal.Gen.frame m ρ),
    runs_HgrnRefIdeal,
    (fun m g _ => runs_HgrnRefIdeal m g trivial),
    trivial,
    equal_Proj,
    trivial,
    equal_Gate,
    trivial,
    equal_Merge,
    trivial,
    equal_FfnUp,
    trivial,
    equal_FfnDown,
    trivial,
    equal_SProj,
    trivial,
    equal_SRope,
    trivial,
    equal_SMix,
    trivial,
    equal_SUp,
    trivial,
    equal_SDown,
    trivial,
    equal_Prep,
    trivial,
    equal_PMix,
    trivial,
    equal_Hgrn⟩

end Cert.Proof

end
